-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args_KernelIdeal [hPre_finite_args_KernelIdeal : Cert.Pre_finite_args_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_args_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args_ReferenceIdeal [hPre_finite_args_ReferenceIdeal : Cert.Pre_finite_args_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_args_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_args_KernelIdeal [hKernelIdeal : Cert.KernelIdeal.Facts] [hPre_finite_args_KernelIdeal : Cert.Pre_finite_args_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_args_ReferenceIdeal [hReferenceIdeal : Cert.ReferenceIdeal.Facts] [hPre_finite_args_ReferenceIdeal : Cert.Pre_finite_args_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_args_KernelIdeal [hKernelIdeal : Cert.KernelIdeal.Facts] [hReferenceIdeal : Cert.ReferenceIdeal.Facts] [hPre_finite_args_KernelIdeal : Cert.Pre_finite_args_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![1024, 8192]⟩ ⟨2, ![1024, 16384]⟩ (Layout.meshBlock [2, 2, 2] ![[], [2]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_args_KernelIdeal : Cert.Pre_finite_args_KernelIdeal.Facts) (hPre_finite_args_ReferenceIdeal : Cert.Pre_finite_args_ReferenceIdeal.Facts),
    quiescent_Kernel (hKernel := hKernel)
    ∧ quiescent_KernelIdeal (hKernelIdeal := hKernelIdeal)
    ∧ quiescent_KernelIdeal_pre_finite_args_KernelIdeal (hKernelIdeal := hKernelIdeal) (hPre_finite_args_KernelIdeal := hPre_finite_args_KernelIdeal)
    ∧ quiescent_ReferenceIdeal (hReferenceIdeal := hReferenceIdeal)
    ∧ quiescent_ReferenceIdeal_pre_finite_args_ReferenceIdeal (hReferenceIdeal := hReferenceIdeal) (hPre_finite_args_ReferenceIdeal := hPre_finite_args_ReferenceIdeal)
    ∧ preserves_Kernel_KernelIdeal
    ∧ algebraic_KernelIdeal_ReferenceIdeal_pre_finite_args_KernelIdeal (hKernelIdeal := hKernelIdeal) (hReferenceIdeal := hReferenceIdeal) (hPre_finite_args_KernelIdeal := hPre_finite_args_KernelIdeal)
-- ==== Pre_finite_args_KernelIdeal.lean ====
abbrev S512x1024 : Shape := ⟨2, ![512, 1024]⟩
abbrev S1024x8192 : Shape := ⟨2, ![1024, 8192]⟩
abbrev S_ : Shape := ⟨0, ![]⟩

class Facts : Prop where
  bcast_S_S512x1024 : S_.BroadcastsInDim S512x1024 (![] : Fin 0 → Fin S512x1024.rank)
  bcast_S_S1024x8192 : S_.BroadcastsInDim S1024x8192 (![] : Fin 0 → Fin S1024x8192.rank)

variable [Facts]

def fn {F : FTy → Type} [FloatOps F] (main_arg0 : FVec F S512x1024 .f32) (main_arg1 : FVec F S1024x8192 .f32) : IVec S512x1024 1 × IVec S1024x8192 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_v3 : FVec F S1024x8192 .f32 := Host.absf main_arg1
  let main_cst_0 : FVec F S_ .f32 := constant S_ .f32 0x7F800000#32
  let main_v4 : FVec F S1024x8192 .f32 := broadcastInDim S1024x8192 ![] bcast_S_S1024x8192 main_cst_0
  let main_v5 : IVec S1024x8192 1 := cmpf .olt main_v3 main_v4
  (main_v2, main_v5)
-- ==== Pre_finite_args_ReferenceIdeal.lean ====
abbrev S512x1024 : Shape := ⟨2, ![512, 1024]⟩
abbrev S1024x16384 : Shape := ⟨2, ![1024, 16384]⟩
abbrev S_ : Shape := ⟨0, ![]⟩

class Facts : Prop where
  bcast_S_S512x1024 : S_.BroadcastsInDim S512x1024 (![] : Fin 0 → Fin S512x1024.rank)
  bcast_S_S1024x16384 : S_.BroadcastsInDim S1024x16384 (![] : Fin 0 → Fin S1024x16384.rank)

variable [Facts]

def fn {F : FTy → Type} [FloatOps F] (main_arg0 : FVec F S512x1024 .f32) (main_arg1 : FVec F S1024x16384 .f32) : IVec S512x1024 1 × IVec S1024x16384 1 :=
  let main_v0 : FVec F S512x1024 .f32 := Host.absf main_arg0
  let main_cst : FVec F S_ .f32 := constant S_ .f32 0x7F800000#32
  let main_v1 : FVec F S512x1024 .f32 := broadcastInDim S512x1024 ![] bcast_S_S512x1024 main_cst
  let main_v2 : IVec S512x1024 1 := cmpf .olt main_v0 main_v1
  let main_v3 : FVec F S1024x16384 .f32 := Host.absf main_arg1
  let main_cst_0 : FVec F S_ .f32 := constant S_ .f32 0x7F800000#32
  let main_v4 : FVec F S1024x16384 .f32 := broadcastInDim S1024x16384 ![] bcast_S_S1024x16384 main_cst_0
  let main_v5 : IVec S1024x16384 1 := cmpf .olt main_v3 main_v4
  (main_v2, main_v5)
-- ==== Kernel.lean ====
abbrev S512x1024 : Shape := ⟨2, ![512, 1024]⟩
abbrev S1024x8192 : Shape := ⟨2, ![1024, 8192]⟩
abbrev S512x16384 : Shape := ⟨2, ![512, 16384]⟩
abbrev S2x1024x512 : Shape := ⟨3, ![2, 1024, 512]⟩
abbrev S512x8192 : Shape := ⟨2, ![512, 8192]⟩
abbrev S512x1 : Shape := ⟨2, ![512, 1]⟩
abbrev S2x512x1024 : Shape := ⟨3, ![2, 512, 1024]⟩
abbrev S2x64x8192 : Shape := ⟨3, ![2, 64, 8192]⟩
abbrev S2 : Shape := ⟨1, ![2]⟩
abbrev S8 : Shape := ⟨1, ![8]⟩
abbrev S_ : Shape := ⟨0, ![]⟩
abbrev S1 : Shape := ⟨1, ![1]⟩
abbrev S1x1024x512 : Shape := ⟨3, ![1, 1024, 512]⟩
abbrev S1024x512 : Shape := ⟨2, ![1024, 512]⟩
abbrev S512x512 : Shape := ⟨2, ![512, 512]⟩
abbrev S512 : Shape := ⟨1, ![512]⟩
abbrev S1x512x1024 : Shape := ⟨3, ![1, 512, 1024]⟩
abbrev S64x8192 : Shape := ⟨2, ![64, 8192]⟩
abbrev S64x1 : Shape := ⟨2, ![64, 1]⟩
abbrev S1x64x8192 : Shape := ⟨3, ![1, 64, 8192]⟩
abbrev S1x512x512 : Shape := ⟨3, ![1, 512, 512]⟩

abbrev nBuf : Space → Nat
  | .hbm => 3
  | .vmem => 8
  | .smem => 0
  | _ => 0

abbrev bufTy : (tb : Table) → Fin (tcTables nBuf tb) → BufTy
  | .hbm, ⟨0, _⟩ => ⟨S512x1024, .f32⟩
  | .hbm, ⟨1, _⟩ => ⟨S1024x8192, .f32⟩
  | .hbm, ⟨2, _⟩ => ⟨S512x16384, .f32⟩
  | .local _ .vmem, ⟨0, _⟩ => ⟨S512x1024, .f32⟩
  | .local _ .vmem, ⟨1, _⟩ => ⟨S2x1024x512, .f32⟩
  | .local _ .vmem, ⟨2, _⟩ => ⟨S512x8192, .bf16⟩
  | .local _ .vmem, ⟨3, _⟩ => ⟨S512x8192, .bf16⟩
  | .local _ .vmem, ⟨4, _⟩ => ⟨S512x1, .f32⟩
  | .local _ .vmem, ⟨5, _⟩ => ⟨S512x1, .f32⟩
  | .local _ .vmem, ⟨6, _⟩ => ⟨S2x512x1024, .f32⟩
  | .local _ .vmem, ⟨7, _⟩ => ⟨S2x64x8192, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 1 33 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_17 : BitVec 32 := 4#32
  let v28 : BitVec 32 := Scalar.muli v2 c4_i32_17
  let v29 : BitVec 32 := Scalar.addi c0_i32 v28
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v30 : BitVec 32 := Scalar.muli v5 c2_i32_18
  let v31 : BitVec 32 := Scalar.addi v29 v30
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_19 : BitVec 32 := 1#32
  let v32 : BitVec 32 := Scalar.muli v9 c1_i32_19
  let v33 : BitVec 32 := Scalar.addi v31 v32
  v33.toNat
def k0_dev2 (d0 : Dev nD) : Nat :=
  let c0_i32_22 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_21 : BitVec 32 := 4#32
  let v34 : BitVec 32 := Scalar.muli v10 c4_i32_21
  let v35 : BitVec 32 := Scalar.addi c0_i32_22 v34
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v36 : BitVec 32 := Scalar.muli v5 c2_i32_23
  let v37 : BitVec 32 := Scalar.addi v35 v36
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_24 : BitVec 32 := 1#32
  let v38 : BitVec 32 := Scalar.muli v8 c1_i32_24
  let v39 : BitVec 32 := Scalar.addi v37 v38
  v39.toNat
def k0_dev3 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_26 : BitVec 32 := 4#32
  let v40 : BitVec 32 := Scalar.muli v2 c4_i32_26
  let v41 : BitVec 32 := Scalar.addi c0_i32_27 v40
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_28 : BitVec 32 := 2#32
  let v42 : BitVec 32 := Scalar.muli v11 c2_i32_28
  let v43 : BitVec 32 := Scalar.addi v41 v42
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_29 : BitVec 32 := 1#32
  let v44 : BitVec 32 := Scalar.muli v8 c1_i32_29
  let v45 : BitVec 32 := Scalar.addi v43 v44
  v45.toNat
def k0_off1 (d0 : Dev nD) (c0_i32_31 : BitVec 32) : Fin 2 → Nat :=
  let c0_i32_66 : BitVec 32 := 0#32
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_8 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let c4_i32_30 : BitVec 32 := 4#32
  let v46 : BitVec 32 := Scalar.muli v16 c4_i32_30
  let v47 : BitVec 32 := Scalar.addi v46 c0_i32_31
  let c512_i32 : BitVec 32 := 512#32
  let v78 : BitVec 32 := Scalar.muli v47 c512_i32
  ![0, v78.toNat]
def k0_off2 (d0 : Dev nD) (c0_i32_31 : BitVec 32) : Fin 2 → Nat :=
  let c0_84 : Index := 0#32
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_8 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let c4_i32_30 : BitVec 32 := 4#32
  let v46 : BitVec 32 := Scalar.muli v16 c4_i32_30
  let v47 : BitVec 32 := Scalar.addi v46 c0_i32_31
  let c512_i32_83 : BitVec 32 := 512#32
  let v103 : BitVec 32 := Scalar.muli v47 c512_i32_83
  let v104 : Index := Scalar.indexCast v103
  ![0, v104.toNat]
def k0_off3 (d0 : Dev nD) (c0_i32_31 : BitVec 32) : Fin 2 → Nat :=
  let c0_i32_94 : BitVec 32 := 0#32
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_8 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let c4_i32_30 : BitVec 32 := 4#32
  let v46 : BitVec 32 := Scalar.muli v16 c4_i32_30
  let v47 : BitVec 32 := Scalar.addi v46 c0_i32_31
  let c512_i32_87 : BitVec 32 := 512#32
  let v112 : BitVec 32 := Scalar.muli v47 c512_i32_87
  ![0, v112.toNat]
def k0_dev4 (d0 : Dev nD) : Nat :=
  let c0_i32_91 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_90 : BitVec 32 := 4#32
  let v113 : BitVec 32 := Scalar.muli v2 c4_i32_90
  let v114 : BitVec 32 := Scalar.addi c0_i32_91 v113
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_92 : BitVec 32 := 2#32
  let v115 : BitVec 32 := Scalar.muli v5 c2_i32_92
  let v116 : BitVec 32 := Scalar.addi v114 v115
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_93 : BitVec 32 := 1#32
  let v117 : BitVec 32 := Scalar.muli v9 c1_i32_93
  let v118 : BitVec 32 := Scalar.addi v116 v117
  v118.toNat
def k0_dev5 (d0 : Dev nD) : Nat :=
  let c0_i32_120 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_119 : BitVec 32 := 4#32
  let v153 : BitVec 32 := Scalar.muli v2 c4_i32_119
  let v154 : BitVec 32 := Scalar.addi c0_i32_120 v153
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_121 : BitVec 32 := 2#32
  let v155 : BitVec 32 := Scalar.muli v5 c2_i32_121
  let v156 : BitVec 32 := Scalar.addi v154 v155
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_122 : BitVec 32 := 1#32
  let v157 : BitVec 32 := Scalar.muli v9 c1_i32_122
  let v158 : BitVec 32 := Scalar.addi v156 v157
  v158.toNat
def k0_dev6 (d0 : Dev nD) : Nat :=
  let c0_i32_150 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_149 : BitVec 32 := 4#32
  let v193 : BitVec 32 := Scalar.muli v2 c4_i32_149
  let v194 : BitVec 32 := Scalar.addi c0_i32_150 v193
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_151 : BitVec 32 := 2#32
  let v195 : BitVec 32 := Scalar.muli v5 c2_i32_151
  let v196 : BitVec 32 := Scalar.addi v194 v195
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_152 : BitVec 32 := 1#32
  let v197 : BitVec 32 := Scalar.muli v9 c1_i32_152
  let v198 : BitVec 32 := Scalar.addi v196 v197
  v198.toNat
def k0_off4 (d0 : Dev nD) (c0_i32_39 : BitVec 32) : Fin 2 → Nat :=
  let c0_i32_165 : BitVec 32 := 0#32
  let c2_i32_10 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_9 v2
  let v18 : BitVec 32 := Scalar.muli c2_i32_10 v17
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_11 v5
  let v20 : BitVec 32 := Scalar.addi v18 v19
  let c4_i32_38 : BitVec 32 := 4#32
  let v54 : BitVec 32 := Scalar.muli v20 c4_i32_38
  let v55 : BitVec 32 := Scalar.addi v54 c0_i32_39
  let c512_i32_160 : BitVec 32 := 512#32
  let v210 : BitVec 32 := Scalar.muli v55 c512_i32_160
  ![0, v210.toNat]
def k0_dev7 (d0 : Dev nD) : Nat :=
  let c0_i32_180 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_179 : BitVec 32 := 4#32
  let v233 : BitVec 32 := Scalar.muli v2 c4_i32_179
  let v234 : BitVec 32 := Scalar.addi c0_i32_180 v233
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_181 : BitVec 32 := 2#32
  let v235 : BitVec 32 := Scalar.muli v5 c2_i32_181
  let v236 : BitVec 32 := Scalar.addi v234 v235
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_182 : BitVec 32 := 1#32
  let v237 : BitVec 32 := Scalar.muli v9 c1_i32_182
  let v238 : BitVec 32 := Scalar.addi v236 v237
  v238.toNat
def k0_off5 (d0 : Dev nD) (c0_i32_39 : BitVec 32) : Fin 2 → Nat :=
  let c0_203 : Index := 0#32
  let c2_i32_10 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_9 v2
  let v18 : BitVec 32 := Scalar.muli c2_i32_10 v17
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_11 v5
  let v20 : BitVec 32 := Scalar.addi v18 v19
  let c4_i32_38 : BitVec 32 := 4#32
  let v54 : BitVec 32 := Scalar.muli v20 c4_i32_38
  let v55 : BitVec 32 := Scalar.addi v54 c0_i32_39
  let c512_i32_202 : BitVec 32 := 512#32
  let v263 : BitVec 32 := Scalar.muli v55 c512_i32_202
  let v264 : Index := Scalar.indexCast v263
  ![0, v264.toNat]
def k0_off6 (d0 : Dev nD) (c0_i32_47 : BitVec 32) : Fin 2 → Nat :=
  let c0_i32_255 : BitVec 32 := 0#32
  let c2_i32_13 : BitVec 32 := 2#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.subi c1_i32_12 v2
  let v22 : BitVec 32 := Scalar.muli c2_i32_13 v21
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.addi v22 v5
  let c4_i32_46 : BitVec 32 := 4#32
  let v62 : BitVec 32 := Scalar.muli v23 c4_i32_46
  let v63 : BitVec 32 := Scalar.addi v62 c0_i32_47
  let c512_i32_250 : BitVec 32 := 512#32
  let v328 : BitVec 32 := Scalar.muli v63 c512_i32_250
  ![0, v328.toNat]
def k0_off7 (d0 : Dev nD) (c0_i32_47 : BitVec 32) : Fin 2 → Nat :=
  let c0_283 : Index := 0#32
  let c2_i32_13 : BitVec 32 := 2#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.subi c1_i32_12 v2
  let v22 : BitVec 32 := Scalar.muli c2_i32_13 v21
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.addi v22 v5
  let c4_i32_46 : BitVec 32 := 4#32
  let v62 : BitVec 32 := Scalar.muli v23 c4_i32_46
  let v63 : BitVec 32 := Scalar.addi v62 c0_i32_47
  let c512_i32_282 : BitVec 32 := 512#32
  let v367 : BitVec 32 := Scalar.muli v63 c512_i32_282
  let v368 : Index := Scalar.indexCast v367
  ![0, v368.toNat]
def k0_off8 (d0 : Dev nD) (c0_i32_55 : BitVec 32) : Fin 2 → Nat :=
  let c0_i32_335 : BitVec 32 := 0#32
  let c2_i32_14 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v24 : BitVec 32 := Scalar.muli c2_i32_14 v2
  let c1_i32_15 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v25 : BitVec 32 := Scalar.subi c1_i32_15 v5
  let v26 : BitVec 32 := Scalar.addi v24 v25
  let c4_i32_54 : BitVec 32 := 4#32
  let v70 : BitVec 32 := Scalar.muli v26 c4_i32_54
  let v71 : BitVec 32 := Scalar.addi v70 c0_i32_55
  let c512_i32_330 : BitVec 32 := 512#32
  let v432 : BitVec 32 := Scalar.muli v71 c512_i32_330
  ![0, v432.toNat]
def k0_off9 (d0 : Dev nD) (c0_i32_55 : BitVec 32) : Fin 2 → Nat :=
  let c0_363 : Index := 0#32
  let c2_i32_14 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v24 : BitVec 32 := Scalar.muli c2_i32_14 v2
  let c1_i32_15 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v25 : BitVec 32 := Scalar.subi c1_i32_15 v5
  let v26 : BitVec 32 := Scalar.addi v24 v25
  let c4_i32_54 : BitVec 32 := 4#32
  let v70 : BitVec 32 := Scalar.muli v26 c4_i32_54
  let v71 : BitVec 32 := Scalar.addi v70 c0_i32_55
  let c512_i32_362 : BitVec 32 := 512#32
  let v471 : BitVec 32 := Scalar.muli v71 c512_i32_362
  let v472 : Index := Scalar.indexCast v471
  ![0, v472.toNat]
def k0_dev8 (d0 : Dev nD) : Nat :=
  let c0_i32_422 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_421 : BitVec 32 := 4#32
  let v554 : BitVec 32 := Scalar.muli v2 c4_i32_421
  let v555 : BitVec 32 := Scalar.addi c0_i32_422 v554
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_423 : BitVec 32 := 2#32
  let v556 : BitVec 32 := Scalar.muli v5 c2_i32_423
  let v557 : BitVec 32 := Scalar.addi v555 v556
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_424 : BitVec 32 := 1#32
  let v558 : BitVec 32 := Scalar.muli v9 c1_i32_424
  let v559 : BitVec 32 := Scalar.addi v557 v558
  v559.toNat
def k0_off10 (d0 : Dev nD) (c0_i32_39 : BitVec 32) : Fin 2 → Nat :=
  let c0_i32_433 : BitVec 32 := 0#32
  let c2_i32_10 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_9 v2
  let v18 : BitVec 32 := Scalar.muli c2_i32_10 v17
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_11 v5
  let v20 : BitVec 32 := Scalar.addi v18 v19
  let c4_i32_38 : BitVec 32 := 4#32
  let v54 : BitVec 32 := Scalar.muli v20 c4_i32_38
  let v55 : BitVec 32 := Scalar.addi v54 c0_i32_39
  let c512_i32_426 : BitVec 32 := 512#32
  let v561 : BitVec 32 := Scalar.muli v55 c512_i32_426
  ![0, v561.toNat]
def k0_dev9 (d0 : Dev nD) : Nat :=
  let c0_i32_430 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_429 : BitVec 32 := 4#32
  let v562 : BitVec 32 := Scalar.muli v2 c4_i32_429
  let v563 : BitVec 32 := Scalar.addi c0_i32_430 v562
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_431 : BitVec 32 := 2#32
  let v564 : BitVec 32 := Scalar.muli v5 c2_i32_431
  let v565 : BitVec 32 := Scalar.addi v563 v564
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_432 : BitVec 32 := 1#32
  let v566 : BitVec 32 := Scalar.muli v9 c1_i32_432
  let v567 : BitVec 32 := Scalar.addi v565 v566
  v567.toNat
def k0_dev10 (d0 : Dev nD) : Nat :=
  let c0_i32_439 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_438 : BitVec 32 := 4#32
  let v576 : BitVec 32 := Scalar.muli v2 c4_i32_438
  let v577 : BitVec 32 := Scalar.addi c0_i32_439 v576
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_440 : BitVec 32 := 2#32
  let v578 : BitVec 32 := Scalar.muli v5 c2_i32_440
  let v579 : BitVec 32 := Scalar.addi v577 v578
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_441 : BitVec 32 := 1#32
  let v580 : BitVec 32 := Scalar.muli v9 c1_i32_441
  let v581 : BitVec 32 := Scalar.addi v579 v580
  v581.toNat
def k0_dev11 (d0 : Dev nD) : Nat :=
  let c0_i32_448 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_447 : BitVec 32 := 4#32
  let v590 : BitVec 32 := Scalar.muli v2 c4_i32_447
  let v591 : BitVec 32 := Scalar.addi c0_i32_448 v590
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_449 : BitVec 32 := 2#32
  let v592 : BitVec 32 := Scalar.muli v5 c2_i32_449
  let v593 : BitVec 32 := Scalar.addi v591 v592
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_450 : BitVec 32 := 1#32
  let v594 : BitVec 32 := Scalar.muli v9 c1_i32_450
  let v595 : BitVec 32 := Scalar.addi v593 v594
  v595.toNat
def k0_dev12 (d0 : Dev nD) : Nat :=
  let c0_i32_457 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_456 : BitVec 32 := 4#32
  let v604 : BitVec 32 := Scalar.muli v2 c4_i32_456
  let v605 : BitVec 32 := Scalar.addi c0_i32_457 v604
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_458 : BitVec 32 := 2#32
  let v606 : BitVec 32 := Scalar.muli v5 c2_i32_458
  let v607 : BitVec 32 := Scalar.addi v605 v606
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_459 : BitVec 32 := 1#32
  let v608 : BitVec 32 := Scalar.muli v9 c1_i32_459
  let v609 : BitVec 32 := Scalar.addi v607 v608
  v609.toNat
def k0_off11 (d0 : Dev nD) (c0_i32_478 : BitVec 32) : Fin 2 → Nat :=
  let c0_i32_485 : BitVec 32 := 0#32
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_8 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let c2048_i32 : BitVec 32 := 2048#32
  let v636 : BitVec 32 := Scalar.muli v16 c2048_i32
  let v637 : BitVec 32 := Scalar.addi v636 c0_i32_478
  ![0, v637.toNat]
def k0_dev13 (d0 : Dev nD) : Nat :=
  let c0_i32_482 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_481 : BitVec 32 := 4#32
  let v638 : BitVec 32 := Scalar.muli v10 c4_i32_481
  let v639 : BitVec 32 := Scalar.addi c0_i32_482 v638
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_483 : BitVec 32 := 2#32
  let v640 : BitVec 32 := Scalar.muli v5 c2_i32_483
  let v641 : BitVec 32 := Scalar.addi v639 v640
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_484 : BitVec 32 := 1#32
  let v642 : BitVec 32 := Scalar.muli v8 c1_i32_484
  let v643 : BitVec 32 := Scalar.addi v641 v642
  v643.toNat
def k0_dev14 (d0 : Dev nD) : Nat :=
  let c0_i32_490 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_489 : BitVec 32 := 4#32
  let v650 : BitVec 32 := Scalar.muli v2 c4_i32_489
  let v651 : BitVec 32 := Scalar.addi c0_i32_490 v650
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_491 : BitVec 32 := 2#32
  let v652 : BitVec 32 := Scalar.muli v11 c2_i32_491
  let v653 : BitVec 32 := Scalar.addi v651 v652
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_492 : BitVec 32 := 1#32
  let v654 : BitVec 32 := Scalar.muli v8 c1_i32_492
  let v655 : BitVec 32 := Scalar.addi v653 v654
  v655.toNat
def k0_dev15 (d0 : Dev nD) : Nat :=
  let c0_i32_515 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v10 : BitVec 32 := Scalar.subi c1_i32_4 v2
  let c4_i32_514 : BitVec 32 := 4#32
  let v684 : BitVec 32 := Scalar.muli v10 c4_i32_514
  let v685 : BitVec 32 := Scalar.addi c0_i32_515 v684
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_516 : BitVec 32 := 2#32
  let v686 : BitVec 32 := Scalar.muli v5 c2_i32_516
  let v687 : BitVec 32 := Scalar.addi v685 v686
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_517 : BitVec 32 := 1#32
  let v688 : BitVec 32 := Scalar.muli v8 c1_i32_517
  let v689 : BitVec 32 := Scalar.addi v687 v688
  v689.toNat
def k0_dev16 (d0 : Dev nD) : Nat :=
  let c0_i32_523 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_522 : BitVec 32 := 4#32
  let v696 : BitVec 32 := Scalar.muli v2 c4_i32_522
  let v697 : BitVec 32 := Scalar.addi c0_i32_523 v696
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v11 : BitVec 32 := Scalar.subi c1_i32_5 v5
  let c2_i32_524 : BitVec 32 := 2#32
  let v698 : BitVec 32 := Scalar.muli v11 c2_i32_524
  let v699 : BitVec 32 := Scalar.addi v697 v698
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_525 : BitVec 32 := 1#32
  let v700 : BitVec 32 := Scalar.muli v8 c1_i32_525
  let v701 : BitVec 32 := Scalar.addi v699 v700
  v701.toNat
def k0_off12 (d0 : Dev nD) (c0_i32_536 : BitVec 32) : Fin 2 → Nat :=
  let c0_537 : Index := 0#32
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_8 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let c2048_i32_535 : BitVec 32 := 2048#32
  let v718 : BitVec 32 := Scalar.muli v16 c2048_i32_535
  let v719 : BitVec 32 := Scalar.addi v718 c0_i32_536
  let v720 : Index := Scalar.indexCast v719
  ![0, v720.toNat]
def k0_off13 (d0 : Dev nD) (c0_i32_536 : BitVec 32) : Fin 2 → Nat :=
  let c0_i32_543 : BitVec 32 := 0#32
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_6 v8
  let c8192_i32_7 : BitVec 32 := 8192#32
  let v14 : BitVec 32 := Scalar.muli v13 c8192_i32_7
  let c2_i32_8 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v15 : BitVec 32 := Scalar.muli c2_i32_8 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v16 : BitVec 32 := Scalar.addi v15 v5
  let c2048_i32_535 : BitVec 32 := 2048#32
  let v718 : BitVec 32 := Scalar.muli v16 c2048_i32_535
  let v719 : BitVec 32 := Scalar.addi v718 c0_i32_536
  let v728 : BitVec 32 := Scalar.addi v14 v719
  ![0, v728.toNat]
def k0_off14 (d0 : Dev nD) (c0_i32_560 : BitVec 32) : Fin 2 → Nat :=
  let c0_i32_567 : BitVec 32 := 0#32
  let c2_i32_13 : BitVec 32 := 2#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.subi c1_i32_12 v2
  let v22 : BitVec 32 := Scalar.muli c2_i32_13 v21
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.addi v22 v5
  let c2048_i32_559 : BitVec 32 := 2048#32
  let v752 : BitVec 32 := Scalar.muli v23 c2048_i32_559
  let v753 : BitVec 32 := Scalar.addi v752 c0_i32_560
  ![0, v753.toNat]
def k0_off15 (d0 : Dev nD) (c0_i32_558 : BitVec 32) : Fin 2 → Nat :=
  let c0_574 : Index := 0#32
  let c2_i32_13 : BitVec 32 := 2#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.subi c1_i32_12 v2
  let v22 : BitVec 32 := Scalar.muli c2_i32_13 v21
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.addi v22 v5
  let c2048_i32_557 : BitVec 32 := 2048#32
  let v750 : BitVec 32 := Scalar.muli v23 c2048_i32_557
  let v751 : BitVec 32 := Scalar.addi v750 c0_i32_558
  let v769 : Index := Scalar.indexCast v751
  ![0, v769.toNat]
def k0_off16 (d0 : Dev nD) (c0_i32_558 : BitVec 32) : Fin 2 → Nat :=
  let c0_i32_580 : BitVec 32 := 0#32
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_6 v8
  let c8192_i32_7 : BitVec 32 := 8192#32
  let v14 : BitVec 32 := Scalar.muli v13 c8192_i32_7
  let c2_i32_13 : BitVec 32 := 2#32
  let c1_i32_12 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.subi c1_i32_12 v2
  let v22 : BitVec 32 := Scalar.muli c2_i32_13 v21
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v23 : BitVec 32 := Scalar.addi v22 v5
  let c2048_i32_557 : BitVec 32 := 2048#32
  let v750 : BitVec 32 := Scalar.muli v23 c2048_i32_557
  let v751 : BitVec 32 := Scalar.addi v750 c0_i32_558
  let v777 : BitVec 32 := Scalar.addi v14 v751
  ![0, v777.toNat]
def k0_off17 (d0 : Dev nD) (c0_i32_612 : BitVec 32) : Fin 2 → Nat :=
  let c0_i32_619 : BitVec 32 := 0#32
  let c2_i32_14 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v24 : BitVec 32 := Scalar.muli c2_i32_14 v2
  let c1_i32_15 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v25 : BitVec 32 := Scalar.subi c1_i32_15 v5
  let v26 : BitVec 32 := Scalar.addi v24 v25
  let c2048_i32_611 : BitVec 32 := 2048#32
  let v818 : BitVec 32 := Scalar.muli v26 c2048_i32_611
  let v819 : BitVec 32 := Scalar.addi v818 c0_i32_612
  ![0, v819.toNat]
def k0_off18 (d0 : Dev nD) (c0_i32_610 : BitVec 32) : Fin 2 → Nat :=
  let c0_626 : Index := 0#32
  let c2_i32_14 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v24 : BitVec 32 := Scalar.muli c2_i32_14 v2
  let c1_i32_15 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v25 : BitVec 32 := Scalar.subi c1_i32_15 v5
  let v26 : BitVec 32 := Scalar.addi v24 v25
  let c2048_i32_609 : BitVec 32 := 2048#32
  let v816 : BitVec 32 := Scalar.muli v26 c2048_i32_609
  let v817 : BitVec 32 := Scalar.addi v816 c0_i32_610
  let v835 : Index := Scalar.indexCast v817
  ![0, v835.toNat]
def k0_off19 (d0 : Dev nD) (c0_i32_610 : BitVec 32) : Fin 2 → Nat :=
  let c0_i32_632 : BitVec 32 := 0#32
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_6 v8
  let c8192_i32_7 : BitVec 32 := 8192#32
  let v14 : BitVec 32 := Scalar.muli v13 c8192_i32_7
  let c2_i32_14 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v24 : BitVec 32 := Scalar.muli c2_i32_14 v2
  let c1_i32_15 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v25 : BitVec 32 := Scalar.subi c1_i32_15 v5
  let v26 : BitVec 32 := Scalar.addi v24 v25
  let c2048_i32_609 : BitVec 32 := 2048#32
  let v816 : BitVec 32 := Scalar.muli v26 c2048_i32_609
  let v817 : BitVec 32 := Scalar.addi v816 c0_i32_610
  let v843 : BitVec 32 := Scalar.addi v14 v817
  ![0, v843.toNat]
def k0_off20 (d0 : Dev nD) : Fin 2 → Nat :=
  let c0_i32_668 : BitVec 32 := 0#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c8192_i32 : BitVec 32 := 8192#32
  let v12 : BitVec 32 := Scalar.muli v8 c8192_i32
  ![0, v12.toNat]
def k0_off21 (d0 : Dev nD) : Fin 2 → Nat :=
  let c64_i32 : BitVec 32 := 64#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c8192_i32 : BitVec 32 := 8192#32
  let v12 : BitVec 32 := Scalar.muli v8 c8192_i32
  ![64, v12.toNat]
def k0_off22 (d0 : Dev nD) : Fin 2 → Nat :=
  let c128_i32 : BitVec 32 := 128#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c8192_i32 : BitVec 32 := 8192#32
  let v12 : BitVec 32 := Scalar.muli v8 c8192_i32
  ![128, v12.toNat]
def k0_off23 (d0 : Dev nD) : Fin 2 → Nat :=
  let c192_i32 : BitVec 32 := 192#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c8192_i32 : BitVec 32 := 8192#32
  let v12 : BitVec 32 := Scalar.muli v8 c8192_i32
  ![192, v12.toNat]
def k0_off24 (d0 : Dev nD) : Fin 2 → Nat :=
  let c256_i32 : BitVec 32 := 256#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c8192_i32 : BitVec 32 := 8192#32
  let v12 : BitVec 32 := Scalar.muli v8 c8192_i32
  ![256, v12.toNat]
def k0_off25 (d0 : Dev nD) : Fin 2 → Nat :=
  let c320_i32 : BitVec 32 := 320#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c8192_i32 : BitVec 32 := 8192#32
  let v12 : BitVec 32 := Scalar.muli v8 c8192_i32
  ![320, v12.toNat]
def k0_off26 (d0 : Dev nD) : Fin 2 → Nat :=
  let c384_i32 : BitVec 32 := 384#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c8192_i32 : BitVec 32 := 8192#32
  let v12 : BitVec 32 := Scalar.muli v8 c8192_i32
  ![384, v12.toNat]
def k0_off27 (d0 : Dev nD) : Fin 2 → Nat :=
  let c448_i32 : BitVec 32 := 448#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c8192_i32 : BitVec 32 := 8192#32
  let v12 : BitVec 32 := Scalar.muli v8 c8192_i32
  ![448, v12.toNat]
def k0_off28 (d0 : Dev nD) (c0_i32_758 : BitVec 32) : Fin 2 → Nat :=
  let c0_772 : Index := 0#32
  let c2_i32_10 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_9 v2
  let v18 : BitVec 32 := Scalar.muli c2_i32_10 v17
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_11 v5
  let v20 : BitVec 32 := Scalar.addi v18 v19
  let c2048_i32_757 : BitVec 32 := 2048#32
  let v1016 : BitVec 32 := Scalar.muli v20 c2048_i32_757
  let v1017 : BitVec 32 := Scalar.addi v1016 c0_i32_758
  let v1033 : Index := Scalar.indexCast v1017
  ![0, v1033.toNat]
def k0_off29 (d0 : Dev nD) (c0_i32_758 : BitVec 32) : Fin 2 → Nat :=
  let c0_i32_778 : BitVec 32 := 0#32
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_6 v8
  let c8192_i32_7 : BitVec 32 := 8192#32
  let v14 : BitVec 32 := Scalar.muli v13 c8192_i32_7
  let c2_i32_10 : BitVec 32 := 2#32
  let c1_i32_9 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.subi c1_i32_9 v2
  let v18 : BitVec 32 := Scalar.muli c2_i32_10 v17
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_11 v5
  let v20 : BitVec 32 := Scalar.addi v18 v19
  let c2048_i32_757 : BitVec 32 := 2048#32
  let v1016 : BitVec 32 := Scalar.muli v20 c2048_i32_757
  let v1017 : BitVec 32 := Scalar.addi v1016 c0_i32_758
  let v1041 : BitVec 32 := Scalar.addi v14 v1017
  ![0, v1041.toNat]
abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S512x1024 : Shape := ⟨2, ![512, 1024]⟩
abbrev S1024x16384 : Shape := ⟨2, ![1024, 16384]⟩
abbrev S512x16384 : Shape := ⟨2, ![512, 16384]⟩
abbrev S_ : Shape := ⟨0, ![]⟩
abbrev S512 : Shape := ⟨1, ![512]⟩
abbrev S512x1 : Shape := ⟨2, ![512, 1]⟩

abbrev nBuf : Space → Nat
  | .hbm => 14
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x16384, .f32⟩
  | .hbm, ⟨2, _⟩ => ⟨S512x16384, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S512x16384, .f32⟩
  | .hbm, ⟨7, _⟩ => ⟨S512x16384, .f32⟩
  | .hbm, ⟨8, _⟩ => ⟨S512x16384, .f32⟩
  | .hbm, ⟨9, _⟩ => ⟨S_, .f32⟩
  | .hbm, ⟨10, _⟩ => ⟨S512, .f32⟩
  | .hbm, ⟨11, _⟩ => ⟨S512x1, .f32⟩
  | .hbm, ⟨12, _⟩ => ⟨S512x16384, .f32⟩
  | .hbm, ⟨13, _⟩ => ⟨S512x16384, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.Common.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pointwise.Index
public import Idealize.ShloMosaic.Lib.ViewIndex
public import Idealize.ShloMosaic.Lib.Tactic

/-! # The eight devices, the pieces of the buffers, and what they hold

Devices are the corners of a cube, `4 x + 2 y + z`. A device computes the 8192 columns of its `z`-half of
`exp (x W)`; the two halves of one row sit on `z`-neighbours. The columns of a half are cut in four quarters of 2048:
the device's own quarter, its `x`-neighbour's, its `y`-neighbour's and the opposite one. Quarters are cut in pieces of
512 columns (computed, and sent over `z`) and of 1024 columns (forwarded over `x` and `y`). -/

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Neighbours -/

set_option backward.proofsInPublic true in
/-- The neighbour along `z`. -/
def zn (c : Dev nD) : Dev nD := ⟨k0_dev1 c, k0_dev1_lt c⟩
set_option backward.proofsInPublic true in
/-- The neighbour along `x`. -/
def xn (c : Dev nD) : Dev nD := ⟨k0_dev2 c, k0_dev2_lt c⟩
set_option backward.proofsInPublic true in
/-- The neighbour along `y`. -/
def yn (c : Dev nD) : Dev nD := ⟨k0_dev3 c, k0_dev3_lt c⟩

theorem zn_val (c : Dev nD) : (zn c).val = (4 * (c.val / 4) + 2 * ((c.val / 2) % 2) + 1) - (c.val % 2) := k0_dev1_eq c
theorem xn_val (c : Dev nD) : (xn c).val = (2 * ((c.val / 2) % 2) + (c.val % 2) + 4) - 4 * (c.val / 4) := k0_dev2_eq c
theorem yn_val (c : Dev nD) : (yn c).val = (4 * (c.val / 4) + (c.val % 2) + 2) - 2 * ((c.val / 2) % 2) := k0_dev3_eq c

theorem lt8 (c : Dev nD) : c.val < 8 := c.isLt

theorem zn_zn (c : Dev nD) : zn (zn c) = c := Fin.ext (by have := lt8 c; rw [zn_val, zn_val]; omega)
theorem xn_xn (c : Dev nD) : xn (xn c) = c := Fin.ext (by have := lt8 c; rw [xn_val, xn_val]; omega)
theorem yn_yn (c : Dev nD) : yn (yn c) = c := Fin.ext (by have := lt8 c; rw [yn_val, yn_val]; omega)

def zE : Dev nD ≃ Dev nD := ⟨zn, zn, zn_zn, zn_zn⟩
def xE : Dev nD ≃ Dev nD := ⟨xn, xn, xn_xn, xn_xn⟩
def yE : Dev nD ≃ Dev nD := ⟨yn, yn, yn_yn, yn_yn⟩

/-! ## Columns -/

/-- First column of the device's own quarter of a half. -/
def cM (c : Dev nD) : ℕ := 4096 * (c.val / 4) + 2048 * ((c.val / 2) % 2)
/-- First column of the opposite quarter. -/
def cD (c : Dev nD) : ℕ := 6144 - (4096 * (c.val / 4) + 2048 * ((c.val / 2) % 2))
/-- First column of the `x`-neighbour's quarter. -/
def cX (c : Dev nD) : ℕ := (2048 * ((c.val / 2) % 2) + 4096) - 4096 * (c.val / 4)
/-- First column of the `y`-neighbour's quarter. -/
def cY (c : Dev nD) : ℕ := (4096 * (c.val / 4) + 2048) - 2048 * ((c.val / 2) % 2)

theorem cM_xn (c : Dev nD) : cM (xn c) = cX c := by have := lt8 c; unfold cM cX; rw [xn_val]; omega
theorem cM_yn (c : Dev nD) : cM (yn c) = cY c := by have := lt8 c; unfold cM cY; rw [yn_val]; omega
theorem cX_xn (c : Dev nD) : cX (xn c) = cM c := by rw [← cM_xn, xn_xn]
theorem cY_yn (c : Dev nD) : cY (yn c) = cM c := by rw [← cM_yn, yn_yn]
theorem cM_zn (c : Dev nD) : cM (zn c) = cM c := by have := lt8 c; unfold cM; rw [zn_val]; omega
theorem cD_zn (c : Dev nD) : cD (zn c) = cD c := by have := lt8 c; unfold cD; rw [zn_val]; omega
theorem cX_zn (c : Dev nD) : cX (zn c) = cX c := by have := lt8 c; unfold cX; rw [zn_val]; omega
theorem cY_zn (c : Dev nD) : cY (zn c) = cY c := by have := lt8 c; unfold cY; rw [zn_val]; omega

/-- The pieces of 512 columns in the order the device computes them: own quarter, opposite, `x`'s, `y`'s. -/
def ccol (c : Dev nD) (i : Fin 16) : ℕ :=
  (if i.val < 4 then cM c else if i.val < 8 then cD c else if i.val < 12 then cX c else cY c) + 512 * (i.val % 4)

theorem ccol_le (c : Dev nD) (i : Fin 16) : ccol c i + 512 ≤ 8192 := by
  have := lt8 c; have := i.isLt; unfold ccol cM cD cX cY; split_ifs <;> omega
theorem ccol_dvd (c : Dev nD) (i : Fin 16) : ccol c i = 512 * (ccol c i / 512) := by
  have := lt8 c; have := i.isLt; unfold ccol cM cD cX cY; split_ifs <;> omega

/-! ## Boxes -/

/-- The indices of rows `[r0, r0 + nr)` and columns `[c0, c0 + nc)`. -/
def box {R C : ℕ} (r0 nr c0 nc : ℕ) : Finset (Shape.Idx ⟨2, ![R, C]⟩) :=
  Finset.univ.filter fun i => (r0 ≤ (i 0).val ∧ (i 0).val < r0 + nr) ∧ c0 ≤ (i 1).val ∧ (i 1).val < c0 + nc

theorem mem_box {R C r0 nr c0 nc : ℕ} {i : Shape.Idx ⟨2, ![R, C]⟩} :
    i ∈ (box r0 nr c0 nc : Finset (Shape.Idx ⟨2, ![R, C]⟩))
      ↔ (r0 ≤ (i 0).val ∧ (i 0).val < r0 + nr) ∧ c0 ≤ (i 1).val ∧ (i 1).val < c0 + nc := by
  simp [box]

theorem box_disj {R C r0 nr c0 nc r0' nr' c0' nc' : ℕ}
    (h : r0 + nr ≤ r0' ∨ r0' + nr' ≤ r0 ∨ c0 + nc ≤ c0' ∨ c0' + nc' ≤ c0) :
    Disjoint (box r0 nr c0 nc : Finset (Shape.Idx ⟨2, ![R, C]⟩)) (box r0' nr' c0' nc') :=
  Finset.disjoint_left.mpr fun i h1 h2 => by rw [mem_box] at h1 h2; omega

theorem unit_set2 {R C r0 nr c0 nc : ℕ} {off : Fin 2 → ℕ} (h : off = ![r0, c0])
    (inb : ∀ a, off a + (⟨2, ![nr, nc]⟩ : Shape).size a ≤ (⟨2, ![R, C]⟩ : Shape).size a) :
    (Rect.unit (s := ⟨2, ![R, C]⟩) off (⟨2, ![nr, nc]⟩ : Shape).size inb).set = box r0 nr c0 nc := by
  subst h
  ext i; rw [Rect.mem_set_unit, mem_box]
  constructor
  · intro h; exact ⟨h 0, h 1⟩
  · rintro ⟨h0, h1⟩ a
    match a with
    | ⟨0, _⟩ => exact h0
    | ⟨1, _⟩ => exact h1

/-- The indices of slot `s` whose last coordinate is in `[c0, c0 + nc)`. -/
def slab {A B C : ℕ} (s c0 nc : ℕ) : Finset (Shape.Idx ⟨3, ![A, B, C]⟩) :=
  Finset.univ.filter fun i => (i 0).val = s ∧ c0 ≤ (i 2).val ∧ (i 2).val < c0 + nc

theorem mem_slab {A B C s c0 nc : ℕ} {i : Shape.Idx ⟨3, ![A, B, C]⟩} :
    i ∈ (slab s c0 nc : Finset (Shape.Idx ⟨3, ![A, B, C]⟩)) ↔ (i 0).val = s ∧ c0 ≤ (i 2).val ∧ (i 2).val < c0 + nc := by
  simp [slab]

theorem slab_disj {A B C s c0 nc s' c0' nc' : ℕ} (h : s ≠ s' ∨ c0 + nc ≤ c0' ∨ c0' + nc' ≤ c0) :
    Disjoint (slab s c0 nc : Finset (Shape.Idx ⟨3, ![A, B, C]⟩)) (slab s' c0' nc') :=
  Finset.disjoint_left.mpr fun i h1 h2 => by rw [mem_slab] at h1 h2; omega

theorem unit_set3 {A B C s nc : ℕ}
    (inb : ∀ a, (![s, 0, 0] : Fin 3 → ℕ) a + (⟨3, ![1, B, nc]⟩ : Shape).size a ≤ (⟨3, ![A, B, C]⟩ : Shape).size a) :
    (Rect.unit (s := ⟨3, ![A, B, C]⟩) ![s, 0, 0] (⟨3, ![1, B, nc]⟩ : Shape).size inb).set = slab s 0 nc := by
  ext i; rw [Rect.mem_set_unit, mem_slab]
  constructor
  · intro h
    have h0 : s ≤ (i 0).val ∧ (i 0).val < s + 1 := h 0
    have h2 : 0 ≤ (i 2).val ∧ (i 2).val < 0 + nc := h 2
    omega
  · rintro ⟨h0, h1⟩ a
    match a with
    | ⟨0, _⟩ => show s ≤ (i 0).val ∧ (i 0).val < s + 1; omega
    | ⟨1, _⟩ => show 0 ≤ (i 1).val ∧ (i 1).val < 0 + B; have : (i 1).val < B := (i 1).isLt; omega
    | ⟨2, _⟩ => exact h1

/-! ## The kernel's memrefs -/

abbrev xM : Memref sig .tc .vmem S512x1024 .f32 := Memref.whole cc0_stg0_0
abbrev WM : Memref sig .tc .hbm S1024x8192 .f32 := Memref.whole main_arg1
abbrev outM : Memref sig .tc .hbm S512x16384 .f32 := Memref.whole main_v1
abbrev wbM : Memref sig .tc .vmem S2x1024x512 .f32 := Memref.whole cc0_scratch0
abbrev eM : Memref sig .tc .vmem S512x8192 .bf16 := Memref.whole cc0_scratch1
abbrev inM : Memref sig .tc .vmem S512x8192 .bf16 := Memref.whole cc0_scratch2
abbrev sbM : Memref sig .tc .vmem S512x1 .f32 := Memref.whole cc0_scratch3
abbrev siM : Memref sig .tc .vmem S512x1 .f32 := Memref.whole cc0_scratch4
abbrev rpM : Memref sig .tc .vmem S2x512x1024 .f32 := Memref.whole cc0_scratch5
abbrev rbM : Memref sig .tc .vmem S2x64x8192 .f32 := Memref.whole cc0_scratch6

/-! ## Contents -/

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- Device `c`'s `x`, staged. -/
def xv (c : Dev nD) : Vec F S512x1024 .f32 :=
  (win0_0.blk (0 : Fin 1)).view.read (Elt F) ((s₀ m ρ).mem ((c : Thread nD τ).loc main_arg0))
/-- Device `c`'s half of `W`. -/
def Wv (c : Dev nD) : Vec F S1024x8192 .f32 := m ((c : Thread nD τ).loc main_arg1)

/-- Block `b` of 512 columns of `W`, as the staging slot holds it. -/
def Wch (c : Dev nD) (b : Fin 16) : Vec F S1x1024x512 .f32 :=
  fun j => Wv m c (ix2 (j 1) ⟨512 * b.val + (j 2).val, by have h : (j 2).val < 512 := (j 2).isLt; have := b.isLt; show _ < 8192; omega⟩)

/-- The block of 512 columns that column lies in. -/
def blkOf (n : ℕ) (h : n < 8192) : Fin 16 := ⟨n / 512, by omega⟩

/-- The block the device computes at step `i`. -/
def cblk (c : Dev nD) (i : Fin 16) : Fin 16 := ⟨ccol c i / 512, by have := ccol_le c i; omega⟩

/-- `exp (x W)` of the device's half, rounded to the format it is sent in. -/
def Ev (c : Dev nD) : Vec F S512x8192 .bf16 :=
  fun i => k0_pay3 (xv m ρ c) (Wch m c (blkOf (i 1).val (i 1).isLt)) (ix2 (i 0) ⟨(i 1).val % 512, Nat.mod_lt _ (by decide)⟩)

/-- The row sums after the first `n` blocks, in the order the device adds them. -/
def srun (c : Dev nD) : ℕ → FVec F S512x1 .f32
  | 0 => k0_pay1
  | n + 1 => k0_pay4 (srun c n) (xv m ρ c) (Wch m c (cblk c (Fin.ofNat 16 n)))
/-- The row sums of the device's half. -/
def Sv (c : Dev nD) : FVec F S512x1 .f32 := srun m ρ c 16
/-- One over the row sums of both halves. -/
def INVv (c : Dev nD) : FVec F S512x1 .f32 := k0_pay55 (Sv m ρ c) (Sv m ρ (zn c))

/-- The device whose half the device's landing buffer holds at a column: columns forwarded by a neighbour come from that
    neighbour's `z`-neighbour. -/
def srcOf (c : Dev nD) (n : ℕ) : Dev nD :=
  if cX c ≤ n ∧ n < cX c + 2048 then zn (xn c) else if cY c ≤ n ∧ n < cY c + 2048 then zn (yn c) else zn c
/-- What the device has received once every landing is in. -/
def INv (c : Dev nD) : Vec F S512x8192 .bf16 := fun i => Ev m ρ (srcOf c (i 1).val) i

/-- An entry times the row's factor. -/
def sc (v : F .bf16) (s : F .f32) : F .f32 := FloatOps.mulf (FloatOps.extf .f32 bitsLt_bf16_f32 v) s

/-- The result on device `c`. -/
def OUTv (c : Dev nD) : Vec F S512x16384 .f32 := fun i =>
  sc (if (i 1).val / 8192 = c.val % 2
      then Ev m ρ c (ix2 (i 0) ⟨(i 1).val % 8192, Nat.mod_lt _ (by decide)⟩)
      else INv m ρ c (ix2 (i 0) ⟨(i 1).val % 8192, Nat.mod_lt _ (by decide)⟩))
    (INVv m ρ c (ix2 (i 0) 0))

end Cert.Gather

end
-- ==== Proof.Sched.lean ====
module

public import proofs.«01_k».proof.Proof.Common
public import Idealize.ShloMosaic.Lib.Transfers
public import Mathlib.Tactic.DeriveFintype
public import Mathlib.Tactic.IntervalCases

/-! # The exchange: cells, payloads, what is owed

Twenty-seven cells per device take part in the exchange, one round each. The barrier cell receives one unit from each of
the three neighbours, and with it the parts of that neighbour's landing buffers this device will fill. A transfer's
receive cell hands over the landed piece with its contents, its send cell gives the source back. -/

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB := URounds (GSem nD τ sig) (Fin 3)
abbrev UU := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb (U := UU)
abbrev 𝒱₀ : Variants := Variants.none

/-! ## The cells -/

/-- The cells of the exchange: the barrier; send and receive of the eight pieces over `z`, of the two pieces over `x`, of
    the two over `y`, and of the row sums. -/
inductive CK where
  | bar | ss | sr
  | zs (j : Fin 8) | zr (j : Fin 8)
  | xs (f : Fin 2) | xr (f : Fin 2)
  | ys (f : Fin 2) | yr (f : Fin 2)
  deriving DecidableEq, Fintype

/-- The barrier semaphore. -/
abbrev barS : Sem sig := (SemArray.scalar (sig.barrier 0 rfl) : Sems sig S_).sem

/-- The DMA semaphore of a transfer cell (`bar` has none; the entry there is never read). -/
def dsem : CK → DmaSem sig
  | .bar => (0 : Fin 33)
  | .ss => (31 : Fin 33)
  | .sr => (32 : Fin 33)
  | .zs j => (⟨7 + j.val, by have := j.isLt; omega⟩ : Fin 33)
  | .zr j => (⟨15 + j.val, by have := j.isLt; omega⟩ : Fin 33)
  | .xs f => (⟨23 + f.val, by have := f.isLt; omega⟩ : Fin 33)
  | .xr f => (⟨25 + f.val, by have := f.isLt; omega⟩ : Fin 33)
  | .ys f => (⟨27 + f.val, by have := f.isLt; omega⟩ : Fin 33)
  | .yr f => (⟨29 + f.val, by have := f.isLt; omega⟩ : Fin 33)

def csem : CK → SemLoc sig
  | .bar => .reg barS
  | k => .dma (dsem k)

theorem csem_ne (k : CK) (h : k ≠ .bar) : csem k = .dma (dsem k) := by cases k <;> first | rfl | exact absurd rfl h

theorem csem_inj : Function.Injective csem := by decide +kernel

abbrev cell (c : Dev nD) (k : CK) : GSem nD τ sig := ((c : Thread nD τ), csem k)

/-- The cell kind of a semaphore. -/
def dk (s : SemLoc sig) : Option CK := by
  classical exact if h : ∃ k, csem k = s then some h.choose else none
theorem dk_csem (k : CK) : dk (csem k) = some k := by
  unfold dk
  have h : ∃ k', csem k' = csem k := ⟨k, rfl⟩
  rw [dif_pos h]; exact congrArg some (csem_inj h.choose_spec)

/-- How much a landing of a piece raises its cell by. -/
abbrev nZ : ℕ := (eM.slice (Rect.unit (s := S512x8192) ![0, 0] S512x512.size (by decide)) (fun _ => rfl)).view.dmaCredit
abbrev nX : ℕ := (eM.slice (Rect.unit (s := S512x8192) ![0, 0] S512x1024.size (by decide)) (fun _ => rfl)).view.dmaCredit
abbrev nS : ℕ := sbM.view.dmaCredit

def amt : CK → ℕ
  | .bar => 1
  | .ss | .sr => nS
  | .zs _ | .zr _ => nZ
  | .xs _ | .xr _ | .ys _ | .yr _ => nX

theorem amt_pos (k : CK) : 0 < amt k := by
  cases k
  · exact Nat.one_pos
  · exact View.dmaCredit_pos sbM.view (by decide)
  · exact View.dmaCredit_pos sbM.view (by decide)
  all_goals exact View.dmaCredit_pos _ (by decide)

/-! ## Points-tos of the buffers' pieces -/

abbrev eP (c : Dev nD) (B : Finset S512x8192.Idx) (q : PosShare TreeShare) (f : Vec F S512x8192 .bf16) : sProp 𝕄 :=
  ((c : Thread nD τ).loc cc0_scratch1) ↦[B]{q} f
abbrev inP (c : Dev nD) (B : Finset S512x8192.Idx) (q : PosShare TreeShare) (f : Vec F S512x8192 .bf16) : sProp 𝕄 :=
  ((c : Thread nD τ).loc cc0_scratch2) ↦[B]{q} f
abbrev sbP (c : Dev nD) (f : Vec F S512x1 .f32) : sProp 𝕄 := ((c : Thread nD τ).loc cc0_scratch3) ↦{fullShare} f
abbrev siP (c : Dev nD) (f : Vec F S512x1 .f32) : sProp 𝕄 := ((c : Thread nD τ).loc cc0_scratch4) ↦{fullShare} f

/-- Columns `[n, n + w)`, all rows. -/
abbrev cols (n w : ℕ) : Finset S512x8192.Idx := box 0 512 n w

/-- Piece `j` over `z`. -/
abbrev zB (c : Dev nD) (j : Fin 8) : Finset S512x8192.Idx := cols (ccol c (Fin.castLE (by decide) j)) 512
/-- Piece `f` of the device's own quarter, of its `x`-neighbour's and of its `y`-neighbour's. -/
abbrev mB (c : Dev nD) (f : Fin 2) : Finset S512x8192.Idx := cols (cM c + 1024 * f.val) 1024
abbrev xB (c : Dev nD) (f : Fin 2) : Finset S512x8192.Idx := cols (cX c + 1024 * f.val) 1024
abbrev yB (c : Dev nD) (f : Fin 2) : Finset S512x8192.Idx := cols (cY c + 1024 * f.val) 1024

variable (m : (ℓ : Loc nD τ sig) → Buf (Elt F) ℓ) (ρ : Dev nD → PrngReg)

/-! ## The schedule -/

/-- What a landing on the cell hands over. -/
def pay (c : Dev nD) : CK → Fin 3 → sProp 𝕄
  | .bar, d => match d with
    | 0 => iprop((bigSep Finset.univ fun j => iprop(∃ f, inP (zn c) (zB c j) fullShare f)) ∗ ∃ f, siP (zn c) f)
    | 1 => bigSep Finset.univ fun j => iprop(∃ f, inP (xn c) (mB c j) fullShare f)
    | 2 => bigSep Finset.univ fun j => iprop(∃ f, inP (yn c) (mB c j) fullShare f)
  | .ss, _ => sbP c (Sv m ρ c)
  | .sr, _ => siP c (Sv m ρ (zn c))
  | .zs j, _ => eP c (zB c j) fullShare.left (Ev m ρ c)
  | .zr j, _ => inP c (zB c j) fullShare (INv m ρ c)
  | .xs f, _ => inP c (mB c f) fullShare.left (INv m ρ c)
  | .xr f, _ => inP c (xB c f) fullShare (INv m ρ c)
  | .ys f, _ => inP c (mB c f) fullShare.right.left (INv m ρ c)
  | .yr f, _ => inP c (yB c f) fullShare (INv m ρ c)

/-- The duties of a cell's one round: the barrier one per neighbour, any other cell one. -/
def dut : CK → Finset (Fin 3)
  | .bar => Finset.univ
  | _ => {0}

def Rd : Rounds.Schedule (GSem nD τ sig) (Fin 3) 𝕄 where
  duties g r := if r = 0 ∧ g.1.2 = .tc then (match dk g.2 with | some k => dut k | none => ∅) else ∅
  unitless _ := False
  amount g _ _ := match dk g.2 with | some k => amt k | none => 1
  payload g _ d := match dk g.2 with | some k => pay m ρ g.1.1 k d | none => iprop(emp)
  amount_pos g _ _ _ := by
    cases dk g.2 with
    | none => exact Nat.one_pos
    | some k => exact amt_pos k

instance pay_storable (c : Dev nD) (k : CK) (d : Fin 3) : BI.Storable (upEmb : UEmb _ 𝕄) (pay (F := F) m ρ c k d) := by
  cases k <;> try (unfold pay; infer_instance)
  match d with
  | 0 => unfold pay; infer_instance
  | 1 => unfold pay; infer_instance
  | 2 => unfold pay; infer_instance

instance Rd_storable (g : GSem nD τ sig) (r : ℕ) (d : Fin 3) :
    BI.Storable (upEmb : UEmb _ 𝕄) ((Rd (F := F) m ρ).payload g r d) := by
  show BI.Storable upEmb (match dk g.2 with | some k => pay m ρ g.1.1 k d | none => iprop(emp))
  split <;> infer_instance

section Tables
variable (c : Dev nD) (k : CK)

omit [FloatOps F] in
theorem tc_kind : ((c : Thread nD τ) : Thread nD τ).2 = .tc := rfl

theorem duties_cell : (Rd (F := F) m ρ).duties (cell c k) 0 = dut k := by
  show (if 0 = 0 ∧ (cell c k).1.2 = .tc then (match dk (csem k) with | some k => dut k | none => ∅) else ∅) = dut k
  rw [if_pos ⟨rfl, rfl⟩, dk_csem]
theorem duties_later (g : GSem nD τ sig) : ∀ r, 1 ≤ r → (Rd (F := F) m ρ).duties g r = ∅ :=
  fun r hr => by dsimp only [Rd]; exact if_neg fun h => by omega
theorem amount_cell (d : Fin 3) : (Rd (F := F) m ρ).amount (cell c k) 0 d = amt k := by
  show (match dk (csem k) with | some k => amt k | none => 1) = amt k
  rw [dk_csem]
theorem payload_cell (d : Fin 3) : (Rd (F := F) m ρ).payload (cell c k) 0 d = pay m ρ c k d := by
  show (match dk (csem k) with | some k => pay m ρ c k d | none => iprop(emp)) = _
  rw [dk_csem]

/-- What a cell's round sums to. -/
def exps : CK → ℕ | .bar => 3 | k => amt k

theorem expect_cell : (Rd (F := F) m ρ).expect (cell c k) 0 = exps k := by
  unfold Schedule.expect Schedule.amountOf
  rw [duties_cell, Finset.sum_congr rfl fun d _ => amount_cell m ρ c k d]
  cases k <;> simp [dut, exps, amt]

/-- The round of a transfer cell, no duty taken: its one payload. -/
theorem rest_cell (h : k ≠ .bar) :
    bigSep ((Rd (F := F) m ρ).duties (cell c k) 0 \ ∅) (fun d => (Rd (F := F) m ρ).payload (cell c k) 0 d) = pay m ρ c k 0 := by
  rw [Finset.sdiff_empty, duties_cell, show dut k = {0} by cases k <;> first | rfl | exact absurd rfl h, bigSep_singleton, payload_cell]
theorem rest_bar :
    bigSep ((Rd (F := F) m ρ).duties (cell c .bar) 0 \ ∅) (fun d => (Rd (F := F) m ρ).payload (cell c .bar) 0 d)
      = iprop(pay m ρ c .bar 0 ∗ pay m ρ c .bar 1 ∗ pay m ρ c .bar 2) := by
  rw [Finset.sdiff_empty, duties_cell, show dut .bar = Finset.univ from rfl,
    bigSep_univ_eq_bigSepL [(0 : Fin 3), 1, 2] (by decide) (by decide)]
  simp only [bigSepL_cons_cons, bigSepL_singleton, payload_cell]; rfl

end Tables

/-! ## What each device owes, step by step, and the levels -/

/-- The cell the step with `r` steps left after it raises, and by how much: `y1, x1, y0, x0, z7 … z4, s, z3 … z0`, then the
    barrier units to the `y`-, `x`- and `z`-neighbour. -/
def tgt (c : Dev nD) : ℕ → Dev nD × CK
  | 0 => (yn c, .yr 1)
  | 1 => (xn c, .xr 1)
  | 2 => (yn c, .yr 0)
  | 3 => (xn c, .xr 0)
  | 4 => (zn c, .zr 7)
  | 5 => (zn c, .zr 6)
  | 6 => (zn c, .zr 5)
  | 7 => (zn c, .zr 4)
  | 8 => (zn c, .sr)
  | 9 => (zn c, .zr 3)
  | 10 => (zn c, .zr 2)
  | 11 => (zn c, .zr 1)
  | 12 => (zn c, .zr 0)
  | 13 => (yn c, .bar)
  | 14 => (xn c, .bar)
  | _ => (zn c, .bar)

abbrev one (p : Dev nD × CK) : CellTallies nD τ sig Unit := tallyAt (cell p.1 p.2) () (amt p.2)

/-- What the device owes with `r` steps left. -/
def OR (c : Dev nD) : ℕ → CellTallies nD τ sig Unit
  | 0 => 0
  | r + 1 => OR c r + one (tgt c r)

theorem OR_pos {c : Dev nD} {r : ℕ} {g : GSem nD τ sig} {u : Unit} (h : 0 < OR c r g u) :
    ∃ i < r, g = cell (tgt c i).1 (tgt c i).2 := by
  induction r with
  | zero => exact absurd h (Nat.lt_irrefl 0)
  | succ r ih =>
    unfold OR at h
    rw [Pi.add_apply, Finsupp.add_apply, tallyAt_apply] at h
    by_cases hg : g = cell (tgt c r).1 (tgt c r).2 ∧ u = ()
    · exact ⟨r, Nat.lt_succ_self r, hg.1⟩
    · rw [if_neg hg, Nat.add_zero] at h
      obtain ⟨i, hi, e⟩ := ih h
      exact ⟨i, by omega, e⟩

def L (g : GSem nD τ sig) : Finset Unit := if g.1.2 = .tc then {()} else ∅
/-- Levels: local and send cells 0, the barrier 1, the landings over `z` 2, those over `x` and `y` 3. -/
def lvk : CK → ℕ
  | .bar => 1
  | .zr _ | .sr => 2
  | .xr _ | .yr _ => 3
  | _ => 0
def lv (g : GSem nD τ sig) (_ : Unit) : ℕ := match dk g.2 with | some k => lvk k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : CK) (u : Unit) : lv (cell c k) u = lvk k := by
  show (match dk (csem k) with | some k => lvk k | none => 0) = lvk k
  rw [dk_csem]

omit [FloatOps F] in
/-- A wait on a cell below everything still owed is allowed. -/
theorem mayWait (c : Dev nD) (sm : SemLoc sig) (r : ℕ) (h : ∀ i < r, lv ((c : Thread nD τ), sm) () < lvk (tgt c i).2) :
    (levAts L lv : sProp 𝕄) ⊢ MayWait (c : Thread nD τ) sm () (OR c r) :=
  MayOwe.of_cut (L := L) (lev := lv) (lv ((c : Thread nD τ), sm) ())
    (fun p hp => by rw [Finset.mem_singleton.mp hp, L_tc]; exact Finset.mem_singleton_self _)
    (fun g u hg => by obtain ⟨i, hi, rfl⟩ := OR_pos hg; rw [L_tc]; exact Finset.mem_singleton_self _)
    (fun p hp => by rw [Finset.mem_singleton.mp hp])
    (fun g u hg => by obtain ⟨i, hi, rfl⟩ := OR_pos hg; rw [lv_cell]; exact h i hi)

/-- The levels met while `r` steps are left. -/
theorem tgt_lv (c : Dev nD) (n r : ℕ) (h : n ≤ 0 ∧ r ≤ 16 ∨ n ≤ 1 ∧ r ≤ 13 ∨ n ≤ 2 ∧ r ≤ 4 ∨ r = 0) : ∀ i < r, n < lvk (tgt c i).2 := by
  intro i hi
  have hi' : i < 16 := by omega
  interval_cases i <;> simp only [tgt, lvk] <;> omega

end Cert.Gather

end
-- ==== Proof.Steps.lean ====
module

public import proofs.«01_k».proof.Proof.Sched

/-! # Steps of the body

One rule per kind of effect the body has, each at any device: a load, a store, a local copy and its wait, an addressed
transfer, a wait on a cell of the exchange. -/

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- Running a stretch of the body on device `c`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## Loads, stores, local copies -/

/-- Contents written through a view agree, on the view's elements, with any contents that read the same through it. -/
theorem write_on {sp : Space} {s : Shape} {e : EltTy} (v : View sig .tc sp s e) (f G : v.ty.Contents (Elt F))
    (w : s.Idx → Elt F e) (h : v.read (Elt F) G = w) : ∀ i ∈ v.set, v.write (Elt F) f w Finset.univ i = G i := by
  subst h
  intro i hi
  obtain ⟨x, -, rfl⟩ := Finset.mem_map.mp hi
  rw [View.write_emb_of_mem _ _ (Finset.mem_univ x), View.read_apply, cast_cast, cast_eq]

section Generic
variable {α : Type} {s : Shape} {e : EltTy}

theorem load_rule {Q : α → sProp 𝕄} (c : Dev nD) {cs : CoreSpace} {M : Memref sig .tc cs s e} {r : Rect s} {hl : M.view.LoadsAt r.toLoadRect}
    {k : (r.shape.Idx → Elt F e) → Prog (TpuEff nD τ sig (Elt F) Λ₀ .tc) α}
    {S : Finset (Idx (M.view.loc (c : Thread nD τ)))} {q : PosShare TreeShare} {f : Buf (Elt F) (M.view.loc (c : Thread nD τ))}
    (v : r.shape.Idx → Elt F e) (hS : (M.access r).set ⊆ S) (hv : (M.access r).read (Elt F) f = v) :
    (M.view.loc (c : Thread nD τ) ↦[S]{q} f : sProp 𝕄)
      ⊢ iprop(((M.view.loc (c : Thread nD τ) ↦[S]{q} f) -∗ WP c (k v) Q) -∗ WP c (.op (.load M r.toLoadRect hl) k) Q) := by
  subst hv
  exact wp_load_rect (defs := defs₀ (F := F)) 𝒱₀ (c : Thread nD τ) none Set.univ (m := M) (r := r) (hl := hl) (k := k) (S := S) (q := q) (f := f) (Q := Q) hS

theorem store_rule {Q : α → sProp 𝕄} (c : Dev nD) {cs : CoreSpace} {M : Memref sig .tc cs s e} {r : Rect s} {w : r.shape.Idx → Elt F e}
    {hx : (M.access r).Stores Finset.univ} {hm}
    {k : PUnit → Prog (TpuEff nD τ sig (Elt F) Λ₀ .tc) α}
    {S : Finset (Idx (M.view.loc (c : Thread nD τ)))} {f : Buf (Elt F) (M.view.loc (c : Thread nD τ))}
    (G : Buf (Elt F) (M.view.loc (c : Thread nD τ))) (hS : (M.access r).set = S) (hv : (M.access r).read (Elt F) G = w) :
    (M.view.loc (c : Thread nD τ) ↦[S]{fullShare} f : sProp 𝕄)
      ⊢ iprop(((M.view.loc (c : Thread nD τ) ↦[S]{fullShare} G) -∗ WP c (k ⟨⟩) Q) -∗ WP c (.op (.store M r w Finset.univ hx hm) k) Q) := by
  subst hS
  have e := pointsTo_congr (Ix := Unit) (Val := Elt F) (Name := ℕ) (U := UU) (Lvl := ℕ) (ℓ := M.view.loc (c : Thread nD τ)) (q := fullShare) (write_on (M.access r) f G w hv)
  rw [← e]
  exact wp_store (defs := defs₀ (F := F)) 𝒱₀ (c : Thread nD τ) none Set.univ (m := M) (r := r) (Mk := Finset.univ) (f := f)
    (w := w) (hx := hx) (hm := hm) (k := k) (Q := Q) (S := (M.access r).set) (subset_of_eq rfl)

theorem copy_rule {Q : α → sProp 𝕄} (c : Dev nD) {sp sp' : Space} {src : Memref sig .tc sp s e} {dst : Memref sig .tc sp' s e} {sm : DmaSem sig}
    {hsrc : src.view.WordExact} {hdst : dst.view.WordExact} {hsem : DmaTarget.Typed (nD := nD) sp (.dma sm) (.here (p := Proc.tc) dst)}
    {k : PUnit → Prog (TpuEff nD τ sig (Elt F) Λ₀ .tc) α} {q : PosShare TreeShare}
    {S : Finset (Idx (dst.view.loc (c : Thread nD τ)))} {S' : Finset (Idx (src.view.loc (c : Thread nD τ)))}
    {fs : Buf (Elt F) (src.view.loc (c : Thread nD τ))} {fd : Buf (Elt F) (dst.view.loc (c : Thread nD τ))}
    (G : Buf (Elt F) (dst.view.loc (c : Thread nD τ))) (hS : dst.view.set = S) (hS' : src.view.set = S')
    (N : ℕ) (hN : dst.view.amount (.dma sm) = N) (h0 : 0 < N)
    (hG : dst.view.read (Elt F) G = src.view.read (Elt F) fs) :
    iprop((src.view.loc (c : Thread nD τ) ↦[S']{q} fs) ∗ (dst.view.loc (c : Thread nD τ) ↦[S]{fullShare} fd) ∗ semVal ((c : Thread nD τ), SemLoc.dma sm) 0 : sProp 𝕄)
      ⊢ iprop((Transfers.Flight EC (c : Thread nD τ) (.dma sm) () N iprop((dst.view.loc (c : Thread nD τ) ↦[S]{fullShare} G) ∗ (src.view.loc (c : Thread nD τ) ↦[S']{q} fs))
          -∗ WP c (k ⟨⟩) Q) -∗ WP c (.op (.enqueueDmaAs src (.here dst) .same (.dma sm) hsrc hdst hsem) k) Q) := by
  subst hS hS'
  have e := pointsTo_congr (Ix := Unit) (Val := Elt F) (Name := ℕ) (U := UU) (Lvl := ℕ) (ℓ := dst.view.loc (c : Thread nD τ)) (q := fullShare)
    (write_on dst.view fd G (src.view.read (Elt F) fs) hG)
  rw [← e]
  exact Transfers.wp_dmaLocal EC 𝒱₀ (c : Thread nD τ) none (via := .same) (k := k) (q := q) (fs := fs) (Q := Q) () N hN h0 (subset_of_eq rfl)

end Generic

/-! ## The exchange's bookkeeping -/

/-- What every device keeps knowing: the cells' invariants, that each is at its round, the levels. -/
def Ctx (K : Dev nD × CK → ℕ) : sProp 𝕄 :=
  iprop((bigSep Finset.univ fun p : Dev nD × CK => cellInv ER (Rd m ρ) (K p) (cell p.1 p.2))
    ∗ (bigSep Finset.univ fun p : Dev nD × CK => reached ER (cell p.1 p.2) 0) ∗ levAts L lv)

instance ctx_persistent (K : Dev nD × CK → ℕ) : BI.Persistent (Ctx (F := F) m ρ K) := by unfold Ctx; infer_instance

theorem ctx_inv (K : Dev nD × CK → ℕ) (c : Dev nD) (k : CK) : Ctx (F := F) m ρ K ⊢ cellInv ER (Rd m ρ) (K (c, k)) (cell c k) :=
  sep_elim_left.trans (bigSep_elim (Finset.mem_univ (c, k)))
theorem ctx_reached (K : Dev nD × CK → ℕ) (c : Dev nD) (k : CK) : Ctx (F := F) m ρ K ⊢ reached ER (cell c k) 0 :=
  sep_elim_right.trans (sep_elim_left.trans (bigSep_elim (Finset.mem_univ (c, k))))
theorem ctx_lev (K : Dev nD × CK → ℕ) : Ctx (F := F) m ρ K ⊢ levAts L lv := sep_elim_right.trans sep_elim_right

/-- What the device owes with `r` payments left, whatever it has waited for. -/
def Ow (c : Dev nD) (r : ℕ) : sProp 𝕄 := iprop(∃ W, owes (c : Thread nD τ) (OR c r) W)
/-- The right to wait a cell of the device's own out. -/
def Wt (c : Dev nD) (k : CK) : sProp 𝕄 := iprop(atPos ER (cell c k) 0 ∅ 0 ∗ cred (tallyAt (cell c k) () (exps k)))
/-- The right to send to a cell `kR` of `p`, the departure raising the device's own `kS`. -/
def Sd (c p : Dev nD) (kS kR : CK) : sProp 𝕄 :=
  iprop(dutyTok ER (cell c kS) 0 0 ∗ dutyTok ER (cell p kR) 0 0 ∗ atPos ER (cell c kS) 0 ∅ 0)

section Exchange
variable {α : Type} {s s' : Shape} {e e' : EltTy}

theorem xsend {Q : α → sProp 𝕄} (K : Dev nD × CK → ℕ) (c n p : Dev nD) (kS kR : CK) {sp sp' : Space} {src : Memref sig .tc sp s e} {dst : Memref sig .tc sp' s e}
    {qS qR : DmaSem sig} {hsc} {hsrc : src.view.WordExact} {hdst : dst.view.WordExact}
    {hsem : DmaTarget.Typed sp (.dma qR) (.remote (Dev.tc n : Thread nD τ) dst (.dma qS) hsc)}
    {k : PUnit → Prog (TpuEff nD τ sig (Elt F) Λ₀ .tc) α} {q : PosShare TreeShare} {S : Finset (Idx (dst.view.loc (p : Thread nD τ)))}
    {S' : Finset (Idx (src.view.loc (c : Thread nD τ)))}
    {fs : Buf (Elt F) (src.view.loc (c : Thread nD τ))} {fd : Buf (Elt F) (dst.view.loc (p : Thread nD τ))}
    (G : Buf (Elt F) (dst.view.loc (p : Thread nD τ)))
    (r : ℕ) (hn : n = p) (ht : tgt c r = (p, kR)) (hqS : .dma qS = csem kS) (hqR : .dma qR = csem kR)
    (hbS : kS ≠ .bar) (hbR : kR ≠ .bar) (ha : amt kS = amt kR) (hN : dst.view.amount (.dma qR) = amt kR)
    (hS : dst.view.set = S) (hS' : src.view.set = S')
    (hG : ∀ i ∈ S, dst.view.write (Elt F) fd (src.view.read (Elt F) fs) Finset.univ i = G i)
    (hp₁ : (src.view.loc (c : Thread nD τ) ↦[S']{q} fs) ⊢ pay m ρ c kS 0)
    (hp₂ : (dst.view.loc (p : Thread nD τ) ↦[S]{fullShare} G) ⊢ pay m ρ p kR 0) :
    iprop(Ctx m ρ K ∗ Sd c p kS kR ∗ (src.view.loc (c : Thread nD τ) ↦[S']{q} fs)
        ∗ (dst.view.loc (p : Thread nD τ) ↦[S]{fullShare} fd) ∗ Ow c (r + 1) : sProp 𝕄)
      ⊢ iprop(((Wt c kS ∗ Ow c r) -∗ WP c (k ⟨⟩) Q)
          -∗ WP c (.op (.enqueueDma src (.remote (Dev.tc n : Thread nD τ) dst (.dma qS) hsc) (.dma qR) hsrc hdst hsem) k) Q) := by
  subst hn hS hS'
  have hdS : dut kS = {0} := by cases kS <;> first | rfl | exact absurd rfl hbS
  have hdR : dut kR = {0} := by cases kR <;> first | rfl | exact absurd rfl hbR
  have heS : exps kS = amt kR := by cases kS <;> first | exact ha | exact absurd rfl hbS
  have eS : cell c kS = ((c : Thread nD τ), SemLoc.dma qS) := by rw [cell, hqS]
  have eR : cell n kR = ((n : Thread nD τ), SemLoc.dma qR) := by rw [cell, hqR]
  have iS := ctx_inv m ρ K c kS
  have iR := ctx_inv m ρ K n kR
  have rS := ctx_reached m ρ K c kS
  have rR := ctx_reached m ρ K n kR
  rw [eS] at iS rS
  rw [eR] at iR rR
  unfold Sd Ow Wt
  rw [eS, eR]
  iintro ⟨#HC, ⟨HtS, HtR, Hat⟩, Hs, Hd, ⟨%W, HO⟩⟩ Hk
  have h := Rounds.wp_send_pointsTo (defs := defs₀ (F := F)) (Γ := .empty) 𝒱₀ ER (Rd m ρ) (c : Thread nD τ) none (c' := (n : Thread nD τ)) (src := src) (dst := dst) (hsc := hsc)
    (sS := .dma qS) (sem := .dma qR) (hsrc := hsrc) (hdst := hdst) (hsem := hsem) (k := k) (q := q) (fs := fs) (fd := fd) (r₁ := 0) (r₂ := 0)
    (d₁ := 0) (d₂ := 0) (κ₁ := K (c, kS)) (κ₂ := K (n, kR)) (Q := Q) (Es := Set.univ)
    (by rw [hqS, duties_cell, hdS]; exact Finset.mem_singleton_self _) (by rw [hqR, duties_cell, hdR]; exact Finset.mem_singleton_self _)
    () () (amt kR) hN (by rw [hqS, amount_cell, ha]) (by rw [hqR, amount_cell])
    (O₀ := OR c (r + 1)) (OR c r) (by rw [OR, ht, hqR]) (W := W)
    (by rw [hqS, payload_cell]; exact hp₁)
    (by rw [hqR, payload_cell, pointsTo_congr hG]; exact hp₂)
  iapply h $$ [HtS HtR Hs Hd HO] [Hat Hk]
  · isplitr; · iapply iS $$ HC
    isplitr; · iapply iR $$ HC
    isplitl [Hs]; · iexact Hs
    isplitl [Hd]; · iexact Hd
    isplitl [HO]; · iexact HO
    isplitl [HtS]; · iexact HtS
    isplitr; · iapply rS $$ HC
    isplitl [HtR]; · iexact HtR
    iapply rR $$ HC
  · iintro ⟨Hc, HO⟩
    iapply Hk
    isplitr [HO]
    · isplitl [Hat]; · iexact Hat
      rw [heS]; iexact Hc
    · iexists W; iexact HO

theorem xwait {Q : α → sProp 𝕄} (K : Dev nD × CK → ℕ) (c : Dev nD) (kk : CK) {sp sp' : Space} {src : Memref sig .tc sp' s' e'} {dst : Memref sig .tc sp s e}
    {qs : DmaSem sig} {hsrc : src.view.WordExact} {hdst : dst.view.WordExact}
    {k : PUnit → Prog (TpuEff nD τ sig (Elt F) Λ₀ .tc) α}
    (r : ℕ) (hq : .dma qs = csem kk) (hb : kk ≠ .bar) (hN : dst.view.dmaCredit = amt kk)
    (hl : lvk kk ≤ 0 ∧ r ≤ 16 ∨ lvk kk ≤ 1 ∧ r ≤ 13 ∨ lvk kk ≤ 2 ∧ r ≤ 4 ∨ r = 0) :
    iprop(Ctx m ρ K ∗ Wt c kk ∗ Ow c r : sProp 𝕄)
      ⊢ iprop(((Ow c r ∗ semVal (cell c kk) 0 ∗ pay m ρ c kk 0) -∗ WP c (k ⟨⟩) Q)
          -∗ WP c (.op (.waitDma2 qs src dst hsrc hdst) k) Q) := by
  have he : exps kk = amt kk := by cases kk <;> first | rfl | exact absurd rfl hb
  unfold Ow Wt
  iintro ⟨#HC, ⟨Hat, Hcr⟩, ⟨%W, HO⟩⟩ Hk
  have h := Rounds.wp_wait_rest_token (defs := defs₀ (F := F)) (Γ := .empty) 𝒱₀ ER (Rd m ρ) (c : Thread nD τ) none (w := .waitDma2 qs src dst hsrc hdst) (sm := .dma qs)
    (κ := K (c, kk)) (Q := Q) (k := k) (wpE_waitDma2_eq 𝒱₀ (c : Thread nD τ) none Set.univ) (Set.mem_univ _) () (O := OR c r) (W := W) (R := 0) (m := 0) (T := ∅)
    (by rw [hq, expect_cell, he, hN]; exact Nat.zero_add _)
  rw [hq, rest_cell m ρ c kk hb, hN] at h
  iapply h $$ [Hat Hcr HO] [Hk]
  · isplitr; · iapply (ctx_inv m ρ K c kk) $$ HC
    isplitl [Hcr]; · rw [he]; iexact Hcr
    isplitl [HO]; · iexact HO
    isplitr
    · iapply (mayWait c (csem kk) r (fun i hi => by rw [lv_cell]; exact tgt_lv c _ r hl i hi))
      iapply (ctx_lev m ρ K) $$ HC
    · iexact Hat
  · iintro ⟨HO, Hat, _, Hp⟩
    imod (Rounds.cell_close ER (Rd m ρ) (Set.mem_univ (K (c, kk))) (fun h => h) (R := 0 + 1) (duties_later m ρ (cell c kk))) $$ [Hat] with Hz
    · isplitr; · iapply (ctx_inv m ρ K c kk) $$ HC
      iexact Hat
    iapply Hk
    isplitl [HO]; · iexists _; iexact HO
    isplitl [Hz]; · iexact Hz
    iexact Hp

theorem xsignal {Q : α → sProp 𝕄} (K : Dev nD × CK → ℕ) (c n p : Dev nD) (d : Fin 3)
    {k : PUnit → Prog (TpuEff nD τ sig (Elt F) Λ₀ .tc) α} (r : ℕ) (hn : n = p) (ht : tgt c r = (p, .bar)) :
    iprop(Ctx m ρ K ∗ dutyTok ER (cell p .bar) 0 d ∗ pay m ρ p .bar d ∗ Ow c (r + 1) : sProp 𝕄)
      ⊢ iprop((Ow c r -∗ WP c (k ⟨⟩) Q) -∗ WP c (.op (.semSignal (n : Thread nD τ) barS ((1 : ℕ) : ℤ)) k) Q) := by
  subst hn
  unfold Ow
  iintro ⟨#HC, Ht, Hp, ⟨%W, HO⟩⟩ Hk
  have h := Rounds.wp_signal (defs := defs₀ (F := F)) (Γ := .empty) 𝒱₀ ER (Rd m ρ) (c : Thread nD τ) none (dst := (n : Thread nD τ)) (sem := barS) (κ := K (n, .bar))
    (r := 0) (d := d) (k := k) (k' := 1) (Q := Q) (Es := Set.univ)
    ((duties_cell m ρ n .bar).symm ▸ Finset.mem_univ d) (amount_cell m ρ n .bar d) () (O₀ := OR c (r + 1)) (OR c r) (by rw [OR, ht]; rfl) (W := W)
  iapply h $$ [Ht Hp HO] [Hk]
  · isplitr; · iapply (ctx_inv m ρ K n .bar) $$ HC
    isplitl [HO]; · iexact HO
    isplitl [Ht]; · iexact Ht
    isplitl [Hp]
    · iapply (Entails.of_eq (show pay m ρ n .bar d = (Rd m ρ).payload ((n : Thread nD τ), SemLoc.reg barS) 0 d from (payload_cell m ρ n .bar d).symm))
      iexact Hp
    iapply (ctx_reached m ρ K n .bar) $$ HC
  · iintro HO
    iapply Hk
    iexists W; iexact HO

theorem xbarrier {Q : α → sProp 𝕄} (K : Dev nD × CK → ℕ) (c : Dev nD)
    {k : PUnit → Prog (TpuEff nD τ sig (Elt F) Λ₀ .tc) α} :
    iprop(Ctx m ρ K ∗ Wt c .bar ∗ Ow c 13 : sProp 𝕄)
      ⊢ iprop(((Ow c 13 ∗ semVal (cell c .bar) 0 ∗ pay m ρ c .bar 0 ∗ pay m ρ c .bar 1 ∗ pay m ρ c .bar 2) -∗ WP c (k ⟨⟩) Q)
          -∗ WP c (.op (.semWait barS 3) k) Q) := by
  unfold Ow Wt
  iintro ⟨#HC, ⟨Hat, Hcr⟩, ⟨%W, HO⟩⟩ Hk
  have h := Rounds.wp_wait_rest_token (defs := defs₀ (F := F)) (Γ := .empty) 𝒱₀ ER (Rd m ρ) (c : Thread nD τ) none (w := .semWait barS 3) (sm := .reg barS)
    (κ := K (c, .bar)) (Q := Q) (k := k) (wpE_semWait_eq 𝒱₀ (c : Thread nD τ) none Set.univ) (Set.mem_univ _) () (O := OR c 13) (W := W) (R := 0) (m := 0) (T := ∅)
    (by exact (Nat.zero_add 3).trans (expect_cell m ρ c .bar).symm)
  rw [show ((c : Thread nD τ), SemLoc.reg barS) = cell c .bar from rfl, rest_bar m ρ c] at h
  iapply h $$ [Hat Hcr HO] [Hk]
  · isplitr; · iapply (ctx_inv m ρ K c .bar) $$ HC
    isplitl [Hcr]; · iexact Hcr
    isplitl [HO]; · iexact HO
    isplitr
    · iapply (mayWait c (csem .bar) 13 (fun i hi => by rw [lv_cell]; exact tgt_lv c _ 13 (Or.inr (Or.inl ⟨le_rfl, le_rfl⟩)) i hi))
      iapply (ctx_lev m ρ K) $$ HC
    · iexact Hat
  · iintro ⟨HO, Hat, _, Hp⟩
    imod (Rounds.cell_close ER (Rd m ρ) (Set.mem_univ (K (c, .bar))) (fun h => h) (R := 0 + 1) (duties_later m ρ (cell c .bar))) $$ [Hat] with Hz
    · isplitr; · iapply (ctx_inv m ρ K c .bar) $$ HC
      iexact Hat
    iapply Hk
    isplitl [HO]; · iexists _; iexact HO
    isplitl [Hz]; · iexact Hz
    iexact Hp

/-- The wait for a copy of the device's own. -/
theorem copy_wait {Q : α → sProp 𝕄} (K : Dev nD × CK → ℕ) (c : Dev nD) {sp sp' : Space} {src : Memref sig .tc sp' s' e'} {dst : Memref sig .tc sp s e}
    {qs : DmaSem sig} {hsrc : src.view.WordExact} {hdst : dst.view.WordExact}
    {k : PUnit → Prog (TpuEff nD τ sig (Elt F) Λ₀ .tc) α} (N r : ℕ) (D : sProp 𝕄) (hN : dst.view.dmaCredit = N) (hr : r ≤ 16)
    (hq : ∀ kk, csem kk ≠ .dma qs) :
    iprop(Ctx m ρ K ∗ Transfers.Flight EC (c : Thread nD τ) (.dma qs) () N D ∗ Ow c r : sProp 𝕄)
      ⊢ iprop(((Ow c r ∗ semVal ((c : Thread nD τ), SemLoc.dma qs) 0 ∗ D) -∗ WP c (k ⟨⟩) Q)
          -∗ WP c (.op (.waitDma2 qs src dst hsrc hdst) k) Q) := by
  have hd : lv ((c : Thread nD τ), SemLoc.dma qs) () = 0 := by
    show (match dk (SemLoc.dma qs) with | some k => lvk k | none => 0) = 0
    have : dk (SemLoc.dma qs) = none := by unfold dk; exact dif_neg fun ⟨k, h⟩ => hq k h
    rw [this]
  unfold Ow
  iintro ⟨#HC, HF, ⟨%W, HO⟩⟩ Hk
  iapply (Transfers.wp_waitLocalO (defs := defs₀ (F := F)) EC 𝒱₀ (c : Thread nD τ) none (hsrc := hsrc) (hdst := hdst) (k := k) (Q := Q) () hN (D := D) (O := OR c r) (W := W)) $$ [HF HO] [Hk]
  · isplitl [HF]; · iexact HF
    isplitl [HO]; · iexact HO
    iapply (mayWait c (.dma qs) r (fun i hi => by rw [hd]; exact tgt_lv c 0 r (Or.inl ⟨le_rfl, hr⟩) i hi))
    iapply (ctx_lev m ρ K) $$ HC
  · iintro ⟨HD, Hz, HO⟩
    iapply Hk
    isplitl [HO]; · iexists _; iexact HO
    isplitl [Hz]; · iexact Hz
    iexact HD

end Exchange

end Cert.Gather

end
-- ==== Proof.Values.lean ====
module

public import proofs.«01_k».proof.Proof.Common
public import Idealize.ShloMosaic.Lib.Pointwise

/-! # What the views read and the payloads hold -/

@[expose] public section

noncomputable section

namespace Cert.Gather

open Cert.KernelIdeal Cert.KernelIdeal.Gen
open Idealize.ShloMosaic Idealize.ShloMosaic.TcCoe

variable {F : FTy → Type} [FloatOps F]
variable (m : (ℓ : Loc nD τ sig) → Buf (Elt F) ℓ) (ρ : Dev nD → PrngReg)

/-! ## Reading through a box -/

section Read
variable {Val : EltTy → Type} {sp : Space} {e : EltTy}

theorem rd2 {R C nr nc r0 c0 : ℕ} (v : View sig .tc sp ⟨2, ![R, C]⟩ e) (G : v.ty.Contents Val) {off : Fin 2 → ℕ}
    {inb : ∀ a, off a + (⟨2, ![nr, nc]⟩ : Shape).size a ≤ (⟨2, ![R, C]⟩ : Shape).size a} (h : off = ![r0, c0])
    (x : Shape.Idx ⟨2, ![nr, nc]⟩) (h0 : r0 + (x 0).val < R) (h1 : c0 + (x 1).val < C) :
    (v.slice (Rect.unit (s := ⟨2, ![R, C]⟩) off (⟨2, ![nr, nc]⟩ : Shape).size inb)).read Val G x
      = v.read Val G (ix2 ⟨r0 + (x 0).val, h0⟩ ⟨c0 + (x 1).val, h1⟩) := by
  subst h
  show v.read Val G ((Rect.unit (s := ⟨2, ![R, C]⟩) ![r0, c0] (⟨2, ![nr, nc]⟩ : Shape).size inb).emb x) = _
  congr 1
  funext a
  apply Fin.ext
  rw [Rect.emb_apply]
  match a with
  | ⟨0, _⟩ => exact congrArg (r0 + ·) (Nat.one_mul _)
  | ⟨1, _⟩ => exact congrArg (c0 + ·) (Nat.one_mul _)

theorem rd3 {A B C nc s : ℕ} (v : View sig .tc sp ⟨3, ![A, B, C]⟩ e) (G : v.ty.Contents Val)
    {inb : ∀ a, (![s, 0, 0] : Fin 3 → ℕ) a + (⟨3, ![1, B, nc]⟩ : Shape).size a ≤ (⟨3, ![A, B, C]⟩ : Shape).size a}
    (x : Shape.Idx ⟨3, ![1, B, nc]⟩) (h0 : s < A) (h2 : (x 2).val < C) :
    (v.slice (Rect.unit (s := ⟨3, ![A, B, C]⟩) ![s, 0, 0] (⟨3, ![1, B, nc]⟩ : Shape).size inb)).read Val G x
      = v.read Val G (ix3 ⟨s, h0⟩ (x 1) ⟨(x 2).val, h2⟩) := by
  show v.read Val G ((Rect.unit (s := ⟨3, ![A, B, C]⟩) ![s, 0, 0] (⟨3, ![1, B, nc]⟩ : Shape).size inb).emb x) = _
  congr 1
  funext a
  apply Fin.ext
  rw [Rect.emb_apply]
  have hx0 : (x 0).val < 1 := (x 0).isLt
  match a with
  | ⟨0, _⟩ => show s + 1 * (x 0).val = s; omega
  | ⟨1, _⟩ => show 0 + 1 * (x 1).val = (x 1).val; omega
  | ⟨2, _⟩ => show 0 + 1 * (x 2).val = (x 2).val; omega

end Read

theorem lead1 {B nc : ℕ} (h : (⟨2, ![B, nc]⟩ : Shape).numel = (⟨3, ![1, B, nc]⟩ : Shape).numel) (x : Shape.Idx ⟨2, ![B, nc]⟩) :
    Shape.reshapeEquiv h x = (ix3 0 (x 0) (x 1) : Shape.Idx ⟨3, ![1, B, nc]⟩) := by
  refine (Shape.reshapeEquiv_cons_one (d := ![B, nc]) h x).trans ?_
  funext a
  match a with
  | ⟨0, _⟩ => rfl
  | ⟨1, _⟩ => rfl
  | ⟨2, _⟩ => rfl

theorem lead1' {B nc : ℕ} (h : (⟨3, ![1, B, nc]⟩ : Shape).numel = (⟨2, ![B, nc]⟩ : Shape).numel) (x : Shape.Idx ⟨3, ![1, B, nc]⟩) :
    Shape.reshapeEquiv h x = (ix2 (x 1) (x 2) : Shape.Idx ⟨2, ![B, nc]⟩) := by
  have e : x = (ix3 0 (x 1) (x 2) : Shape.Idx ⟨3, ![1, B, nc]⟩) := by
    funext a
    match a with
    | ⟨0, _⟩ => exact Fin.ext (by have h : (x 0).val < 1 := (x 0).isLt; show (x 0).val = 0; omega)
    | ⟨1, _⟩ => rfl
    | ⟨2, _⟩ => rfl
  have h2 := lead1 h.symm (ix2 (x 1) (x 2))
  calc Shape.reshapeEquiv h x = Shape.reshapeEquiv h (Shape.reshapeEquiv h.symm (ix2 (x 1) (x 2))) := by rw [h2]; exact congrArg _ e
    _ = _ := by rw [Shape.reshapeEquiv_reshapeEquiv, Shape.reshapeEquiv_self]

/-- A slot read as the box it holds. -/
theorem sq_read {B nc : ℕ} {Val : EltTy → Type} {sp : Space} {e : EltTy} (M : Memref sig .tc sp ⟨3, ![1, B, nc]⟩ e)
    {h : Shape.Squeezes ⟨3, ![1, B, nc]⟩ ⟨2, ![B, nc]⟩}
    (G : M.view.ty.Contents Val) (x : Shape.Idx ⟨2, ![B, nc]⟩) :
    (M.squeeze ⟨2, ![B, nc]⟩ h).view.read Val G x = M.view.read Val G (ix3 0 (x 0) (x 1)) := by
  show M.view.read Val G (Shape.reshapeEquiv h.numel_eq x) = _
  rw [lead1]

/-! ## Payloads -/

theorem e_val (c : Dev nD) (i : Fin 16) (j : S512x512.Idx) :
    k0_pay3 (xv m ρ c) (Wch m c (cblk c i)) j
      = Ev m ρ c (ix2 (j 0) ⟨ccol c i + (j 1).val, by have := ccol_le c i; have h : (j 1).val < 512 := (j 1).isLt; show _ < 8192; omega⟩) := by
  have hj : (j 1).val < 512 := (j 1).isLt
  have hd := ccol_dvd c i
  have hb : blkOf (ccol c i + (j 1).val) (by have := ccol_le c i; omega) = cblk c i :=
    Fin.ext (by show (ccol c i + (j 1).val) / 512 = ccol c i / 512; omega)
  unfold Ev
  show _ = k0_pay3 (xv m ρ c) (Wch m c (blkOf (ccol c i + (j 1).val) _)) (ix2 (j 0) ⟨(ccol c i + (j 1).val) % 512, _⟩)
  rw [hb]
  congr 1
  rw [eq_ix2 j]
  congr 1
  exact Fin.ext (by show (j 1).val = (ccol c i + (j 1).val) % 512; omega)

theorem pay54_eq (v : FVec F S512x1 .f32) (a : FVec F S512x1024 .f32) (b : Vec F S1x1024x512 .f32) : k0_pay54 v a b = k0_pay53 v a b := by
  unfold k0_pay54
  funext j
  simp only [pointwise]

theorem w_val {w : ℕ} (v : FVec F ⟨2, ![512, w]⟩ .bf16) (s : FVec F S512x1 .f32) (hb : S512x1.Broadcasts ⟨2, ![512, w]⟩)
    (hc : Shape.ShapeCasts ⟨2, ![512, w]⟩ ⟨3, ![1, 512, w]⟩) (j : Shape.Idx ⟨3, ![1, 512, w]⟩) :
    shapeCast ⟨3, ![1, 512, w]⟩ (mulf (extf .f32 v bitsLt_bf16_f32) (broadcastTo ⟨2, ![512, w]⟩ s hb)) hc j
      = sc (v (ix2 (j 1) (j 2))) (s (ix2 (j 1) 0)) := by
  show sc (v (Shape.reshapeEquiv hc j)) (broadcastTo ⟨2, ![512, w]⟩ s hb (Shape.reshapeEquiv hc j)) = _
  rw [lead1']
  congr 1
  show s _ = s _
  congr 1
  funext a
  match a with
  | ⟨0, _⟩ => rfl
  | ⟨1, _⟩ => rfl

theorem b_val (b : ℕ) (v : FVec F S64x8192 .bf16) (s : FVec F S512x1 .f32) (hs : S512x1.Slices ![64 * b, 0] S64x1)
    (j : Shape.Idx S1x64x8192) (hj : 64 * b + (j 1).val < 512) :
    shapeCast S1x64x8192 (mulf (extf .f32 v bitsLt_bf16_f32) (broadcastTo S64x8192 (extractStridedSlice S64x1 ![64 * b, 0] s hs) broadcasts_S64x1_S64x8192))
        shapeCasts_S64x8192_S1x64x8192 j
      = sc (v (ix2 (j 1) (j 2))) (s (ix2 ⟨64 * b + (j 1).val, hj⟩ 0)) := by
  show sc (v (Shape.reshapeEquiv _ j)) (broadcastTo S64x8192 (extractStridedSlice S64x1 ![64 * b, 0] s hs) broadcasts_S64x1_S64x8192 (Shape.reshapeEquiv _ j)) = _
  rw [lead1']
  congr 1
  show s _ = s _
  congr 1
  funext a
  match a with
  | ⟨0, _⟩ => rfl
  | ⟨1, _⟩ => rfl

/-! ## Contents of the staging slots -/

/-- A staging slot of `W` holding block `b`. -/
def wslC (c : Dev nD) (b : Fin 16) : Vec F S2x1024x512 .f32 := fun i => Wch m c b (ix3 0 (i 1) (i 2))

/-- A slot of the wide output staging holding the result from column `n` on. -/
def slotC (c : Dev nD) (n : ℕ) : Vec F S2x512x1024 .f32 :=
  fun i => OUTv m ρ c (ix2 (i 1) ⟨(n + (i 2).val) % 16384, Nat.mod_lt _ (by decide)⟩)

/-- A slot of the band staging holding band `b` of the device's own half. -/
def bandC (c : Dev nD) (b : ℕ) : Vec F S2x64x8192 .f32 :=
  fun i => OUTv m ρ c (ix2 ⟨(64 * b + (i 1).val) % 512, Nat.mod_lt _ (by decide)⟩ ⟨(8192 * (c.val % 2) + (i 2).val) % 16384, Nat.mod_lt _ (by decide)⟩)

/-- Columns of the landing buffer as a vector. -/
def inC (c : Dev nD) (w n : ℕ) : Vec F ⟨2, ![512, w]⟩ .bf16 :=
  fun i => INv m ρ c (ix2 (i 0) ⟨(n + (i 1).val) % 8192, Nat.mod_lt _ (by decide)⟩)

/-- A band of rows as a vector. -/
def eC (c : Dev nD) (b : ℕ) : Vec F S64x8192 .bf16 :=
  fun i => Ev m ρ c (ix2 ⟨(64 * b + (i 0).val) % 512, Nat.mod_lt _ (by decide)⟩ (i 1))

/-- A scaled run of the other half's columns is the result there. -/
theorem slot_val {w : ℕ} (c : Dev nD) (n : ℕ) (hn : n + w ≤ 8192) (hw : w ≤ 1024) (hb : S512x1.Broadcasts ⟨2, ![512, w]⟩)
    (hc : Shape.ShapeCasts ⟨2, ![512, w]⟩ ⟨3, ![1, 512, w]⟩) (s : Fin 2) (j : Shape.Idx ⟨3, ![1, 512, w]⟩) (h2 : (j 2).val < 1024) :
    slotC m ρ c (8192 * (1 - c.val % 2) + n) (ix3 s (j 1) ⟨(j 2).val, h2⟩)
      = shapeCast ⟨3, ![1, 512, w]⟩ (mulf (extf .f32 (inC m ρ c w n) bitsLt_bf16_f32) (broadcastTo ⟨2, ![512, w]⟩ (INVv m ρ c) hb)) hc j := by
  rw [w_val]
  have hj : (j 2).val < w := (j 2).isLt
  have h8 := lt8 c
  show OUTv m ρ c (ix2 (j 1) ⟨(8192 * (1 - c.val % 2) + n + (j 2).val) % 16384, _⟩) = _
  unfold OUTv
  show sc (if ((8192 * (1 - c.val % 2) + n + (j 2).val) % 16384) / 8192 = c.val % 2 then _ else _) (INVv m ρ c (ix2 (j 1) 0)) = _
  rw [if_neg (by omega)]
  congr 1
  show INv m ρ c (ix2 (j 1) ⟨((8192 * (1 - c.val % 2) + n + (j 2).val) % 16384) % 8192, _⟩) = INv m ρ c (ix2 (j 1) ⟨(n + (j 2).val) % 8192, _⟩)
  congr 2
  exact Fin.ext (by show ((8192 * (1 - c.val % 2) + n + (j 2).val) % 16384) % 8192 = (n + (j 2).val) % 8192; omega)

/-- A scaled band of the device's own half is the result there. -/
theorem band_val (c : Dev nD) (b : ℕ) (hb : b < 8) (hs : S512x1.Slices ![64 * b, 0] S64x1) (s : Fin 2) (j : S1x64x8192.Idx) :
    bandC m ρ c b (ix3 s (j 1) (j 2))
      = shapeCast S1x64x8192 (mulf (extf .f32 (eC m ρ c b) bitsLt_bf16_f32) (broadcastTo S64x8192 (extractStridedSlice S64x1 ![64 * b, 0] (INVv m ρ c) hs) broadcasts_S64x1_S64x8192))
        shapeCasts_S64x8192_S1x64x8192 j := by
  have h1 : (j 1).val < 64 := (j 1).isLt
  have h2 : (j 2).val < 8192 := (j 2).isLt
  rw [b_val b _ _ hs j (by omega)]
  have h8 := lt8 c
  show OUTv m ρ c (ix2 ⟨(64 * b + (j 1).val) % 512, _⟩ ⟨(8192 * (c.val % 2) + (j 2).val) % 16384, _⟩) = _
  unfold OUTv
  show sc (if ((8192 * (c.val % 2) + (j 2).val) % 16384) / 8192 = c.val % 2 then Ev m ρ c (ix2 ⟨(64 * b + (j 1).val) % 512, _⟩ ⟨((8192 * (c.val % 2) + (j 2).val) % 16384) % 8192, _⟩) else _) (INVv m ρ c (ix2 ⟨(64 * b + (j 1).val) % 512, _⟩ 0)) = _
  rw [if_pos (by omega)]
  congr 1
  · show Ev m ρ c (ix2 ⟨(64 * b + (j 1).val) % 512, _⟩ ⟨((8192 * (c.val % 2) + (j 2).val) % 16384) % 8192, _⟩) = Ev m ρ c (ix2 ⟨(64 * b + (j 1).val) % 512, _⟩ (j 2))
    congr 2
    exact Fin.ext (by show ((8192 * (c.val % 2) + (j 2).val) % 16384) % 8192 = (j 2).val; omega)
  · congr 2
    exact Fin.ext (by show (64 * b + (j 1).val) % 512 = 64 * b + (j 1).val; omega)

/-! ## What has landed is what the sender held -/

theorem src_z (c : Dev nD) (j : Fin 8) (n : ℕ) (h : ccol c (Fin.castLE (by decide) j) ≤ n ∧ n < ccol c (Fin.castLE (by decide) j) + 512) :
    srcOf c n = zn c := by
  have := lt8 c; have hj : j.val < 8 := j.isLt
  unfold srcOf
  rw [if_neg, if_neg] <;> simp only [ccol, Fin.val_castLE, cM, cD, cX, cY] at h ⊢ <;> split_ifs at h <;> omega

theorem src_x (c : Dev nD) (n : ℕ) (h : cX c ≤ n ∧ n < cX c + 2048) : srcOf c n = srcOf (xn c) n := by
  have := lt8 c
  have e : srcOf (xn c) n = zn (xn c) := by
    unfold srcOf
    rw [if_neg, if_neg] <;> rw [← cM_xn] at h
    · have := lt8 (xn c); unfold cM cY at *; omega
    · have := lt8 (xn c); unfold cM cX at *; omega
  rw [e]; exact if_pos h

theorem src_y (c : Dev nD) (n : ℕ) (h : cY c ≤ n ∧ n < cY c + 2048) : srcOf c n = srcOf (yn c) n := by
  have := lt8 c
  have e : srcOf (yn c) n = zn (yn c) := by
    unfold srcOf
    rw [if_neg, if_neg] <;> rw [← cM_yn] at h
    · have := lt8 (yn c); unfold cM cY at *; omega
    · have := lt8 (yn c); unfold cM cX at *; omega
  rw [e]; unfold srcOf
  rw [if_neg (by unfold cX cY at *; omega), if_pos h]

end Cert.Gather

end
-- ==== Proof.Pieces.lean ====
module

public import proofs.«01_k».proof.Proof.Steps
public import proofs.«01_k».proof.Proof.Values

/-! # The body's steps on its buffers

The rules of `Steps` at the kernel's buffers, each at any device and any block: staging a block of `W`, computing a
piece, sending it, scaling a run of columns or a band of rows into the output. -/

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Offsets -/

theorem o1 (c : Dev nD) (r : Fin 4) : k0_off1 c (BitVec.ofNat 32 r.val) = ![0, ccol c ⟨r.val, by omega⟩] := by
  rw [k0_off1_eq]; have := lt8 c; have := r.isLt; congr 2; unfold ccol cM; rw [if_pos (by show r.val < 4; omega)]; show _ = _ + 512 * (r.val % 4); omega
theorem o2 (c : Dev nD) (r : Fin 4) : k0_off2 c (BitVec.ofNat 32 r.val) = ![0, ccol c ⟨r.val, by omega⟩] :=
  (k0_off2_eq c r).trans ((k0_off1_eq c r).symm.trans (o1 c r))
theorem o3 (c : Dev nD) (r : Fin 4) : k0_off3 c (BitVec.ofNat 32 r.val) = ![0, ccol c ⟨r.val, by omega⟩] :=
  (k0_off3_eq c r).trans ((k0_off1_eq c r).symm.trans (o1 c r))
theorem o4 (c : Dev nD) (r : Fin 4) : k0_off4 c (BitVec.ofNat 32 r.val) = ![0, ccol c ⟨4 + r.val, by omega⟩] := by
  rw [k0_off4_eq]; have := lt8 c; have := r.isLt; congr 2; unfold ccol cD
  rw [if_neg (by show ¬ 4 + r.val < 4; omega), if_pos (by show 4 + r.val < 8; omega)]; show _ = _ + 512 * ((4 + r.val) % 4); omega
theorem o5 (c : Dev nD) (r : Fin 4) : k0_off5 c (BitVec.ofNat 32 r.val) = ![0, ccol c ⟨4 + r.val, by omega⟩] :=
  (k0_off5_eq c r).trans ((k0_off4_eq c r).symm.trans (o4 c r))
theorem o10 (c : Dev nD) (r : Fin 4) : k0_off10 c (BitVec.ofNat 32 r.val) = ![0, ccol c ⟨4 + r.val, by omega⟩] :=
  (k0_off10_eq c r).trans ((k0_off4_eq c r).symm.trans (o4 c r))
theorem o6 (c : Dev nD) (r : Fin 4) : k0_off6 c (BitVec.ofNat 32 r.val) = ![0, ccol c ⟨8 + r.val, by omega⟩] := by
  rw [k0_off6_eq]; have := lt8 c; have := r.isLt; congr 2; unfold ccol cX
  rw [if_neg (by show ¬ 8 + r.val < 4; omega), if_neg (by show ¬ 8 + r.val < 8; omega), if_pos (by show 8 + r.val < 12; omega)]
  show _ = _ + 512 * ((8 + r.val) % 4); omega
theorem o7 (c : Dev nD) (r : Fin 4) : k0_off7 c (BitVec.ofNat 32 r.val) = ![0, ccol c ⟨8 + r.val, by omega⟩] :=
  (k0_off7_eq c r).trans ((k0_off6_eq c r).symm.trans (o6 c r))
theorem o8 (c : Dev nD) (r : Fin 4) : k0_off8 c (BitVec.ofNat 32 r.val) = ![0, ccol c ⟨12 + r.val, by omega⟩] := by
  rw [k0_off8_eq]; have := lt8 c; have := r.isLt; congr 2; unfold ccol cY
  rw [if_neg (by show ¬ 12 + r.val < 4; omega), if_neg (by show ¬ 12 + r.val < 8; omega), if_neg (by show ¬ 12 + r.val < 12; omega)]
  show _ = _ + 512 * ((12 + r.val) % 4); omega
theorem o9 (c : Dev nD) (r : Fin 4) : k0_off9 c (BitVec.ofNat 32 r.val) = ![0, ccol c ⟨12 + r.val, by omega⟩] :=
  (k0_off9_eq c r).trans ((k0_off8_eq c r).symm.trans (o8 c r))

theorem o11 (c : Dev nD) (r : Fin 2) : k0_off11 c (BitVec.ofNat 32 (1024 * r.val)) = ![0, cM c + 1024 * r.val] := by
  rw [k0_off11_eq]; rfl
theorem o12 (c : Dev nD) (r : Fin 2) : k0_off12 c (BitVec.ofNat 32 (1024 * r.val)) = ![0, cM c + 1024 * r.val] := by
  rw [k0_off12_eq]; rfl
theorem o15 (c : Dev nD) (r : Fin 2) : k0_off15 c (BitVec.ofNat 32 (1024 * r.val)) = ![0, cX c + 1024 * r.val] := by
  rw [k0_off15_eq]; have := lt8 c; have := r.isLt; congr 2; unfold cX; omega
theorem o18 (c : Dev nD) (r : Fin 2) : k0_off18 c (BitVec.ofNat 32 (1024 * r.val)) = ![0, cY c + 1024 * r.val] := by
  rw [k0_off18_eq]; have := lt8 c; have := r.isLt; congr 2; unfold cY; omega
theorem o28 (c : Dev nD) (r : Fin 4) : k0_off28 c (BitVec.ofNat 32 (512 * r.val)) = ![0, cD c + 512 * r.val] := by
  rw [k0_off28_eq]; have := lt8 c; have := r.isLt; congr 2; unfold cD; omega
theorem o13 (c : Dev nD) (r : Fin 2) : k0_off13 c (BitVec.ofNat 32 (1024 * r.val)) = ![0, 8192 * (1 - c.val % 2) + (cM c + 1024 * r.val)] := by
  rw [k0_off13_eq]; have := lt8 c; have := r.isLt; congr 2; unfold cM; omega
theorem o16 (c : Dev nD) (r : Fin 2) : k0_off16 c (BitVec.ofNat 32 (1024 * r.val)) = ![0, 8192 * (1 - c.val % 2) + (cX c + 1024 * r.val)] := by
  rw [k0_off16_eq]; have := lt8 c; have := r.isLt; congr 2; unfold cX; omega
theorem o19 (c : Dev nD) (r : Fin 2) : k0_off19 c (BitVec.ofNat 32 (1024 * r.val)) = ![0, 8192 * (1 - c.val % 2) + (cY c + 1024 * r.val)] := by
  rw [k0_off19_eq]; have := lt8 c; have := r.isLt; congr 2; unfold cY; omega
theorem o29 (c : Dev nD) (r : Fin 4) : k0_off29 c (BitVec.ofNat 32 (512 * r.val)) = ![0, 8192 * (1 - c.val % 2) + (cD c + 512 * r.val)] := by
  rw [k0_off29_eq]; have := lt8 c; have := r.isLt; congr 2; unfold cD; omega

/-! ## Points-tos -/

abbrev xP (c : Dev nD) : sProp 𝕄 := ((c : Thread nD τ).loc cc0_stg0_0) ↦{fullShare} xv m ρ c
abbrev wP (c : Dev nD) : sProp 𝕄 := ((c : Thread nD τ).loc main_arg1) ↦{fullShare} Wv m c
abbrev wsl (c : Dev nD) (s : ℕ) (f : Vec F S2x1024x512 .f32) : sProp 𝕄 := ((c : Thread nD τ).loc cc0_scratch0) ↦[slab s 0 512]{fullShare} f
abbrev rsl (c : Dev nD) (s w : ℕ) (f : Vec F S2x512x1024 .f32) : sProp 𝕄 := ((c : Thread nD τ).loc cc0_scratch5) ↦[slab s 0 w]{fullShare} f
abbrev bsl (c : Dev nD) (s : ℕ) (f : Vec F S2x64x8192 .f32) : sProp 𝕄 := ((c : Thread nD τ).loc cc0_scratch6) ↦[slab s 0 8192]{fullShare} f
abbrev outP (c : Dev nD) (B : Finset S512x16384.Idx) (f : Vec F S512x16384 .f32) : sProp 𝕄 := ((c : Thread nD τ).loc main_v1) ↦[B]{fullShare} f
abbrev zero (c : Dev nD) (q : DmaSem sig) : sProp 𝕄 := semVal ((c : Thread nD τ), SemLoc.dma q) 0

/-- Columns `[n, n + w)` of `W`. -/
abbrev colsW (n w : ℕ) : Finset S1024x8192.Idx := box 0 1024 n w
/-- Columns of the other half's part of the output, and a band of rows of the device's own. -/
abbrev oB (c : Dev nD) (n w : ℕ) : Finset S512x16384.Idx := box 0 512 (8192 * (1 - c.val % 2) + n) w
abbrev bB (c : Dev nD) (b : ℕ) : Finset S512x16384.Idx := box (64 * b) 64 (8192 * (c.val % 2)) 8192

/-! ## Staging a block of `W` -/

abbrev nW : ℕ := (Memref.whole (cc0_scratch0 : Ref sig .tc) |>.slice (Rect.unit (s := S2x1024x512) ![0, 0, 0] S1x1024x512.size (by decide)) (fun _ => rfl)).view.dmaCredit

/-- Block `i` on its way to slot `s`. -/
def Wfly (c : Dev nD) (q : DmaSem sig) (s : ℕ) (i : Fin 16) : sProp 𝕄 :=
  iprop(Transfers.Flight EC (c : Thread nD τ) (.dma q) () nW
      iprop(wsl c s (wslC m c (cblk c i)) ∗ (((c : Thread nD τ).loc main_arg1) ↦[colsW (ccol c i) 512]{fullShare} Wv m c))
    ∗ (((c : Thread nD τ).loc main_arg1) ↦[Finset.univ \ colsW (ccol c i) 512]{fullShare} Wv m c))

section Steps
variable {α : Type}

theorem w_start {Q : α → sProp 𝕄} (c : Dev nD) (s : ℕ) (i : Fin 16) {q : DmaSem sig} {off : Fin 2 → ℕ} {inb st sinb st' hsq hsrc hdst hsem}
    {k : PUnit → Prog (TpuEff nD τ sig (Elt F) Λ₀ .tc) α} (hoff : off = ![0, ccol c i]) :
    wP m c ⊢ iprop((∃ f, wsl c s f) -∗ zero c q -∗ (Wfly m c q s i -∗ WP c (k ⟨⟩) Q)
      -∗ WP c (.op (.enqueueDma (WM.slice (Rect.unit (s := S1024x8192) off S1024x512.size inb) st)
          (.here ((wbM.slice (Rect.unit (s := S2x1024x512) ![s, 0, 0] S1x1024x512.size sinb) st').squeeze S1024x512 hsq)) (.dma q) hsrc hdst hsem) k) Q) := by
  have hs : s < 2 := by have := sinb 0; show s + 1 ≤ 2; exact this
  have hcc := ccol_le c i
  have hcd := ccol_dvd c i
  iintro Hw ⟨%f, Hs⟩ Hz Hk
  ihave Hw := (pointsTo_split_subset (Finset.subset_univ (colsW (ccol c i) 512))).1 $$ Hw
  icases Hw with ⟨Hw, Hr⟩
  iapply (copy_rule c (q := fullShare) (src := WM.slice (Rect.unit (s := S1024x8192) off S1024x512.size inb) st)
    (dst := (wbM.slice (Rect.unit (s := S2x1024x512) ![s, 0, 0] S1x1024x512.size sinb) st').squeeze S1024x512 hsq)
    (fs := Wv m c) (fd := f) (S := slab s 0 512) (S' := colsW (ccol c i) 512) (wslC m c (cblk c i))
    ((View.set_reshape _ _).trans ((View.set_slice_whole _ _).trans (unit_set3 sinb)))
    ((View.set_slice_whole _ _).trans (unit_set2 hoff inb)) nW rfl (View.dmaCredit_pos _ (by decide))
    (by
      funext x
      have hx1 : (x 1).val < 512 := (x 1).isLt
      have hx0 : (x 0).val < 1024 := (x 0).isLt
      refine (sq_read (B := 1024) (nc := 512) (wbM.slice (Rect.unit (s := S2x1024x512) ![s, 0, 0] S1x1024x512.size sinb) st') _ x).trans ?_
      refine (rd3 (A := 2) (B := 1024) (C := 512) (nc := 512) wbM.view _ (ix3 0 (x 0) (x 1)) hs hx1).trans ?_
      refine Eq.trans ?_ (rd2 WM.view (Wv m c) hoff x (by omega) (by omega)).symm
      show Wv m c (ix2 (x 0) ⟨512 * (ccol c i / 512) + (x 1).val, _⟩) = Wv m c (ix2 ⟨0 + (x 0).val, _⟩ ⟨ccol c i + (x 1).val, _⟩)
      congr 2
      · exact Fin.ext (Nat.zero_add _).symm
      · exact Fin.ext (by show 512 * (ccol c i / 512) + (x 1).val = ccol c i + (x 1).val; omega))) $$ [Hw Hs Hz] [Hr Hk]
  · isplitl [Hw]; · iexact Hw
    isplitl [Hs]; · iexact Hs
    iexact Hz
  · iintro HF
    iapply Hk
    unfold Wfly
    isplitl [HF]; · iexact HF
    iexact Hr

theorem w_wait {Q : α → sProp 𝕄} (K : Dev nD × CK → ℕ) (c : Dev nD) {q : DmaSem sig} (s : ℕ) (i : Fin 16) (r : ℕ) {sp} {src : Memref sig .tc sp S1024x512 .f32} {sinb st' hsq hsrc hdst}
    {k : PUnit → Prog (TpuEff nD τ sig (Elt F) Λ₀ .tc) α} (hr : r ≤ 16) (hq : ∀ kk, csem kk ≠ .dma q) :
    Ctx m ρ K ⊢ iprop(Wfly m c q s i -∗ Ow c r
      -∗ ((wP m c ∗ wsl c s (wslC m c (cblk c i)) ∗ zero c q ∗ Ow c r) -∗ WP c (k ⟨⟩) Q)
      -∗ WP c (.op (.waitDma2 q src ((wbM.slice (Rect.unit (s := S2x1024x512) ![s, 0, 0] S1x1024x512.size sinb) st').squeeze S1024x512 hsq) hsrc hdst) k) Q) := by
  unfold Wfly
  iintro HC ⟨HF, Hr⟩ HO Hk
  iapply (copy_wait m ρ K c (dst := (wbM.slice (Rect.unit (s := S2x1024x512) ![s, 0, 0] S1x1024x512.size sinb) st').squeeze S1024x512 hsq) nW r _ rfl hr hq) $$ [HC HF HO] [Hr Hk]
  · isplitl [HC]; · iexact HC
    isplitl [HF]; · iexact HF
    iexact HO
  · iintro ⟨HO, Hz, Hs, Hw⟩
    iapply Hk
    isplitl [Hw Hr]
    · iapply (pointsTo_split_subset (Finset.subset_univ (colsW (ccol c i) 512))).2
      isplitl [Hw]; · iexact Hw
      iexact Hr
    isplitl [Hs]; · iexact Hs
    isplitl [Hz]; · iexact Hz
    iexact HO

/-! ## Computing a piece -/

theorem x_read (g : Vec F S512x1024 .f32) {inb} : (xM.access (Rect.unit (s := S512x1024) ![0, 0] S512x1024.size inb)).read (Elt F) g = g := by
  funext x
  have hx1 : (x 1).val < 1024 := Fin.isLt (n := 1024) (x 1)
  have hx0 : (x 0).val < 512 := Fin.isLt (n := 512) (x 0)
  refine (rd2 (R := 512) (C := 1024) (nr := 512) (nc := 1024) xM.view g rfl x (by omega) (by omega)).trans ?_
  show g (ix2 ⟨0 + (x 0).val, _⟩ ⟨0 + (x 1).val, _⟩) = g x
  congr 1
  funext a
  match a with
  | ⟨0, _⟩ => exact Fin.ext (Nat.zero_add _)
  | ⟨1, _⟩ => exact Fin.ext (Nat.zero_add _)

theorem ld_x' {Q : α → sProp 𝕄} (c : Dev nD) (g : Vec F S512x1024 .f32) {inb hl} {k : (S512x1024.Idx → Elt F .f32) → Prog (TpuEff nD τ sig (Elt F) Λ₀ .tc) α} :
    (((c : Thread nD τ).loc cc0_stg0_0) ↦{fullShare} g : sProp 𝕄) ⊢ iprop(((((c : Thread nD τ).loc cc0_stg0_0) ↦{fullShare} g) -∗ WP c (k g) Q)
      -∗ WP c (.op (.load xM (Rect.unit (s := S512x1024) ![0, 0] S512x1024.size inb).toLoadRect hl) k) Q) := by
  iintro Hx Hk
  have h := load_rule c (M := xM) (r := Rect.unit (s := S512x1024) ![0, 0] S512x1024.size inb) (hl := hl) (k := k) (S := Finset.univ) (q := fullShare)
    (f := g) (Q := Q) g (Finset.subset_univ _) (x_read g)
  iapply h $$ Hx
  iexact Hk

theorem ld_x {Q : α → sProp 𝕄} (c : Dev nD) {inb hl} {k : (S512x1024.Idx → Elt F .f32) → Prog (TpuEff nD τ sig (Elt F) Λ₀ .tc) α} :
    xP m ρ c ⊢ iprop((xP m ρ c -∗ WP c (k (xv m ρ c)) Q)
      -∗ WP c (.op (.load xM (Rect.unit (s := S512x1024) ![0, 0] S512x1024.size inb).toLoadRect hl) k) Q) := ld_x' c (xv m ρ c)

theorem ld_w {Q : α → sProp 𝕄} (c : Dev nD) (s : ℕ) (i : Fin 16) {inb hl} {k : (S1x1024x512.Idx → Elt F .f32) → Prog (TpuEff nD τ sig (Elt F) Λ₀ .tc) α} :
    wsl c s (wslC m c (cblk c i)) ⊢ iprop((wsl c s (wslC m c (cblk c i)) -∗ WP c (k (Wch m c (cblk c i))) Q)
      -∗ WP c (.op (.load wbM (Rect.unit (s := S2x1024x512) ![s, 0, 0] S1x1024x512.size inb).toLoadRect hl) k) Q) := by
  have hs : s < 2 := by have := inb 0; show s + 1 ≤ 2; exact this
  exact load_rule c (M := wbM) (r := Rect.unit (s := S2x1024x512) ![s, 0, 0] S1x1024x512.size inb) (hl := hl) (k := k) (S := slab s 0 512) (q := fullShare)
    (f := wslC m c (cblk c i)) (Q := Q) (Wch m c (cblk c i)) (subset_of_eq ((View.set_slice_whole _ _).trans (unit_set3 inb))) (by
    funext x
    have hx0 : (x 0).val < 1 := Fin.isLt (n := 1) (x 0)
    have hx2 : (x 2).val < 512 := Fin.isLt (n := 512) (x 2)
    refine (rd3 (A := 2) (B := 1024) (C := 512) (nc := 512) wbM.view _ x hs hx2).trans ?_
    show Wch m c (cblk c i) (ix3 0 (x 1) (x 2)) = Wch m c (cblk c i) x
    congr 1
    funext a
    match a with
    | ⟨0, _⟩ => exact Fin.ext (by show 0 = (x 0).val; omega)
    | ⟨1, _⟩ => rfl
    | ⟨2, _⟩ => rfl)

theorem e_step {Q : α → sProp 𝕄} (c : Dev nD) (i : Fin 16) {off : Fin 2 → ℕ} {inb hl inb' hx hm} {w : S512x512.Idx → Elt F .bf16}
    {k : PUnit → Prog (TpuEff nD τ sig (Elt F) Λ₀ .tc) α} (hoff : off = ![0, ccol c i]) (hw : w = k0_pay3 (xv m ρ c) (Wch m c (cblk c i))) :
    iprop(∃ f, eP c (cols (ccol c i) 512) fullShare f : sProp 𝕄)
      ⊢ iprop((eP c (cols (ccol c i) 512) fullShare (Ev m ρ c) -∗ WP c (k ⟨⟩) Q)
        -∗ WP c (.op (.load eM (Rect.unit (s := S512x8192) off S512x512.size inb).toLoadRect hl)
            fun _ => .op (.store eM (Rect.unit (s := S512x8192) off S512x512.size inb') w Finset.univ hx hm) k) Q) := by
  subst hw
  have hcc := ccol_le c i
  have hset : (eM.access (Rect.unit (s := S512x8192) off S512x512.size inb)).set = cols (ccol c i) 512 := (View.set_slice_whole _ _).trans (unit_set2 hoff inb)
  iintro ⟨%f, He⟩ Hk
  iapply (load_rule c (M := eM) _ (subset_of_eq hset) rfl) $$ He
  iintro He
  iapply (store_rule c (M := eM) (Ev m ρ c) hset (by
    funext x
    have hx1 : (x 1).val < 512 := (x 1).isLt
    have hx0 : (x 0).val < 512 := (x 0).isLt
    refine (rd2 eM.view (Ev m ρ c) hoff x (by omega) (by omega)).trans ?_
    refine Eq.trans ?_ (e_val m ρ c i x).symm
    show Ev m ρ c (ix2 ⟨0 + (x 0).val, _⟩ _) = Ev m ρ c (ix2 (x 0) _)
    congr 2
    exact Fin.ext (Nat.zero_add _))) $$ He
  iexact Hk

/-! ## The exchange's sends -/

theorem credZ {off : Fin 2 → ℕ} {inb st} : (inM.slice (Rect.unit (s := S512x8192) off S512x512.size inb) st).view.dmaCredit = nZ := by
  simp only [View.dmaCredit]; rfl
theorem credX {off : Fin 2 → ℕ} {inb st} : (inM.slice (Rect.unit (s := S512x8192) off S512x1024.size inb) st).view.dmaCredit = nX := by
  simp only [View.dmaCredit]; rfl
theorem credS : siM.view.dmaCredit = nS := by
  simp only [View.dmaCredit]

theorem z_send {Q : α → sProp 𝕄} (K : Dev nD × CK → ℕ) (c n : Dev nD) (j : Fin 8) (r : ℕ) {qS qR : DmaSem sig} {off : Fin 2 → ℕ} {inb st inb' st' hsc hsrc hdst hsem}
    {k : PUnit → Prog (TpuEff nD τ sig (Elt F) Λ₀ .tc) α} (hoff : off = ![0, ccol c (Fin.castLE (by decide) j)]) (hn : n = zn c)
    (ht : tgt c r = (zn c, .zr j)) (hqS : SemLoc.dma qS = csem (.zs j)) (hqR : SemLoc.dma qR = csem (.zr j)) :
    Ctx m ρ K ⊢ iprop(Sd c (zn c) (.zs j) (.zr j) -∗ eP c (zB c j) fullShare (Ev m ρ c)
      -∗ (∃ f, inP (zn c) (zB c j) fullShare f) -∗ Ow c (r + 1)
      -∗ ((Wt c (.zs j) ∗ eP c (zB c j) fullShare.right (Ev m ρ c) ∗ Ow c r) -∗ WP c (k ⟨⟩) Q)
      -∗ WP c (.op (.enqueueDma (eM.slice (Rect.unit (s := S512x8192) off S512x512.size inb) st)
          (.remote (Dev.tc n : Thread nD τ) (inM.slice (Rect.unit (s := S512x8192) off S512x512.size inb') st') (.dma qS) hsc) (.dma qR) hsrc hdst hsem) k) Q) := by
  have hcc := ccol_le c (Fin.castLE (by decide) j)
  have hzz : zB (zn c) j = zB c j := by
    unfold zB ccol; rw [cM_zn, cD_zn, cX_zn, cY_zn]
  iintro HC HS He ⟨%f, Hd⟩ HO Hk
  ihave He := (pointsTo_share (PosShare.mem_left_op_right fullShare)).1 $$ He
  icases He with ⟨HeL, HeR⟩
  iapply (xsend m ρ K c n (zn c) (.zs j) (.zr j)
    (src := eM.slice (Rect.unit (s := S512x8192) off S512x512.size inb) st)
    (dst := inM.slice (Rect.unit (s := S512x8192) off S512x512.size inb') st')
    (q := fullShare.left) (fs := Ev m ρ c) (fd := f) (S := zB c j) (S' := zB c j) (INv m ρ (zn c)) r hn ht hqS hqR
    (by simp) (by simp) rfl credZ ((View.set_slice_whole _ _).trans (unit_set2 hoff inb')) ((View.set_slice_whole _ _).trans (unit_set2 hoff inb))
    (by
      intro i hi
      have hv : (inM.slice (Rect.unit (s := S512x8192) off S512x512.size inb') st').view.set = zB c j :=
        (View.set_slice_whole _ _).trans (unit_set2 hoff inb')
      have hi' : i ∈ (inM.slice (Rect.unit (s := S512x8192) off S512x512.size inb') st').view.set := by rw [hv]; exact hi
      refine (write_on (inM.slice (Rect.unit (s := S512x8192) off S512x512.size inb') st').view f (Ev m ρ c) _ rfl i hi').trans ?_
      show Ev m ρ c i = Ev m ρ (srcOf (zn c) (i 1).val) i
      rw [src_z (zn c) j (i 1).val, zn_zn]
      have hm := (mem_box.mp hi).2
      have : ccol (zn c) (Fin.castLE (by decide) j) = ccol c (Fin.castLE (by decide) j) := by unfold ccol; rw [cM_zn, cD_zn, cX_zn, cY_zn]
      rw [this]; exact hm)
    (Entails.of_eq rfl) (by
      show inP (zn c) (zB c j) fullShare (INv m ρ (zn c)) ⊢ inP (zn c) (zB (zn c) j) fullShare (INv m ρ (zn c))
      rw [hzz])) $$ [HC HS HeL Hd HO] [HeR Hk]
  · isplitl [HC]; · iexact HC
    isplitl [HS]; · iexact HS
    isplitl [HeL]; · iexact HeL
    isplitl [Hd]; · iexact Hd
    iexact HO
  · iintro ⟨HW, HO⟩
    iapply Hk
    isplitl [HW]; · iexact HW
    isplitl [HeR]; · iexact HeR
    iexact HO

theorem s_send {Q : α → sProp 𝕄} (K : Dev nD × CK → ℕ) (c n : Dev nD) {qS qR : DmaSem sig} {hsc hsrc hdst hsem}
    {k : PUnit → Prog (TpuEff nD τ sig (Elt F) Λ₀ .tc) α} (hn : n = zn c)
    (hqS : SemLoc.dma qS = csem .ss) (hqR : SemLoc.dma qR = csem .sr) :
    Ctx m ρ K ⊢ iprop(Sd c (zn c) .ss .sr -∗ sbP c (Sv m ρ c) -∗ (∃ f, siP (zn c) f) -∗ Ow c 9
      -∗ ((Wt c .ss ∗ Ow c 8) -∗ WP c (k ⟨⟩) Q)
      -∗ WP c (.op (.enqueueDma sbM (.remote (Dev.tc n : Thread nD τ) siM (.dma qS) hsc) (.dma qR) hsrc hdst hsem) k) Q) := by
  iintro HC HS He ⟨%f, Hd⟩ HO Hk
  iapply (xsend m ρ K c n (zn c) .ss .sr (src := sbM) (dst := siM)
    (q := fullShare) (fs := Sv m ρ c) (fd := f) (S := Finset.univ) (S' := Finset.univ) (Sv m ρ c) 8 hn rfl hqS hqR
    (by simp) (by simp) rfl credS (View.set_whole _) (View.set_whole _)
    (fun i _ => write_on siM.view f (Sv m ρ c) _ rfl i (by rw [View.set_whole]; exact Finset.mem_univ _))
    (Entails.of_eq rfl) (by
      show siP (zn c) (Sv m ρ c) ⊢ siP (zn c) (Sv m ρ (zn (zn c)))
      rw [zn_zn])) $$ [HC HS He Hd HO] [Hk]
  · isplitl [HC]; · iexact HC
    isplitl [HS]; · iexact HS
    isplitl [He]; · iexact He
    isplitl [Hd]; · iexact Hd
    iexact HO
  · iexact Hk

theorem in_agree (c p : Dev nD) (f : Fin 2) (i : S512x8192.Idx) (hi : i ∈ mB c f) (h : ∀ n, cM c ≤ n ∧ n < cM c + 2048 → srcOf p n = srcOf c n) :
    INv m ρ c i = INv m ρ p i := by
  have hm := (mem_box.mp hi).2
  have hf := f.isLt
  show Ev m ρ (srcOf c (i 1).val) i = Ev m ρ (srcOf p (i 1).val) i
  rw [h _ (by omega)]

theorem x_send {Q : α → sProp 𝕄} (K : Dev nD × CK → ℕ) (c n : Dev nD) (f : Fin 2) (r : ℕ) {qS qR : DmaSem sig} {off : Fin 2 → ℕ} {inb st inb' st' hsc hsrc hdst hsem}
    {k : PUnit → Prog (TpuEff nD τ sig (Elt F) Λ₀ .tc) α} (hoff : off = ![0, cM c + 1024 * f.val]) (hn : n = xn c)
    (ht : tgt c r = (xn c, .xr f)) (hqS : SemLoc.dma qS = csem (.xs f)) (hqR : SemLoc.dma qR = csem (.xr f)) :
    Ctx m ρ K ⊢ iprop(Sd c (xn c) (.xs f) (.xr f) -∗ inP c (mB c f) fullShare.left (INv m ρ c)
      -∗ (∃ g, inP (xn c) (mB c f) fullShare g) -∗ Ow c (r + 1)
      -∗ ((Wt c (.xs f) ∗ Ow c r) -∗ WP c (k ⟨⟩) Q)
      -∗ WP c (.op (.enqueueDma (inM.slice (Rect.unit (s := S512x8192) off S512x1024.size inb) st)
          (.remote (Dev.tc n : Thread nD τ) (inM.slice (Rect.unit (s := S512x8192) off S512x1024.size inb') st') (.dma qS) hsc) (.dma qR) hsrc hdst hsem) k) Q) := by
  have hv : (inM.slice (Rect.unit (s := S512x8192) off S512x1024.size inb') st').view.set = mB c f :=
    (View.set_slice_whole _ _).trans (unit_set2 hoff inb')
  iintro HC HS He ⟨%g, Hd⟩ HO Hk
  iapply (xsend m ρ K c n (xn c) (.xs f) (.xr f)
    (src := inM.slice (Rect.unit (s := S512x8192) off S512x1024.size inb) st)
    (dst := inM.slice (Rect.unit (s := S512x8192) off S512x1024.size inb') st')
    (q := fullShare.left) (fs := INv m ρ c) (fd := g) (S := mB c f) (S' := mB c f) (INv m ρ (xn c)) r hn ht hqS hqR
    (by simp) (by simp) rfl credX hv ((View.set_slice_whole _ _).trans (unit_set2 hoff inb))
    (fun i hi => (write_on (inM.slice (Rect.unit (s := S512x8192) off S512x1024.size inb') st').view g (INv m ρ c) _ rfl i (by rw [hv]; exact hi)).trans
      (in_agree m ρ c (xn c) f i hi fun n hn => by
        rw [src_x (xn c) n (by rw [cX_xn]; exact hn), xn_xn]))
    (Entails.of_eq rfl) (by
      show inP (xn c) (mB c f) fullShare (INv m ρ (xn c)) ⊢ inP (xn c) (xB (xn c) f) fullShare (INv m ρ (xn c))
      unfold xB mB; rw [cX_xn])) $$ [HC HS He Hd HO] [Hk]
  · isplitl [HC]; · iexact HC
    isplitl [HS]; · iexact HS
    isplitl [He]; · iexact He
    isplitl [Hd]; · iexact Hd
    iexact HO
  · iexact Hk

theorem y_send {Q : α → sProp 𝕄} (K : Dev nD × CK → ℕ) (c n : Dev nD) (f : Fin 2) (r : ℕ) {qS qR : DmaSem sig} {off : Fin 2 → ℕ} {inb st inb' st' hsc hsrc hdst hsem}
    {k : PUnit → Prog (TpuEff nD τ sig (Elt F) Λ₀ .tc) α} (hoff : off = ![0, cM c + 1024 * f.val]) (hn : n = yn c)
    (ht : tgt c r = (yn c, .yr f)) (hqS : SemLoc.dma qS = csem (.ys f)) (hqR : SemLoc.dma qR = csem (.yr f)) :
    Ctx m ρ K ⊢ iprop(Sd c (yn c) (.ys f) (.yr f) -∗ inP c (mB c f) fullShare.right.left (INv m ρ c)
      -∗ (∃ g, inP (yn c) (mB c f) fullShare g) -∗ Ow c (r + 1)
      -∗ ((Wt c (.ys f) ∗ Ow c r) -∗ WP c (k ⟨⟩) Q)
      -∗ WP c (.op (.enqueueDma (inM.slice (Rect.unit (s := S512x8192) off S512x1024.size inb) st)
          (.remote (Dev.tc n : Thread nD τ) (inM.slice (Rect.unit (s := S512x8192) off S512x1024.size inb') st') (.dma qS) hsc) (.dma qR) hsrc hdst hsem) k) Q) := by
  have hv : (inM.slice (Rect.unit (s := S512x8192) off S512x1024.size inb') st').view.set = mB c f :=
    (View.set_slice_whole _ _).trans (unit_set2 hoff inb')
  iintro HC HS He ⟨%g, Hd⟩ HO Hk
  iapply (xsend m ρ K c n (yn c) (.ys f) (.yr f)
    (src := inM.slice (Rect.unit (s := S512x8192) off S512x1024.size inb) st)
    (dst := inM.slice (Rect.unit (s := S512x8192) off S512x1024.size inb') st')
    (q := fullShare.right.left) (fs := INv m ρ c) (fd := g) (S := mB c f) (S' := mB c f) (INv m ρ (yn c)) r hn ht hqS hqR
    (by simp) (by simp) rfl credX hv ((View.set_slice_whole _ _).trans (unit_set2 hoff inb))
    (fun i hi => (write_on (inM.slice (Rect.unit (s := S512x8192) off S512x1024.size inb') st').view g (INv m ρ c) _ rfl i (by rw [hv]; exact hi)).trans
      (in_agree m ρ c (yn c) f i hi fun n hn => by
        rw [src_y (yn c) n (by rw [cY_yn]; exact hn), yn_yn]))
    (Entails.of_eq rfl) (by
      show inP (yn c) (mB c f) fullShare (INv m ρ (yn c)) ⊢ inP (yn c) (yB (yn c) f) fullShare (INv m ρ (yn c))
      unfold yB mB; rw [cY_yn])) $$ [HC HS He Hd HO] [Hk]
  · isplitl [HC]; · iexact HC
    isplitl [HS]; · iexact HS
    isplitl [He]; · iexact He
    isplitl [Hd]; · iexact Hd
    iexact HO
  · iexact Hk

end Steps

end Cert.Gather

end
-- ==== Proof.Output.lean ====
module

public import proofs.«01_k».proof.Proof.Pieces

/-! # The steps that write the output

The row sums, the reads of landed columns and of bands of rows, and the copies of scaled columns and bands to the
output. -/

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

section Steps
variable {α : Type}

/-! ## The row sums -/

theorem col_read (M : Memref sig .tc .vmem S512x1 .f32) (g : M.view.ty.Contents (Elt F)) {inb} :
    (M.access (Rect.unit (s := S512x1) ![0, 0] S512x1.size inb)).read (Elt F) g = M.view.read (Elt F) g := by
  funext x
  have hx1 : (x 1).val < 1 := Fin.isLt (n := 1) (x 1)
  have hx0 : (x 0).val < 512 := Fin.isLt (n := 512) (x 0)
  refine (rd2 (R := 512) (C := 1) (nr := 512) (nc := 1) M.view g rfl x (by omega) (by omega)).trans ?_
  congr 1
  funext a
  match a with
  | ⟨0, _⟩ => exact Fin.ext (Nat.zero_add _)
  | ⟨1, _⟩ => exact Fin.ext (Nat.zero_add _)

theorem s_step {Q : α → sProp 𝕄} (c : Dev nD) {inb hl inb' hx hm} {w : S512x1.Idx → Elt F .f32}
    {k : PUnit → Prog (TpuEff nD τ sig (Elt F) Λ₀ .tc) α} (hw : w = Sv m ρ c) :
    iprop(∃ f, sbP c f : sProp 𝕄)
      ⊢ iprop((sbP c (Sv m ρ c) -∗ WP c (k ⟨⟩) Q)
        -∗ WP c (.op (.load sbM (Rect.unit (s := S512x1) ![0, 0] S512x1.size inb).toLoadRect hl)
            fun _ => .op (.store sbM (Rect.unit (s := S512x1) ![0, 0] S512x1.size inb') w Finset.univ hx hm) k) Q) := by
  subst hw
  have hset : (sbM.access (Rect.unit (s := S512x1) ![0, 0] S512x1.size inb)).set = Finset.univ := by
    refine (View.set_slice_whole _ _).trans ((unit_set2 rfl inb).trans ?_)
    ext i
    have h0 : (i 0).val < 512 := (i 0).isLt
    have h1 : (i 1).val < 1 := (i 1).isLt
    simp only [mem_box, Finset.mem_univ, iff_true]
    omega
  iintro ⟨%f, He⟩ Hk
  iapply (load_rule c (M := sbM) _ (subset_of_eq hset) rfl) $$ He
  iintro He
  iapply (store_rule c (M := sbM) (Sv m ρ c) hset (col_read sbM (Sv m ρ c))) $$ He
  iexact Hk

theorem ld_s {Q : α → sProp 𝕄} (c : Dev nD) (g : Vec F S512x1 .f32) {inb hl} {k : (S512x1.Idx → Elt F .f32) → Prog (TpuEff nD τ sig (Elt F) Λ₀ .tc) α} :
    siP c g ⊢ iprop((siP c g -∗ WP c (k g) Q)
      -∗ WP c (.op (.load siM (Rect.unit (s := S512x1) ![0, 0] S512x1.size inb).toLoadRect hl) k) Q) := by
  iintro Hx Hk
  have h := load_rule c (M := siM) (r := Rect.unit (s := S512x1) ![0, 0] S512x1.size inb) (hl := hl) (k := k) (S := Finset.univ) (q := fullShare)
    (f := g) (Q := Q) g (Finset.subset_univ _) (col_read siM g)
  iapply h $$ Hx
  iexact Hk

/-! ## Reading columns and bands -/

theorem ld_in {Q : α → sProp 𝕄} (c : Dev nD) (w n : ℕ) (B : Finset S512x8192.Idx) (q : PosShare TreeShare) (hB : box 0 512 n w ⊆ B) (hn : n + w ≤ 8192) {off : Fin 2 → ℕ} {inb hl}
    {k : (Shape.Idx ⟨2, ![512, w]⟩ → Elt F .bf16) → Prog (TpuEff nD τ sig (Elt F) Λ₀ .tc) α} (hoff : off = ![0, n]) :
    inP c B q (INv m ρ c) ⊢ iprop((inP c B q (INv m ρ c) -∗ WP c (k (inC m ρ c w n)) Q)
      -∗ WP c (.op (.load inM (Rect.unit (s := S512x8192) off (⟨2, ![512, w]⟩ : Shape).size inb).toLoadRect hl) k) Q) := by
  iintro Hx Hk
  have h := load_rule c (M := inM) (r := Rect.unit (s := S512x8192) off (⟨2, ![512, w]⟩ : Shape).size inb) (hl := hl) (k := k) (S := B) (q := q)
    (f := INv m ρ c) (Q := Q) (inC m ρ c w n) (((View.set_slice_whole _ _).trans (unit_set2 hoff inb)).trans_subset hB) (by
    funext x
    have hx1 : (x 1).val < w := Fin.isLt (n := w) (x 1)
    have hx0 : (x 0).val < 512 := Fin.isLt (n := 512) (x 0)
    refine (rd2 (R := 512) (C := 8192) (nr := 512) (nc := w) inM.view (INv m ρ c) hoff x (by omega) (by omega)).trans ?_
    show INv m ρ c (ix2 ⟨0 + (x 0).val, _⟩ ⟨n + (x 1).val, _⟩) = INv m ρ c (ix2 (x 0) ⟨(n + (x 1).val) % 8192, _⟩)
    congr 2
    · exact Fin.ext (Nat.zero_add _)
    · exact Fin.ext (Nat.mod_eq_of_lt (by omega)).symm)
  iapply h $$ Hx
  iexact Hk

theorem ld_e {Q : α → sProp 𝕄} (c : Dev nD) (b : ℕ) (hb : b < 8) (q : PosShare TreeShare) {off : Fin 2 → ℕ} {inb hl}
    {k : (S64x8192.Idx → Elt F .bf16) → Prog (TpuEff nD τ sig (Elt F) Λ₀ .tc) α} (hoff : off = ![64 * b, 0]) :
    eP c Finset.univ q (Ev m ρ c) ⊢ iprop((eP c Finset.univ q (Ev m ρ c) -∗ WP c (k (eC m ρ c b)) Q)
      -∗ WP c (.op (.load eM (Rect.unit (s := S512x8192) off S64x8192.size inb).toLoadRect hl) k) Q) := by
  iintro Hx Hk
  have h := load_rule c (M := eM) (r := Rect.unit (s := S512x8192) off S64x8192.size inb) (hl := hl) (k := k) (S := Finset.univ) (q := q)
    (f := Ev m ρ c) (Q := Q) (eC m ρ c b) (Finset.subset_univ _) (by
    funext x
    have hx1 : (x 1).val < 8192 := Fin.isLt (n := 8192) (x 1)
    have hx0 : (x 0).val < 64 := Fin.isLt (n := 64) (x 0)
    refine (rd2 (R := 512) (C := 8192) (nr := 64) (nc := 8192) eM.view (Ev m ρ c) hoff x (by omega) (by omega)).trans ?_
    show Ev m ρ c (ix2 ⟨64 * b + (x 0).val, _⟩ ⟨0 + (x 1).val, _⟩) = Ev m ρ c (ix2 ⟨(64 * b + (x 0).val) % 512, _⟩ (x 1))
    congr 2
    · exact Fin.ext (Nat.mod_eq_of_lt (by omega)).symm
    · exact Fin.ext (Nat.zero_add _))
  iapply h $$ Hx
  iexact Hk

/-! ## A run of columns into the output -/

abbrev nO (w : ℕ) : ℕ := (main_v1 : Ref sig .tc).dmaCredit ⟨2, ![512, w]⟩ .f32

/-- A run of columns on its way to the output. -/
def OF (c : Dev nD) (q : DmaSem sig) (s n w : ℕ) : sProp 𝕄 :=
  Transfers.Flight EC (c : Thread nD τ) (.dma q) () (nO w)
      iprop(outP c (oB c n w) (OUTv m ρ c) ∗ rsl c s w (slotC m ρ c (8192 * (1 - c.val % 2) + n)))

theorem rp_store {Q : α → sProp 𝕄} (c : Dev nD) (s w n : ℕ) (hw : w ≤ 1024) (hn : n + w ≤ 8192) {inb hl inb' hx hm} {v : Shape.Idx ⟨3, ![1, 512, w]⟩ → Elt F .f32}
    {k : PUnit → Prog (TpuEff nD τ sig (Elt F) Λ₀ .tc) α} {hb hc}
    (hv : v = shapeCast ⟨3, ![1, 512, w]⟩ (mulf (extf .f32 (inC m ρ c w n) bitsLt_bf16_f32) (broadcastTo ⟨2, ![512, w]⟩ (INVv m ρ c) hb)) hc) :
    iprop(∃ f, rsl c s w f : sProp 𝕄)
      ⊢ iprop((rsl c s w (slotC m ρ c (8192 * (1 - c.val % 2) + n)) -∗ WP c (k ⟨⟩) Q)
        -∗ WP c (.op (.load rpM (Rect.unit (s := S2x512x1024) ![s, 0, 0] (⟨3, ![1, 512, w]⟩ : Shape).size inb).toLoadRect hl)
            fun _ => .op (.store rpM (Rect.unit (s := S2x512x1024) ![s, 0, 0] (⟨3, ![1, 512, w]⟩ : Shape).size inb') v Finset.univ hx hm) k) Q) := by
  subst hv
  have hs : s < 2 := by have := inb 0; show s + 1 ≤ 2; exact this
  have hset : (rpM.access (Rect.unit (s := S2x512x1024) ![s, 0, 0] (⟨3, ![1, 512, w]⟩ : Shape).size inb)).set = slab s 0 w := (View.set_slice_whole _ _).trans (unit_set3 inb)
  iintro ⟨%f, He⟩ Hk
  iapply (load_rule c (M := rpM) (r := Rect.unit (s := S2x512x1024) ![s, 0, 0] (⟨3, ![1, 512, w]⟩ : Shape).size inb) _ (subset_of_eq hset) rfl) $$ He
  iintro He
  iapply (store_rule c (M := rpM) (r := Rect.unit (s := S2x512x1024) ![s, 0, 0] (⟨3, ![1, 512, w]⟩ : Shape).size inb') (slotC m ρ c (8192 * (1 - c.val % 2) + n)) hset (by
    funext x
    have hx2 : (x 2).val < w := Fin.isLt (n := w) (x 2)
    refine (rd3 (A := 2) (B := 512) (C := 1024) (nc := w) rpM.view _ x hs (by omega)).trans ?_
    exact slot_val m ρ c n hn hw hb hc ⟨s, hs⟩ x (by omega))) $$ He
  iexact Hk

theorem rp_issue {Q : α → sProp 𝕄} (c : Dev nD) (s w n : ℕ) (hw : 0 < w) (hw' : w ≤ 1024) (hn : n + w ≤ 8192) {q : DmaSem sig} {off : Fin 2 → ℕ} {sinb st hsq inb st' hsrc hdst hsem}
    {k : PUnit → Prog (TpuEff nD τ sig (Elt F) Λ₀ .tc) α} (hoff : off = ![0, 8192 * (1 - c.val % 2) + n]) :
    rsl c s w (slotC m ρ c (8192 * (1 - c.val % 2) + n)) ⊢ iprop((∃ f, outP c (oB c n w) f) -∗ zero c q -∗ (OF m ρ c q s n w -∗ WP c (k ⟨⟩) Q)
      -∗ WP c (.op (.enqueueDma ((rpM.slice (Rect.unit (s := S2x512x1024) ![s, 0, 0] (⟨3, ![1, 512, w]⟩ : Shape).size sinb) st).squeeze ⟨2, ![512, w]⟩ hsq)
          (.here (outM.slice (Rect.unit (s := S512x16384) off (⟨2, ![512, w]⟩ : Shape).size inb) st')) (.dma q) hsrc hdst hsem) k) Q) := by
  have hs : s < 2 := by have := sinb 0; show s + 1 ≤ 2; exact this
  have h8 := lt8 c
  iintro Hw ⟨%f, Hs⟩ Hz Hk
  iapply (copy_rule c (q := fullShare)
    (src := (rpM.slice (Rect.unit (s := S2x512x1024) ![s, 0, 0] (⟨3, ![1, 512, w]⟩ : Shape).size sinb) st).squeeze ⟨2, ![512, w]⟩ hsq)
    (dst := outM.slice (Rect.unit (s := S512x16384) off (⟨2, ![512, w]⟩ : Shape).size inb) st')
    (fs := slotC m ρ c (8192 * (1 - c.val % 2) + n)) (fd := f) (S := oB c n w) (S' := slab s 0 w) (OUTv m ρ c)
    ((View.set_slice_whole _ _).trans (unit_set2 hoff inb))
    ((View.set_reshape _ _).trans ((View.set_slice_whole _ _).trans (unit_set3 sinb))) (nO w) rfl (View.dmaCredit_pos (outM.slice (Rect.unit (s := S512x16384) off (⟨2, ![512, w]⟩ : Shape).size inb) st').view (Shape.numel_pos fun a => by
      match a with
      | ⟨0, _⟩ => exact (by decide : 0 < 512)
      | ⟨1, _⟩ => exact hw))
    (by
      funext x
      have hx1 : (x 1).val < w := (x 1).isLt
      have hx0 : (x 0).val < 512 := (x 0).isLt
      refine (rd2 (R := 512) (C := 16384) (nr := 512) (nc := w) outM.view (OUTv m ρ c) hoff x (by omega) (by omega)).trans ?_
      refine Eq.trans ?_ (sq_read (B := 512) (nc := w) (rpM.slice (Rect.unit (s := S2x512x1024) ![s, 0, 0] (⟨3, ![1, 512, w]⟩ : Shape).size sinb) st) _ x).symm
      refine Eq.trans ?_ (rd3 (A := 2) (B := 512) (C := 1024) (nc := w) rpM.view _ (ix3 0 (x 0) (x 1)) hs (by show (x 1).val < 1024; omega)).symm
      show OUTv m ρ c (ix2 ⟨0 + (x 0).val, _⟩ ⟨8192 * (1 - c.val % 2) + n + (x 1).val, _⟩) = OUTv m ρ c (ix2 (x 0) ⟨(8192 * (1 - c.val % 2) + n + (x 1).val) % 16384, _⟩)
      congr 2
      · exact Fin.ext (Nat.zero_add _)
      · exact Fin.ext (Nat.mod_eq_of_lt (by omega)).symm)) $$ [Hw Hs Hz] [Hk]
  · isplitl [Hw]; · iexact Hw
    isplitl [Hs]; · iexact Hs
    iexact Hz
  · iexact Hk

theorem rp_wait {Q : α → sProp 𝕄} (K : Dev nD × CK → ℕ) (c : Dev nD) {q : DmaSem sig} (s w n : ℕ) (r : ℕ) {sp} {src : Memref sig .tc sp ⟨2, ![512, w]⟩ .f32} {off : Fin 2 → ℕ} {inb st hsrc hdst}
    {k : PUnit → Prog (TpuEff nD τ sig (Elt F) Λ₀ .tc) α} (hr : r ≤ 16) (hq : ∀ kk, csem kk ≠ .dma q) :
    Ctx m ρ K ⊢ iprop(OF m ρ c q s n w -∗ Ow c r
      -∗ ((outP c (oB c n w) (OUTv m ρ c) ∗ (∃ f, rsl c s w f) ∗ zero c q ∗ Ow c r) -∗ WP c (k ⟨⟩) Q)
      -∗ WP c (.op (.waitDma2 q src (outM.slice (Rect.unit (s := S512x16384) off (⟨2, ![512, w]⟩ : Shape).size inb) st) hsrc hdst) k) Q) := by
  unfold OF
  iintro HC HF HO Hk
  iapply (copy_wait m ρ K c (dst := outM.slice (Rect.unit (s := S512x16384) off (⟨2, ![512, w]⟩ : Shape).size inb) st) (nO w) r _ rfl hr hq) $$ [HC HF HO] [Hk]
  · isplitl [HC]; · iexact HC
    isplitl [HF]; · iexact HF
    iexact HO
  · iintro ⟨HO, Hz, Hs, Hw⟩
    iapply Hk
    isplitl [Hs]; · iexact Hs
    isplitl [Hw]; · iexists _; iexact Hw
    isplitl [Hz]; · iexact Hz
    iexact HO

/-! ## A band of rows into the output -/

abbrev nB : ℕ := (main_v1 : Ref sig .tc).dmaCredit S64x8192 .f32

/-- A band of rows on its way to the output. -/
def BF (c : Dev nD) (q : DmaSem sig) (s b : ℕ) : sProp 𝕄 :=
  Transfers.Flight EC (c : Thread nD τ) (.dma q) () nB
      iprop(outP c (bB c b) (OUTv m ρ c) ∗ bsl c s (bandC m ρ c b))

theorem rb_store {Q : α → sProp 𝕄} (c : Dev nD) (s b : ℕ) (hb : b < 8) {inb hl inb' hx hm} {v : S1x64x8192.Idx → Elt F .f32}
    {k : PUnit → Prog (TpuEff nD τ sig (Elt F) Λ₀ .tc) α} {hs}
    (hv : v = shapeCast S1x64x8192 (mulf (extf .f32 (eC m ρ c b) bitsLt_bf16_f32) (broadcastTo S64x8192 (extractStridedSlice S64x1 ![64 * b, 0] (INVv m ρ c) hs) broadcasts_S64x1_S64x8192))
        shapeCasts_S64x8192_S1x64x8192) :
    iprop(∃ f, bsl c s f : sProp 𝕄)
      ⊢ iprop((bsl c s (bandC m ρ c b) -∗ WP c (k ⟨⟩) Q)
        -∗ WP c (.op (.load rbM (Rect.unit (s := S2x64x8192) ![s, 0, 0] S1x64x8192.size inb).toLoadRect hl)
            fun _ => .op (.store rbM (Rect.unit (s := S2x64x8192) ![s, 0, 0] S1x64x8192.size inb') v Finset.univ hx hm) k) Q) := by
  subst hv
  have hs' : s < 2 := by have := inb 0; show s + 1 ≤ 2; exact this
  have hset : (rbM.access (Rect.unit (s := S2x64x8192) ![s, 0, 0] S1x64x8192.size inb)).set = slab s 0 8192 := (View.set_slice_whole _ _).trans (unit_set3 inb)
  iintro ⟨%f, He⟩ Hk
  iapply (load_rule c (M := rbM) (r := Rect.unit (s := S2x64x8192) ![s, 0, 0] S1x64x8192.size inb) _ (subset_of_eq hset) rfl) $$ He
  iintro He
  iapply (store_rule c (M := rbM) (r := Rect.unit (s := S2x64x8192) ![s, 0, 0] S1x64x8192.size inb') (bandC m ρ c b) hset (by
    funext x
    have hx2 : (x 2).val < 8192 := Fin.isLt (n := 8192) (x 2)
    refine (rd3 (A := 2) (B := 64) (C := 8192) (nc := 8192) rbM.view _ x hs' (by omega)).trans ?_
    exact band_val m ρ c b hb hs ⟨s, hs'⟩ x)) $$ He
  iexact Hk

theorem rb_issue {Q : α → sProp 𝕄} (c : Dev nD) (s b : ℕ) (hb : b < 8) {q : DmaSem sig} {off : Fin 2 → ℕ} {sinb st hsq inb st' hsrc hdst hsem}
    {k : PUnit → Prog (TpuEff nD τ sig (Elt F) Λ₀ .tc) α} (hoff : off = ![64 * b, 8192 * (c.val % 2)]) :
    bsl c s (bandC m ρ c b) ⊢ iprop((∃ f, outP c (bB c b) f) -∗ zero c q -∗ (BF m ρ c q s b -∗ WP c (k ⟨⟩) Q)
      -∗ WP c (.op (.enqueueDma ((rbM.slice (Rect.unit (s := S2x64x8192) ![s, 0, 0] S1x64x8192.size sinb) st).squeeze S64x8192 hsq)
          (.here (outM.slice (Rect.unit (s := S512x16384) off S64x8192.size inb) st')) (.dma q) hsrc hdst hsem) k) Q) := by
  have hs : s < 2 := by have := sinb 0; show s + 1 ≤ 2; exact this
  have h8 := lt8 c
  iintro Hw ⟨%f, Hs⟩ Hz Hk
  iapply (copy_rule c (q := fullShare)
    (src := (rbM.slice (Rect.unit (s := S2x64x8192) ![s, 0, 0] S1x64x8192.size sinb) st).squeeze S64x8192 hsq)
    (dst := outM.slice (Rect.unit (s := S512x16384) off S64x8192.size inb) st')
    (fs := bandC m ρ c b) (fd := f) (S := bB c b) (S' := slab s 0 8192) (OUTv m ρ c)
    ((View.set_slice_whole _ _).trans (unit_set2 hoff inb))
    ((View.set_reshape _ _).trans ((View.set_slice_whole _ _).trans (unit_set3 sinb))) nB rfl (View.dmaCredit_pos (outM.slice (Rect.unit (s := S512x16384) off S64x8192.size inb) st').view (by show 0 < S64x8192.numel; decide))
    (by
      funext x
      have hx1 : (x 1).val < 8192 := (x 1).isLt
      have hx0 : (x 0).val < 64 := (x 0).isLt
      refine (rd2 (R := 512) (C := 16384) (nr := 64) (nc := 8192) outM.view (OUTv m ρ c) hoff x (by omega) (by omega)).trans ?_
      refine Eq.trans ?_ (sq_read (B := 64) (nc := 8192) (rbM.slice (Rect.unit (s := S2x64x8192) ![s, 0, 0] S1x64x8192.size sinb) st) _ x).symm
      refine Eq.trans ?_ (rd3 (A := 2) (B := 64) (C := 8192) (nc := 8192) rbM.view _ (ix3 0 (x 0) (x 1)) hs (by show (x 1).val < 8192; omega)).symm
      show OUTv m ρ c (ix2 ⟨64 * b + (x 0).val, _⟩ ⟨8192 * (c.val % 2) + (x 1).val, _⟩)
        = OUTv m ρ c (ix2 ⟨(64 * b + (x 0).val) % 512, _⟩ ⟨(8192 * (c.val % 2) + (x 1).val) % 16384, _⟩)
      congr 2
      · exact Fin.ext (Nat.mod_eq_of_lt (by omega)).symm
      · exact Fin.ext (Nat.mod_eq_of_lt (by omega)).symm)) $$ [Hw Hs Hz] [Hk]
  · isplitl [Hw]; · iexact Hw
    isplitl [Hs]; · iexact Hs
    iexact Hz
  · iexact Hk

theorem rb_wait {Q : α → sProp 𝕄} (K : Dev nD × CK → ℕ) (c : Dev nD) {q : DmaSem sig} (s b : ℕ) (r : ℕ) {sp} {src : Memref sig .tc sp S64x8192 .f32} {off : Fin 2 → ℕ} {inb st hsrc hdst}
    {k : PUnit → Prog (TpuEff nD τ sig (Elt F) Λ₀ .tc) α} (hr : r ≤ 16) (hq : ∀ kk, csem kk ≠ .dma q) :
    Ctx m ρ K ⊢ iprop(BF m ρ c q s b -∗ Ow c r
      -∗ ((outP c (bB c b) (OUTv m ρ c) ∗ (∃ f, bsl c s f) ∗ zero c q ∗ Ow c r) -∗ WP c (k ⟨⟩) Q)
      -∗ WP c (.op (.waitDma2 q src (outM.slice (Rect.unit (s := S512x16384) off S64x8192.size inb) st) hsrc hdst) k) Q) := by
  unfold BF
  iintro HC HF HO Hk
  iapply (copy_wait m ρ K c (dst := outM.slice (Rect.unit (s := S512x16384) off S64x8192.size inb) st) nB r _ rfl hr hq) $$ [HC HF HO] [Hk]
  · isplitl [HC]; · iexact HC
    isplitl [HF]; · iexact HF
    iexact HO
  · iintro ⟨HO, Hz, Hs, Hw⟩
    iapply Hk
    isplitl [Hs]; · iexact Hs
    isplitl [Hw]; · iexists _; iexact Hw
    isplitl [Hz]; · iexact Hz
    iexact HO

end Steps

end Cert.Gather

end
-- ==== Proof.Chunks.lean ====
module

public import proofs.«01_k».proof.Proof.Output

/-! # The parts of the body that compute

The staging of `W` through its two slots, and the body's parts up to the last piece sent. -/

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The two staging slots -/

/-- The semaphore of a slot. -/
def qw (s : ℕ) : DmaSem sig := if s = 0 then (1 : Fin 33) else (2 : Fin 33)

theorem qw_ne (s : ℕ) (kk : CK) : csem kk ≠ .dma (qw s) := by
  unfold qw
  split_ifs
  · revert kk; decide +kernel
  · revert kk; decide +kernel

/-- A slot with nothing in flight to it. -/
def Wfree (c : Dev nD) (s : ℕ) : sProp 𝕄 := iprop((∃ f, wsl (F := F) c s f) ∗ zero c (qw s))

/-- Block `i` is in slot `s`, and nothing is in flight. -/
def Whd (c : Dev nD) (s : ℕ) (i : Fin 16) : sProp 𝕄 :=
  iprop(wP m c ∗ wsl c s (wslC m c (cblk c i)) ∗ zero c (qw s) ∗ Wfree c (1 - s))

/-- Block `i` is in slot `s`, block `i'` on its way to the other. -/
def W2 (c : Dev nD) (s : ℕ) (i i' : Fin 16) : sProp 𝕄 :=
  iprop(wsl c s (wslC m c (cblk c i)) ∗ zero c (qw s) ∗ Wfly m c (qw (1 - s)) (1 - s) i')

/-- Block `i` is on its way to slot `s`. -/
def Wst (c : Dev nD) (s : ℕ) (i : Fin 16) : sProp 𝕄 :=
  iprop(Wfly m c (qw s) s i ∗ Wfree c (1 - s))

/-- A piece of the exponentials not yet computed, and computed. -/
def E0 (c : Dev nD) (i : Fin 16) : sProp 𝕄 := iprop(∃ f, eP (F := F) c (cols (ccol c i) 512) fullShare f)
abbrev E1 (c : Dev nD) (i : Fin 16) : sProp 𝕄 := eP c (cols (ccol c i) 512) fullShare (Ev m ρ c)

/-- The half of a sent piece kept back. -/
def EK (c : Dev nD) (j : Fin 8) : sProp 𝕄 := eP c (zB c j) fullShare.right (Ev m ρ c)
/-- The neighbour's buffer a piece is to land in. -/
def T0 (c : Dev nD) (j : Fin 8) : sProp 𝕄 := iprop(∃ f, inP (F := F) (zn c) (zB c j) fullShare f)
/-- A piece landed. -/
def Z1 (c : Dev nD) (j : Fin 8) : sProp 𝕄 := inP c (zB c j) fullShare (INv m ρ c)

section Steps
variable {α : Type}

theorem wp_done {Q : α → sProp 𝕄} (c : Dev nD) {a a' : α} (h : a = a') : Q a' ⊢ WP c (.ret a) Q := by
  subst h
  show Q a ⊢ wp frame (wpE (defs₀ (F := F)) 𝒱₀ (c : Thread nD τ) none) Set.univ (.ret a) Q
  rw [wp_ret]
  iintro H
  imodintro
  iexact H

theorem sz {Q : α → sProp 𝕄} (K : Dev nD × CK → ℕ) (c n : Dev nD) (j : Fin 8) (i : Fin 16) (r : ℕ) {qS qR : DmaSem sig} {off : Fin 2 → ℕ} {inb st inb' st' hsc hsrc hdst hsem}
    {k : PUnit → Prog (TpuEff nD τ sig (Elt F) Λ₀ .tc) α} (hoff : off = ![0, ccol c i]) (hi : i = Fin.castLE (by decide) j) (hn : n.val = 4 * (c.val / 4) + 2 * (c.val / 2 % 2) + 1 - c.val % 2)
    (ht : tgt c r = (zn c, .zr j)) (hqS : SemLoc.dma qS = csem (.zs j)) (hqR : SemLoc.dma qR = csem (.zr j)) :
    Ctx m ρ K ⊢ iprop(Sd c (zn c) (.zs j) (.zr j) -∗ E1 m ρ c i -∗ T0 c j -∗ Ow c (r + 1)
      -∗ (Wt c (.zs j) -∗ EK m ρ c j -∗ Ow c r -∗ WP c (k ⟨⟩) Q)
      -∗ WP c (.op (.enqueueDma (eM.slice (Rect.unit (s := S512x8192) off S512x512.size inb) st)
          (.remote (Dev.tc n : Thread nD τ) (inM.slice (Rect.unit (s := S512x8192) off S512x512.size inb') st') (.dma qS) hsc) (.dma qR) hsrc hdst hsem) k) Q) := by
  subst hi
  unfold EK T0
  iintro HC HS HE HT HO Hk
  iapply (z_send m ρ K c n j r hoff (Fin.ext (hn.trans (zn_val c).symm)) ht hqS hqR) $$ HC HS HE HT HO
  iintro ⟨HW, HE, HO⟩
  iapply Hk $$ HW HE HO

theorem st_last {Q : α → sProp 𝕄} (c : Dev nD) (i : Fin 16) {inb hl} {k : (S1x1024x512.Idx → Elt F .f32) → Prog (TpuEff nD τ sig (Elt F) Λ₀ .tc) α} :
    Whd m c 1 i ⊢ iprop((wP m c -∗ Wfree c 0 -∗ Wfree c 1 -∗ WP c (k (Wch m c (cblk c i))) Q)
      -∗ WP c (.op (.load wbM (Rect.unit (s := S2x1024x512) ![1, 0, 0] S1x1024x512.size inb).toLoadRect hl) k) Q) := by
  unfold Whd
  iintro ⟨Hw, Hh, Hq, Hf⟩ Hk
  iapply (ld_w m c 1 i) $$ Hh
  iintro Hh
  iapply Hk $$ Hw Hf
  unfold Wfree
  isplitl [Hh]; · iexists _; iexact Hh
  iexact Hq

/-- Waiting for a piece from the other half. -/
theorem wz {Q : α → sProp 𝕄} (K : Dev nD × CK → ℕ) (c : Dev nD) (j : Fin 8) (r : ℕ) {qs : DmaSem sig} {sp} {src : Memref sig .tc sp S512x512 .bf16} {off : Fin 2 → ℕ} {inb st hsrc hdst}
    {k : PUnit → Prog (TpuEff nD τ sig (Elt F) Λ₀ .tc) α} (hr : r ≤ 4) (hq : SemLoc.dma qs = csem (.zr j)) :
    Ctx m ρ K ⊢ iprop(Wt c (.zr j) -∗ Ow c r -∗ (Ow c r -∗ semVal (cell c (.zr j)) 0 -∗ Z1 m ρ c j -∗ WP c (k ⟨⟩) Q)
      -∗ WP c (.op (.waitDma2 qs src (inM.slice (Rect.unit (s := S512x8192) off S512x512.size inb) st) hsrc hdst) k) Q) := by
  unfold Z1
  iintro HC HW HO Hk
  iapply (xwait m ρ K c (.zr j) (dst := inM.slice (Rect.unit (s := S512x8192) off S512x512.size inb) st) r hq (by simp) credZ (Or.inr (Or.inr (Or.inl ⟨le_refl 2, hr⟩)))) $$ [HC HW HO] [Hk]
  · isplitl [HC]; · iexact HC
    isplitl [HW]; · iexact HW
    iexact HO
  · iintro ⟨HO, Hz, Hp⟩
    ihave Hp := (Entails.of_eq (show pay m ρ c (.zr j) 0 = inP c (zB c j) fullShare (INv m ρ c) from rfl)) $$ Hp
    iapply Hk $$ HO Hz Hp

theorem st_begin {Q : α → sProp 𝕄} (c : Dev nD) (i : Fin 16) {q : DmaSem sig} {off : Fin 2 → ℕ} {inb st sinb st' hsq hsrc hdst hsem}
    {k : PUnit → Prog (TpuEff nD τ sig (Elt F) Λ₀ .tc) α} (hoff : off = ![0, ccol c i]) (hq : q = qw 0) :
    wP m c ⊢ iprop(Wfree c 0 -∗ Wfree c 1 -∗ (Wst m c 0 i -∗ WP c (k ⟨⟩) Q)
      -∗ WP c (.op (.enqueueDma (WM.slice (Rect.unit (s := S1024x8192) off S1024x512.size inb) st)
          (.here ((wbM.slice (Rect.unit (s := S2x1024x512) ![0, 0, 0] S1x1024x512.size sinb) st').squeeze S1024x512 hsq)) (.dma q) hsrc hdst hsem) k) Q) := by
  subst hq
  unfold Wst
  iintro Hw Hs Hf Hk
  ihave Hs := (Entails.of_eq (show Wfree (F := F) c 0 = iprop((∃ f, wsl c 0 f) ∗ zero c (qw 0)) from rfl)) $$ Hs
  icases Hs with ⟨Hs, Hz⟩
  iapply (w_start m c 0 i hoff) $$ Hw Hs Hz
  iintro H
  iapply Hk
  isplitl [H]; · iexact H
  iexact Hf

theorem st_start {Q : α → sProp 𝕄} (c : Dev nD) (s s' : ℕ) (i i' : Fin 16) {q : DmaSem sig} {off : Fin 2 → ℕ} {inb st sinb st' hsq hsrc hdst hsem}
    {k : PUnit → Prog (TpuEff nD τ sig (Elt F) Λ₀ .tc) α} (hoff : off = ![0, ccol c i']) (hs' : s' = 1 - s) (hq : q = qw (1 - s)) :
    Whd m c s i ⊢ iprop((W2 m c s i i' -∗ WP c (k ⟨⟩) Q)
      -∗ WP c (.op (.enqueueDma (WM.slice (Rect.unit (s := S1024x8192) off S1024x512.size inb) st)
          (.here ((wbM.slice (Rect.unit (s := S2x1024x512) ![s', 0, 0] S1x1024x512.size sinb) st').squeeze S1024x512 hsq)) (.dma q) hsrc hdst hsem) k) Q) := by
  subst hs' hq
  unfold Whd W2 Wfree
  iintro ⟨Hw, Hh, Hq, Hs, Hz⟩ Hk
  iapply (w_start m c (1 - s) i' hoff) $$ Hw Hs Hz
  iintro H
  iapply Hk
  isplitl [Hh]; · iexact Hh
  isplitl [Hq]; · iexact Hq
  iexact H

theorem st_wait {Q : α → sProp 𝕄} (K : Dev nD × CK → ℕ) (c : Dev nD) {q : DmaSem sig} (s : ℕ) (i : Fin 16) (r : ℕ) {sp} {src : Memref sig .tc sp S1024x512 .f32} {sinb st' hsq hsrc hdst}
    {k : PUnit → Prog (TpuEff nD τ sig (Elt F) Λ₀ .tc) α} (hr : r ≤ 16) (hq : q = qw s) :
    Ctx m ρ K ⊢ iprop(Wst m c s i -∗ Ow c r -∗ (Whd m c s i -∗ Ow c r -∗ WP c (k ⟨⟩) Q)
      -∗ WP c (.op (.waitDma2 q src ((wbM.slice (Rect.unit (s := S2x1024x512) ![s, 0, 0] S1x1024x512.size sinb) st').squeeze S1024x512 hsq) hsrc hdst) k) Q) := by
  subst hq
  unfold Wst Whd
  iintro HC ⟨HF, Hf⟩ HO Hk
  iapply (w_wait m ρ K c s i r hr (qw_ne s)) $$ HC HF HO
  iintro ⟨Hw, Hs, Hz, HO⟩
  iapply Hk $$ [Hw Hs Hz Hf] HO
  isplitl [Hw]; · iexact Hw
  isplitl [Hs]; · iexact Hs
  isplitl [Hz]; · iexact Hz
  iexact Hf

theorem st_load {Q : α → sProp 𝕄} (c : Dev nD) (s s' : ℕ) (i i' : Fin 16) {inb hl} {k : (S1x1024x512.Idx → Elt F .f32) → Prog (TpuEff nD τ sig (Elt F) Λ₀ .tc) α} (hs : s ≤ 1) (hs' : s' = 1 - s) :
    W2 m c s i i' ⊢ iprop((Wst m c s' i' -∗ WP c (k (Wch m c (cblk c i))) Q)
      -∗ WP c (.op (.load wbM (Rect.unit (s := S2x1024x512) ![s, 0, 0] S1x1024x512.size inb).toLoadRect hl) k) Q) := by
  subst hs'
  unfold W2 Wst Wfree
  iintro ⟨Hh, Hq, HF⟩ Hk
  iapply (ld_w m c s i) $$ Hh
  iintro Hh
  iapply Hk
  isplitl [HF]; · iexact HF
  rw [show 1 - (1 - s) = s by omega]
  isplitl [Hh]; · iexists _; iexact Hh
  iexact Hq

theorem st_e {Q : α → sProp 𝕄} (c : Dev nD) (i : Fin 16) {off : Fin 2 → ℕ} {inb hl inb' hx hm} {w : S512x512.Idx → Elt F .bf16}
    {k : PUnit → Prog (TpuEff nD τ sig (Elt F) Λ₀ .tc) α} (hoff : off = ![0, ccol c i]) (hw : w = k0_pay3 (xv m ρ c) (Wch m c (cblk c i))) :
    E0 c i ⊢ iprop((E1 m ρ c i -∗ WP c (k ⟨⟩) Q)
        -∗ WP c (.op (.load eM (Rect.unit (s := S512x8192) off S512x512.size inb).toLoadRect hl)
            fun _ => .op (.store eM (Rect.unit (s := S512x8192) off S512x512.size inb') w Finset.univ hx hm) k) Q) :=
  e_step m ρ c i hoff hw

end Steps

/-! ## The parts that compute -/

theorem part3 {Q} (K : Dev nD × CK → ℕ) (c : Dev nD) (w1 w2 w3 w4 : BitVec 32) :
    Ctx m ρ K ⊢ iprop(wP m c -∗ Wfree c 0 -∗ Wfree c 1 -∗ Ow c 13
      -∗ (∀ a1 a2 a3 a4 a5 a6 a7 a8, Whd m c 0 0 -∗ Ow c 13 -∗ Q ⟨a1, a2, a3, a4, a5, a6, a7, a8, srun m ρ c 0⟩)
      -∗ WP c (k0_part3_skel xM (Memref.isWhole_whole _) WM (Memref.isWhole_whole _) outM (Memref.isWhole_whole _) wbM (Memref.isWhole_whole _) eM (Memref.isWhole_whole _) inM (Memref.isWhole_whole _) sbM (Memref.isWhole_whole _) siM (Memref.isWhole_whole _) rpM (Memref.isWhole_whole _) rbM (Memref.isWhole_whole _) cc0_scratch7 cc0_scratch8 cc0_scratch9 cc0_scratch10 cc0_scratch11 cc0_scratch12 cc0_scratch13 cc0_scratch14 cc0_scratch15 cc0_scratch16 cc0_scratch17 c w1 w2 w3 w4) Q) := by
  unfold k0_part3_skel
  simp only [Prog.lift, Prog.bind_op, Prog.bind_ret, Prog.pure_eq_ret]
  iintro #HC Hw H0 H1 HO Hk
  iapply (st_begin m c 0 (o1 c 0) rfl) $$ Hw H0 H1
  iintro HW
  iapply (st_wait m ρ K c 0 0 13 (by decide) rfl) $$ HC HW HO
  iintro HW HO
  iapply (wp_done (Q := Q) c (a' := ⟨_, _, _, _, _, _, _, _, srun m ρ c 0⟩) rfl)
  iapply Hk $$ HW HO

theorem part4 {Q} (c : Dev nD) (w1 w2 w3 w4 : BitVec 32) :
    Whd m c 0 0 ⊢ iprop(xP m ρ c -∗ E0 c 0
      -∗ (Wst m c 1 1 -∗ xP m ρ c -∗ E1 m ρ c 0 -∗ Q (srun m ρ c 1))
      -∗ WP c (k0_part4_skel xM (Memref.isWhole_whole _) WM (Memref.isWhole_whole _) outM (Memref.isWhole_whole _) wbM (Memref.isWhole_whole _) eM (Memref.isWhole_whole _) inM (Memref.isWhole_whole _) sbM (Memref.isWhole_whole _) siM (Memref.isWhole_whole _) rpM (Memref.isWhole_whole _) rbM (Memref.isWhole_whole _) cc0_scratch7 cc0_scratch8 cc0_scratch9 cc0_scratch10 cc0_scratch11 cc0_scratch12 cc0_scratch13 cc0_scratch14 cc0_scratch15 cc0_scratch16 cc0_scratch17 c w1 w2 w3 w4 (srun m ρ c 0)) Q) := by
  unfold k0_part4_skel
  simp only [Prog.lift, Prog.bind_op, Prog.bind_ret, Prog.pure_eq_ret]
  iintro HW Hx HE0 Hk
  iapply (st_start m c 0 1 0 1 (o1 c 1) rfl rfl) $$ HW
  iintro HW
  iapply (ld_x m ρ c) $$ Hx
  iintro Hx
  iapply (st_load m c 0 1 0 1 (by decide) rfl) $$ HW
  iintro HW
  iapply (st_e m ρ c 0 (o2 c 0) rfl) $$ HE0
  iintro HE0
  iapply (wp_done (Q := Q) c (a' := (srun m ρ c 1)) rfl)
  iapply Hk $$ HW Hx HE0

theorem part5 {Q} (K : Dev nD × CK → ℕ) (c : Dev nD) (w1 w2 w3 : BitVec 32) :
    Ctx m ρ K ⊢ iprop(Wst m c 1 1 -∗ xP m ρ c -∗ E0 c 1 -∗ Sd c (zn c) (.zs 0) (.zr 0) -∗ E1 m ρ c 0 -∗ T0 c 0 -∗ Ow c 13
      -∗ (∀ b, Wst m c 0 2 -∗ xP m ρ c -∗ E1 m ρ c 1 -∗ Wt c (.zs 0) -∗ EK m ρ c 0 -∗ Ow c 12 -∗ Q ⟨srun m ρ c 2, b⟩)
      -∗ WP c (k0_part5_skel xM (Memref.isWhole_whole _) WM (Memref.isWhole_whole _) outM (Memref.isWhole_whole _) wbM (Memref.isWhole_whole _) eM (Memref.isWhole_whole _) inM (Memref.isWhole_whole _) sbM (Memref.isWhole_whole _) siM (Memref.isWhole_whole _) rpM (Memref.isWhole_whole _) rbM (Memref.isWhole_whole _) cc0_scratch7 cc0_scratch8 cc0_scratch9 cc0_scratch10 cc0_scratch11 cc0_scratch12 cc0_scratch13 cc0_scratch14 cc0_scratch15 cc0_scratch16 cc0_scratch17 c w1 w2 w3 (srun m ρ c 1)) Q) := by
  unfold k0_part5_skel
  simp only [Prog.lift, Prog.bind_op, Prog.bind_ret, Prog.pure_eq_ret]
  iintro #HC HW Hx HE1 HS0 HE0 HT0 HO Hk
  iapply (sz m ρ K c _ 0 0 12 (o3 c 0) rfl (k0_dev4_eq c) rfl rfl rfl) $$ HC HS0 HE0 HT0 HO
  iintro HT0 HE0 HO
  iapply (st_wait m ρ K c 1 1 12 (by decide) rfl) $$ HC HW HO
  iintro HW HO
  iapply (st_start m c 1 0 1 2 (o1 c 2) rfl rfl) $$ HW
  iintro HW
  iapply (ld_x m ρ c) $$ Hx
  iintro Hx
  iapply (st_load m c 1 0 1 2 (by decide) rfl) $$ HW
  iintro HW
  iapply (st_e m ρ c 1 (o2 c 1) rfl) $$ HE1
  iintro HE1
  iapply (wp_done (Q := Q) c (a' := ⟨srun m ρ c 2, _⟩) rfl)
  iapply Hk $$ HW Hx HE1 HT0 HE0 HO

theorem part6 {Q} (K : Dev nD × CK → ℕ) (c : Dev nD) (w1 w2 w3 w4 w5 : BitVec 32) :
    Ctx m ρ K ⊢ iprop(Wst m c 0 2 -∗ xP m ρ c -∗ E0 c 2 -∗ Sd c (zn c) (.zs 1) (.zr 1) -∗ E1 m ρ c 1 -∗ T0 c 1 -∗ Ow c 12
      -∗ (Wst m c 1 3 -∗ xP m ρ c -∗ E1 m ρ c 2 -∗ Wt c (.zs 1) -∗ EK m ρ c 1 -∗ Ow c 11 -∗ Q (k0_pay8 (xv m ρ c) (Wch m c (cblk c 2))))
      -∗ WP c (k0_part6_skel xM (Memref.isWhole_whole _) WM (Memref.isWhole_whole _) outM (Memref.isWhole_whole _) wbM (Memref.isWhole_whole _) eM (Memref.isWhole_whole _) inM (Memref.isWhole_whole _) sbM (Memref.isWhole_whole _) siM (Memref.isWhole_whole _) rpM (Memref.isWhole_whole _) rbM (Memref.isWhole_whole _) cc0_scratch7 cc0_scratch8 cc0_scratch9 cc0_scratch10 cc0_scratch11 cc0_scratch12 cc0_scratch13 cc0_scratch14 cc0_scratch15 cc0_scratch16 cc0_scratch17 c w1 w2 w3 w4 w5) Q) := by
  unfold k0_part6_skel
  simp only [Prog.lift, Prog.bind_op, Prog.bind_ret, Prog.pure_eq_ret]
  iintro #HC HW Hx HE2 HS1 HE1 HT1 HO Hk
  iapply (sz m ρ K c _ 1 1 11 (o3 c 1) rfl (k0_dev5_eq c) rfl rfl rfl) $$ HC HS1 HE1 HT1 HO
  iintro HT1 HE1 HO
  iapply (st_wait m ρ K c 0 2 11 (by decide) rfl) $$ HC HW HO
  iintro HW HO
  iapply (st_start m c 0 1 2 3 (o1 c 3) rfl rfl) $$ HW
  iintro HW
  iapply (ld_x m ρ c) $$ Hx
  iintro Hx
  iapply (st_load m c 0 1 2 3 (by decide) rfl) $$ HW
  iintro HW
  iapply (st_e m ρ c 2 (o2 c 2) rfl) $$ HE2
  iintro HE2
  iapply (wp_done (Q := Q) c (a' := (k0_pay8 (xv m ρ c) (Wch m c (cblk c 2)))) rfl)
  iapply Hk $$ HW Hx HE2 HT1 HE1 HO

theorem part7 {Q} (K : Dev nD × CK → ℕ) (c : Dev nD) (w1 w2 w3 w4 w5 : BitVec 32) :
    Ctx m ρ K ⊢ iprop(Wst m c 1 3 -∗ xP m ρ c -∗ Sd c (zn c) (.zs 2) (.zr 2) -∗ E1 m ρ c 2 -∗ T0 c 2 -∗ Ow c 11
      -∗ (W2 m c 1 3 4 -∗ xP m ρ c -∗ Wt c (.zs 2) -∗ EK m ρ c 2 -∗ Ow c 10 -∗ Q ⟨srun m ρ c 3, k0_pay11 (xv m ρ c)⟩)
      -∗ WP c (k0_part7_skel xM (Memref.isWhole_whole _) WM (Memref.isWhole_whole _) outM (Memref.isWhole_whole _) wbM (Memref.isWhole_whole _) eM (Memref.isWhole_whole _) inM (Memref.isWhole_whole _) sbM (Memref.isWhole_whole _) siM (Memref.isWhole_whole _) rpM (Memref.isWhole_whole _) rbM (Memref.isWhole_whole _) cc0_scratch7 cc0_scratch8 cc0_scratch9 cc0_scratch10 cc0_scratch11 cc0_scratch12 cc0_scratch13 cc0_scratch14 cc0_scratch15 cc0_scratch16 cc0_scratch17 c w1 w2 w3 w4 w5 (srun m ρ c 2) (k0_pay8 (xv m ρ c) (Wch m c (cblk c 2)))) Q) := by
  unfold k0_part7_skel
  simp only [Prog.lift, Prog.bind_op, Prog.bind_ret, Prog.pure_eq_ret]
  iintro #HC HW Hx HS2 HE2 HT2 HO Hk
  iapply (sz m ρ K c _ 2 2 10 (o3 c 2) rfl (k0_dev6_eq c) rfl rfl rfl) $$ HC HS2 HE2 HT2 HO
  iintro HT2 HE2 HO
  iapply (st_wait m ρ K c 1 3 10 (by decide) rfl) $$ HC HW HO
  iintro HW HO
  iapply (st_start m c 1 0 3 4 (o4 c 0) rfl rfl) $$ HW
  iintro HW
  iapply (ld_x m ρ c) $$ Hx
  iintro Hx
  iapply (wp_done (Q := Q) c (a' := ⟨srun m ρ c 3, k0_pay11 (xv m ρ c)⟩) rfl)
  iapply Hk $$ HW Hx HT2 HE2 HO

theorem part8 {Q} (K : Dev nD × CK → ℕ) (c : Dev nD) (w1 w2 w3 w4 w5 : BitVec 32) :
    Ctx m ρ K ⊢ iprop(W2 m c 1 3 4 -∗ E0 c 3 -∗ Sd c (zn c) (.zs 3) (.zr 3) -∗ T0 c 3 -∗ Ow c 10
      -∗ (Whd m c 0 4 -∗ Wt c (.zs 3) -∗ EK m ρ c 3 -∗ Ow c 9 -∗ Q (srun m ρ c 4))
      -∗ WP c (k0_part8_skel xM (Memref.isWhole_whole _) WM (Memref.isWhole_whole _) outM (Memref.isWhole_whole _) wbM (Memref.isWhole_whole _) eM (Memref.isWhole_whole _) inM (Memref.isWhole_whole _) sbM (Memref.isWhole_whole _) siM (Memref.isWhole_whole _) rpM (Memref.isWhole_whole _) rbM (Memref.isWhole_whole _) cc0_scratch7 cc0_scratch8 cc0_scratch9 cc0_scratch10 cc0_scratch11 cc0_scratch12 cc0_scratch13 cc0_scratch14 cc0_scratch15 cc0_scratch16 cc0_scratch17 c w1 w2 w3 w4 w5 (srun m ρ c 3) (k0_pay11 (xv m ρ c))) Q) := by
  unfold k0_part8_skel
  simp only [Prog.lift, Prog.bind_op, Prog.bind_ret, Prog.pure_eq_ret]
  iintro #HC HW HE3 HS3 HT3 HO Hk
  iapply (st_load m c 1 0 3 4 (by decide) rfl) $$ HW
  iintro HW
  iapply (st_e m ρ c 3 (o2 c 3) rfl) $$ HE3
  iintro HE3
  iapply (sz m ρ K c _ 3 3 9 (o3 c 3) rfl (k0_dev7_eq c) rfl rfl rfl) $$ HC HS3 HE3 HT3 HO
  iintro HT3 HE3 HO
  iapply (st_wait m ρ K c 0 4 9 (by decide) rfl) $$ HC HW HO
  iintro HW HO
  iapply (wp_done (Q := Q) c (a' := (srun m ρ c 4)) rfl)
  iapply Hk $$ HW HT3 HE3 HO

theorem part9 {Q} (K : Dev nD × CK → ℕ) (c : Dev nD) (w1 w2 : BitVec 32) :
    Ctx m ρ K ⊢ iprop(Whd m c 0 4 -∗ xP m ρ c -∗ E0 c 4 -∗ Ow c 9
      -∗ (W2 m c 1 5 6 -∗ xP m ρ c -∗ E1 m ρ c 4 -∗ Ow c 9 -∗ Q ⟨srun m ρ c 5, k0_pay18 (xv m ρ c)⟩)
      -∗ WP c (k0_part9_skel xM (Memref.isWhole_whole _) WM (Memref.isWhole_whole _) outM (Memref.isWhole_whole _) wbM (Memref.isWhole_whole _) eM (Memref.isWhole_whole _) inM (Memref.isWhole_whole _) sbM (Memref.isWhole_whole _) siM (Memref.isWhole_whole _) rpM (Memref.isWhole_whole _) rbM (Memref.isWhole_whole _) cc0_scratch7 cc0_scratch8 cc0_scratch9 cc0_scratch10 cc0_scratch11 cc0_scratch12 cc0_scratch13 cc0_scratch14 cc0_scratch15 cc0_scratch16 cc0_scratch17 c w1 w2 (srun m ρ c 4)) Q) := by
  unfold k0_part9_skel
  simp only [Prog.lift, Prog.bind_op, Prog.bind_ret, Prog.pure_eq_ret]
  iintro #HC HW Hx HE4 HO Hk
  iapply (st_start m c 0 1 4 5 (o4 c 1) rfl rfl) $$ HW
  iintro HW
  iapply (ld_x m ρ c) $$ Hx
  iintro Hx
  iapply (st_load m c 0 1 4 5 (by decide) rfl) $$ HW
  iintro HW
  iapply (st_e m ρ c 4 (o5 c 0) rfl) $$ HE4
  iintro HE4
  iapply (st_wait m ρ K c 1 5 9 (by decide) rfl) $$ HC HW HO
  iintro HW HO
  iapply (st_start m c 1 0 5 6 (o4 c 2) rfl rfl) $$ HW
  iintro HW
  iapply (ld_x m ρ c) $$ Hx
  iintro Hx
  iapply (wp_done (Q := Q) c (a' := ⟨srun m ρ c 5, k0_pay18 (xv m ρ c)⟩) rfl)
  iapply Hk $$ HW Hx HE4 HO

theorem part10 {Q} (K : Dev nD × CK → ℕ) (c : Dev nD) (w1 w2 w3 : BitVec 32) :
    Ctx m ρ K ⊢ iprop(W2 m c 1 5 6 -∗ xP m ρ c -∗ E0 c 5 -∗ Ow c 9
      -∗ (∀ b, Wst m c 1 7 -∗ xP m ρ c -∗ E1 m ρ c 5 -∗ Ow c 9 -∗ Q ⟨srun m ρ c 6, k0_pay22 (xv m ρ c) (Wch m c (cblk c 6)), k0_pay23 (xv m ρ c) (Wch m c (cblk c 6)), b⟩)
      -∗ WP c (k0_part10_skel xM (Memref.isWhole_whole _) WM (Memref.isWhole_whole _) outM (Memref.isWhole_whole _) wbM (Memref.isWhole_whole _) eM (Memref.isWhole_whole _) inM (Memref.isWhole_whole _) sbM (Memref.isWhole_whole _) siM (Memref.isWhole_whole _) rpM (Memref.isWhole_whole _) rbM (Memref.isWhole_whole _) cc0_scratch7 cc0_scratch8 cc0_scratch9 cc0_scratch10 cc0_scratch11 cc0_scratch12 cc0_scratch13 cc0_scratch14 cc0_scratch15 cc0_scratch16 cc0_scratch17 c w1 w2 w3 (srun m ρ c 5) (k0_pay18 (xv m ρ c))) Q) := by
  unfold k0_part10_skel
  simp only [Prog.lift, Prog.bind_op, Prog.bind_ret, Prog.pure_eq_ret]
  iintro #HC HW Hx HE5 HO Hk
  iapply (st_load m c 1 0 5 6 (by decide) rfl) $$ HW
  iintro HW
  iapply (st_e m ρ c 5 (o5 c 1) rfl) $$ HE5
  iintro HE5
  iapply (st_wait m ρ K c 0 6 9 (by decide) rfl) $$ HC HW HO
  iintro HW HO
  iapply (st_start m c 0 1 6 7 (o4 c 3) rfl rfl) $$ HW
  iintro HW
  iapply (ld_x m ρ c) $$ Hx
  iintro Hx
  iapply (st_load m c 0 1 6 7 (by decide) rfl) $$ HW
  iintro HW
  iapply (wp_done (Q := Q) c (a' := ⟨srun m ρ c 6, k0_pay22 (xv m ρ c) (Wch m c (cblk c 6)), k0_pay23 (xv m ρ c) (Wch m c (cblk c 6)), _⟩) rfl)
  iapply Hk $$ HW Hx HE5 HO

theorem part11 {Q} (K : Dev nD × CK → ℕ) (c : Dev nD) (w1 w2 w3 : BitVec 32) :
    Ctx m ρ K ⊢ iprop(Wst m c 1 7 -∗ xP m ρ c -∗ E0 c 6 -∗ E0 c 7 -∗ Ow c 9
      -∗ (Wst m c 0 8 -∗ xP m ρ c -∗ E1 m ρ c 6 -∗ E1 m ρ c 7 -∗ Ow c 9 -∗ Q (srun m ρ c 8))
      -∗ WP c (k0_part11_skel xM (Memref.isWhole_whole _) WM (Memref.isWhole_whole _) outM (Memref.isWhole_whole _) wbM (Memref.isWhole_whole _) eM (Memref.isWhole_whole _) inM (Memref.isWhole_whole _) sbM (Memref.isWhole_whole _) siM (Memref.isWhole_whole _) rpM (Memref.isWhole_whole _) rbM (Memref.isWhole_whole _) cc0_scratch7 cc0_scratch8 cc0_scratch9 cc0_scratch10 cc0_scratch11 cc0_scratch12 cc0_scratch13 cc0_scratch14 cc0_scratch15 cc0_scratch16 cc0_scratch17 c w1 w2 (srun m ρ c 6) (k0_pay22 (xv m ρ c) (Wch m c (cblk c 6))) (k0_pay23 (xv m ρ c) (Wch m c (cblk c 6))) w3) Q) := by
  unfold k0_part11_skel
  simp only [Prog.lift, Prog.bind_op, Prog.bind_ret, Prog.pure_eq_ret]
  iintro #HC HW Hx HE6 HE7 HO Hk
  iapply (st_e m ρ c 6 (o5 c 2) rfl) $$ HE6
  iintro HE6
  iapply (st_wait m ρ K c 1 7 9 (by decide) rfl) $$ HC HW HO
  iintro HW HO
  iapply (st_start m c 1 0 7 8 (o6 c 0) rfl rfl) $$ HW
  iintro HW
  iapply (ld_x m ρ c) $$ Hx
  iintro Hx
  iapply (st_load m c 1 0 7 8 (by decide) rfl) $$ HW
  iintro HW
  iapply (st_e m ρ c 7 (o5 c 3) rfl) $$ HE7
  iintro HE7
  iapply (wp_done (Q := Q) c (a' := (srun m ρ c 8)) rfl)
  iapply Hk $$ HW Hx HE6 HE7 HO

theorem part12 {Q} (K : Dev nD × CK → ℕ) (c : Dev nD) (w1 w2 : BitVec 32) :
    Ctx m ρ K ⊢ iprop(Wst m c 0 8 -∗ xP m ρ c -∗ E0 c 8 -∗ Ow c 9
      -∗ (∀ b, Whd m c 1 9 -∗ xP m ρ c -∗ E1 m ρ c 8 -∗ Ow c 9 -∗ Q ⟨srun m ρ c 9, b⟩)
      -∗ WP c (k0_part12_skel xM (Memref.isWhole_whole _) WM (Memref.isWhole_whole _) outM (Memref.isWhole_whole _) wbM (Memref.isWhole_whole _) eM (Memref.isWhole_whole _) inM (Memref.isWhole_whole _) sbM (Memref.isWhole_whole _) siM (Memref.isWhole_whole _) rpM (Memref.isWhole_whole _) rbM (Memref.isWhole_whole _) cc0_scratch7 cc0_scratch8 cc0_scratch9 cc0_scratch10 cc0_scratch11 cc0_scratch12 cc0_scratch13 cc0_scratch14 cc0_scratch15 cc0_scratch16 cc0_scratch17 c w1 w2 (srun m ρ c 8)) Q) := by
  unfold k0_part12_skel
  simp only [Prog.lift, Prog.bind_op, Prog.bind_ret, Prog.pure_eq_ret]
  iintro #HC HW Hx HE8 HO Hk
  iapply (st_wait m ρ K c 0 8 9 (by decide) rfl) $$ HC HW HO
  iintro HW HO
  iapply (st_start m c 0 1 8 9 (o6 c 1) rfl rfl) $$ HW
  iintro HW
  iapply (ld_x m ρ c) $$ Hx
  iintro Hx
  iapply (st_load m c 0 1 8 9 (by decide) rfl) $$ HW
  iintro HW
  iapply (st_e m ρ c 8 (o7 c 0) rfl) $$ HE8
  iintro HE8
  iapply (st_wait m ρ K c 1 9 9 (by decide) rfl) $$ HC HW HO
  iintro HW HO
  iapply (wp_done (Q := Q) c (a' := ⟨srun m ρ c 9, _⟩) rfl)
  iapply Hk $$ HW Hx HE8 HO

theorem part13 {Q} (K : Dev nD × CK → ℕ) (c : Dev nD) (w1 w2 w3 w4 : BitVec 32) :
    Ctx m ρ K ⊢ iprop(Whd m c 1 9 -∗ xP m ρ c -∗ E0 c 9 -∗ Ow c 9
      -∗ (Whd m c 0 10 -∗ xP m ρ c -∗ E1 m ρ c 9 -∗ Ow c 9 -∗ Q (srun m ρ c 10))
      -∗ WP c (k0_part13_skel xM (Memref.isWhole_whole _) WM (Memref.isWhole_whole _) outM (Memref.isWhole_whole _) wbM (Memref.isWhole_whole _) eM (Memref.isWhole_whole _) inM (Memref.isWhole_whole _) sbM (Memref.isWhole_whole _) siM (Memref.isWhole_whole _) rpM (Memref.isWhole_whole _) rbM (Memref.isWhole_whole _) cc0_scratch7 cc0_scratch8 cc0_scratch9 cc0_scratch10 cc0_scratch11 cc0_scratch12 cc0_scratch13 cc0_scratch14 cc0_scratch15 cc0_scratch16 cc0_scratch17 c w1 w2 w3 (srun m ρ c 9) w4) Q) := by
  unfold k0_part13_skel
  simp only [Prog.lift, Prog.bind_op, Prog.bind_ret, Prog.pure_eq_ret]
  iintro #HC HW Hx HE9 HO Hk
  iapply (st_start m c 1 0 9 10 (o6 c 2) rfl rfl) $$ HW
  iintro HW
  iapply (ld_x m ρ c) $$ Hx
  iintro Hx
  iapply (st_load m c 1 0 9 10 (by decide) rfl) $$ HW
  iintro HW
  iapply (st_e m ρ c 9 (o7 c 1) rfl) $$ HE9
  iintro HE9
  iapply (st_wait m ρ K c 0 10 9 (by decide) rfl) $$ HC HW HO
  iintro HW HO
  iapply (wp_done (Q := Q) c (a' := (srun m ρ c 10)) rfl)
  iapply Hk $$ HW Hx HE9 HO

theorem part14 {Q} (K : Dev nD × CK → ℕ) (c : Dev nD) (w1 w2 : BitVec 32) :
    Ctx m ρ K ⊢ iprop(Whd m c 0 10 -∗ xP m ρ c -∗ E0 c 10 -∗ Ow c 9
      -∗ (Wst m c 0 12 -∗ xP m ρ c -∗ E1 m ρ c 10 -∗ Ow c 9 -∗ Q ⟨srun m ρ c 11, k0_pay37 (xv m ρ c), k0_pay38 (Wch m c (cblk c 11)), constant S512x512 .f32 0x00000000#32⟩)
      -∗ WP c (k0_part14_skel xM (Memref.isWhole_whole _) WM (Memref.isWhole_whole _) outM (Memref.isWhole_whole _) wbM (Memref.isWhole_whole _) eM (Memref.isWhole_whole _) inM (Memref.isWhole_whole _) sbM (Memref.isWhole_whole _) siM (Memref.isWhole_whole _) rpM (Memref.isWhole_whole _) rbM (Memref.isWhole_whole _) cc0_scratch7 cc0_scratch8 cc0_scratch9 cc0_scratch10 cc0_scratch11 cc0_scratch12 cc0_scratch13 cc0_scratch14 cc0_scratch15 cc0_scratch16 cc0_scratch17 c w1 w2 (srun m ρ c 10)) Q) := by
  unfold k0_part14_skel
  simp only [Prog.lift, Prog.bind_op, Prog.bind_ret, Prog.pure_eq_ret]
  iintro #HC HW Hx HE10 HO Hk
  iapply (st_start m c 0 1 10 11 (o6 c 3) rfl rfl) $$ HW
  iintro HW
  iapply (ld_x m ρ c) $$ Hx
  iintro Hx
  iapply (st_load m c 0 1 10 11 (by decide) rfl) $$ HW
  iintro HW
  iapply (st_e m ρ c 10 (o7 c 2) rfl) $$ HE10
  iintro HE10
  iapply (st_wait m ρ K c 1 11 9 (by decide) rfl) $$ HC HW HO
  iintro HW HO
  iapply (st_start m c 1 0 11 12 (o8 c 0) rfl rfl) $$ HW
  iintro HW
  iapply (ld_x m ρ c) $$ Hx
  iintro Hx
  iapply (st_load m c 1 0 11 12 (by decide) rfl) $$ HW
  iintro HW
  iapply (wp_done (Q := Q) c (a' := ⟨srun m ρ c 11, k0_pay37 (xv m ρ c), k0_pay38 (Wch m c (cblk c 11)), constant S512x512 .f32 0x00000000#32⟩) rfl)
  iapply Hk $$ HW Hx HE10 HO

theorem part15 {Q} (K : Dev nD × CK → ℕ) (c : Dev nD) (w1 w2 w3 : BitVec 32) :
    Ctx m ρ K ⊢ iprop(Wst m c 0 12 -∗ xP m ρ c -∗ E0 c 11 -∗ E0 c 12 -∗ Ow c 9
      -∗ (Wst m c 1 13 -∗ xP m ρ c -∗ E1 m ρ c 11 -∗ E1 m ρ c 12 -∗ Ow c 9 -∗ Q ⟨srun m ρ c 12, k0_pay42 (xv m ρ c) (Wch m c (cblk c 12))⟩)
      -∗ WP c (k0_part15_skel xM (Memref.isWhole_whole _) WM (Memref.isWhole_whole _) outM (Memref.isWhole_whole _) wbM (Memref.isWhole_whole _) eM (Memref.isWhole_whole _) inM (Memref.isWhole_whole _) sbM (Memref.isWhole_whole _) siM (Memref.isWhole_whole _) rpM (Memref.isWhole_whole _) rbM (Memref.isWhole_whole _) cc0_scratch7 cc0_scratch8 cc0_scratch9 cc0_scratch10 cc0_scratch11 cc0_scratch12 cc0_scratch13 cc0_scratch14 cc0_scratch15 cc0_scratch16 cc0_scratch17 c w1 w2 w3 (srun m ρ c 11) (k0_pay37 (xv m ρ c)) (k0_pay38 (Wch m c (cblk c 11))) (constant S512x512 .f32 0x00000000#32)) Q) := by
  unfold k0_part15_skel
  simp only [Prog.lift, Prog.bind_op, Prog.bind_ret, Prog.pure_eq_ret]
  iintro #HC HW Hx HE11 HE12 HO Hk
  iapply (st_e m ρ c 11 (o7 c 3) rfl) $$ HE11
  iintro HE11
  iapply (st_wait m ρ K c 0 12 9 (by decide) rfl) $$ HC HW HO
  iintro HW HO
  iapply (st_start m c 0 1 12 13 (o8 c 1) rfl rfl) $$ HW
  iintro HW
  iapply (ld_x m ρ c) $$ Hx
  iintro Hx
  iapply (st_load m c 0 1 12 13 (by decide) rfl) $$ HW
  iintro HW
  iapply (st_e m ρ c 12 (o9 c 0) rfl) $$ HE12
  iintro HE12
  iapply (wp_done (Q := Q) c (a' := ⟨srun m ρ c 12, k0_pay42 (xv m ρ c) (Wch m c (cblk c 12))⟩) rfl)
  iapply Hk $$ HW Hx HE11 HE12 HO

theorem part16 {Q} (K : Dev nD × CK → ℕ) (c : Dev nD) (w1 w2 : BitVec 32) :
    Ctx m ρ K ⊢ iprop(Wst m c 1 13 -∗ xP m ρ c -∗ E0 c 13 -∗ Ow c 9
      -∗ (Wst m c 0 14 -∗ xP m ρ c -∗ E1 m ρ c 13 -∗ Ow c 9 -∗ Q (srun m ρ c 14))
      -∗ WP c (k0_part16_skel xM (Memref.isWhole_whole _) WM (Memref.isWhole_whole _) outM (Memref.isWhole_whole _) wbM (Memref.isWhole_whole _) eM (Memref.isWhole_whole _) inM (Memref.isWhole_whole _) sbM (Memref.isWhole_whole _) siM (Memref.isWhole_whole _) rpM (Memref.isWhole_whole _) rbM (Memref.isWhole_whole _) cc0_scratch7 cc0_scratch8 cc0_scratch9 cc0_scratch10 cc0_scratch11 cc0_scratch12 cc0_scratch13 cc0_scratch14 cc0_scratch15 cc0_scratch16 cc0_scratch17 c w1 w2 (srun m ρ c 12) (k0_pay42 (xv m ρ c) (Wch m c (cblk c 12)))) Q) := by
  unfold k0_part16_skel
  simp only [Prog.lift, Prog.bind_op, Prog.bind_ret, Prog.pure_eq_ret]
  iintro #HC HW Hx HE13 HO Hk
  iapply (st_wait m ρ K c 1 13 9 (by decide) rfl) $$ HC HW HO
  iintro HW HO
  iapply (st_start m c 1 0 13 14 (o8 c 2) rfl rfl) $$ HW
  iintro HW
  iapply (ld_x m ρ c) $$ Hx
  iintro Hx
  iapply (st_load m c 1 0 13 14 (by decide) rfl) $$ HW
  iintro HW
  iapply (st_e m ρ c 13 (o9 c 1) rfl) $$ HE13
  iintro HE13
  iapply (wp_done (Q := Q) c (a' := (srun m ρ c 14)) rfl)
  iapply Hk $$ HW Hx HE13 HO

theorem part17 {Q} (K : Dev nD × CK → ℕ) (c : Dev nD) (w1 w2 : BitVec 32) :
    Ctx m ρ K ⊢ iprop(Wst m c 0 14 -∗ xP m ρ c -∗ E0 c 14 -∗ Ow c 9
      -∗ (Whd m c 1 15 -∗ xP m ρ c -∗ E1 m ρ c 14 -∗ Ow c 9 -∗ Q ⟨srun m ρ c 15, k0_pay50 (xv m ρ c)⟩)
      -∗ WP c (k0_part17_skel xM (Memref.isWhole_whole _) WM (Memref.isWhole_whole _) outM (Memref.isWhole_whole _) wbM (Memref.isWhole_whole _) eM (Memref.isWhole_whole _) inM (Memref.isWhole_whole _) sbM (Memref.isWhole_whole _) siM (Memref.isWhole_whole _) rpM (Memref.isWhole_whole _) rbM (Memref.isWhole_whole _) cc0_scratch7 cc0_scratch8 cc0_scratch9 cc0_scratch10 cc0_scratch11 cc0_scratch12 cc0_scratch13 cc0_scratch14 cc0_scratch15 cc0_scratch16 cc0_scratch17 c w1 w2 (srun m ρ c 14)) Q) := by
  unfold k0_part17_skel
  simp only [Prog.lift, Prog.bind_op, Prog.bind_ret, Prog.pure_eq_ret]
  iintro #HC HW Hx HE14 HO Hk
  iapply (st_wait m ρ K c 0 14 9 (by decide) rfl) $$ HC HW HO
  iintro HW HO
  iapply (st_start m c 0 1 14 15 (o8 c 3) rfl rfl) $$ HW
  iintro HW
  iapply (ld_x m ρ c) $$ Hx
  iintro Hx
  iapply (st_load m c 0 1 14 15 (by decide) rfl) $$ HW
  iintro HW
  iapply (st_e m ρ c 14 (o9 c 2) rfl) $$ HE14
  iintro HE14
  iapply (st_wait m ρ K c 1 15 9 (by decide) rfl) $$ HC HW HO
  iintro HW HO
  iapply (ld_x m ρ c) $$ Hx
  iintro Hx
  iapply (wp_done (Q := Q) c (a' := ⟨srun m ρ c 15, k0_pay50 (xv m ρ c)⟩) rfl)
  iapply Hk $$ HW Hx HE14 HO

theorem part18 {Q} (K : Dev nD × CK → ℕ) (c : Dev nD) (w1 w2 w3 w4 w5 : BitVec 32) :
    Ctx m ρ K ⊢ iprop(Whd m c 1 15 -∗ E0 c 15 -∗ (∃ f, sbP c f) -∗ Sd c (zn c) .ss .sr -∗ (∃ f, siP (zn c) f) -∗ Sd c (zn c) (.zs 4) (.zr 4) -∗ E1 m ρ c 4 -∗ T0 c 4 -∗ Ow c 9
      -∗ (wP m c -∗ Wfree c 0 -∗ Wfree c 1 -∗ E1 m ρ c 15 -∗ Wt c .ss -∗ Wt c (.zs 4) -∗ EK m ρ c 4 -∗ Ow c 7 -∗ Q (Sv m ρ c))
      -∗ WP c (k0_part18_skel xM (Memref.isWhole_whole _) WM (Memref.isWhole_whole _) outM (Memref.isWhole_whole _) wbM (Memref.isWhole_whole _) eM (Memref.isWhole_whole _) inM (Memref.isWhole_whole _) sbM (Memref.isWhole_whole _) siM (Memref.isWhole_whole _) rpM (Memref.isWhole_whole _) rbM (Memref.isWhole_whole _) cc0_scratch7 cc0_scratch8 cc0_scratch9 cc0_scratch10 cc0_scratch11 cc0_scratch12 cc0_scratch13 cc0_scratch14 cc0_scratch15 cc0_scratch16 cc0_scratch17 c w1 w2 w3 w4 w5 (srun m ρ c 15) (k0_pay50 (xv m ρ c))) Q) := by
  unfold k0_part18_skel
  simp only [Prog.lift, Prog.bind_op, Prog.bind_ret, Prog.pure_eq_ret]
  iintro #HC HW HE15 Hs HSs HTs HS4 HE4 HT4 HO Hk
  iapply (st_last m c 15) $$ HW
  iintro Hw H0 H1
  iapply (st_e m ρ c 15 (o9 c 3) rfl) $$ HE15
  iintro HE15
  iapply (s_step m ρ c (pay54_eq _ _ _)) $$ Hs
  iintro Hs
  iapply (s_send m ρ K c _ (Fin.ext ((k0_dev8_eq c).trans (zn_val c).symm)) rfl rfl) $$ HC HSs Hs HTs HO
  iintro ⟨Hs, HO⟩
  iapply (sz m ρ K c _ 4 4 7 (o10 c 0) rfl (k0_dev9_eq c) rfl rfl rfl) $$ HC HS4 HE4 HT4 HO
  iintro HT4 HE4 HO
  iapply (wp_done (Q := Q) c (a' := (Sv m ρ c)) rfl)
  iapply Hk $$ Hw H0 H1 HE15 Hs HT4 HE4 HO

theorem part19 {Q} (K : Dev nD × CK → ℕ) (c : Dev nD) (w1 w2 w3 w4 w5 w6 : BitVec 32) :
    Ctx m ρ K ⊢ iprop(Sd c (zn c) (.zs 5) (.zr 5) -∗ E1 m ρ c 5 -∗ T0 c 5 -∗ Sd c (zn c) (.zs 6) (.zr 6) -∗ E1 m ρ c 6 -∗ T0 c 6 -∗ Ow c 7
      -∗ (∀ b, Wt c (.zs 5) -∗ EK m ρ c 5 -∗ Wt c (.zs 6) -∗ EK m ρ c 6 -∗ Ow c 5 -∗ Q b)
      -∗ WP c (k0_part19_skel xM (Memref.isWhole_whole _) WM (Memref.isWhole_whole _) outM (Memref.isWhole_whole _) wbM (Memref.isWhole_whole _) eM (Memref.isWhole_whole _) inM (Memref.isWhole_whole _) sbM (Memref.isWhole_whole _) siM (Memref.isWhole_whole _) rpM (Memref.isWhole_whole _) rbM (Memref.isWhole_whole _) cc0_scratch7 cc0_scratch8 cc0_scratch9 cc0_scratch10 cc0_scratch11 cc0_scratch12 cc0_scratch13 cc0_scratch14 cc0_scratch15 cc0_scratch16 cc0_scratch17 c w1 w2 w3 w4 w5 w6) Q) := by
  unfold k0_part19_skel
  simp only [Prog.lift, Prog.bind_op, Prog.bind_ret, Prog.pure_eq_ret]
  iintro #HC HS5 HE5 HT5 HS6 HE6 HT6 HO Hk
  iapply (sz m ρ K c _ 5 5 6 (o10 c 1) rfl (k0_dev10_eq c) rfl rfl rfl) $$ HC HS5 HE5 HT5 HO
  iintro HT5 HE5 HO
  iapply (sz m ρ K c _ 6 6 5 (o10 c 2) rfl (k0_dev11_eq c) rfl rfl rfl) $$ HC HS6 HE6 HT6 HO
  iintro HT6 HE6 HO
  iapply (wp_done (Q := Q) c (a' := _) rfl)
  iapply Hk $$ HT5 HE5 HT6 HE6 HO

theorem part20 {Q} (K : Dev nD × CK → ℕ) (c : Dev nD) (w1 w2 w3 w4 w5 : BitVec 32) :
    Ctx m ρ K ⊢ iprop(Sd c (zn c) (.zs 7) (.zr 7) -∗ E1 m ρ c 7 -∗ T0 c 7 -∗ Wt c (.zr 0) -∗ Wt c (.zr 1) -∗ Ow c 5
      -∗ (∀ b, Wt c (.zs 7) -∗ EK m ρ c 7 -∗ semVal (cell c (.zr 0)) 0 -∗ Z1 m ρ c 0 -∗ semVal (cell c (.zr 1)) 0 -∗ Z1 m ρ c 1 -∗ Ow c 4 -∗ Q b)
      -∗ WP c (k0_part20_skel xM (Memref.isWhole_whole _) WM (Memref.isWhole_whole _) outM (Memref.isWhole_whole _) wbM (Memref.isWhole_whole _) eM (Memref.isWhole_whole _) inM (Memref.isWhole_whole _) sbM (Memref.isWhole_whole _) siM (Memref.isWhole_whole _) rpM (Memref.isWhole_whole _) rbM (Memref.isWhole_whole _) cc0_scratch7 cc0_scratch8 cc0_scratch9 cc0_scratch10 cc0_scratch11 cc0_scratch12 cc0_scratch13 cc0_scratch14 cc0_scratch15 cc0_scratch16 cc0_scratch17 c w1 w2 w3 w4 w5) Q) := by
  unfold k0_part20_skel
  simp only [Prog.lift, Prog.bind_op, Prog.bind_ret, Prog.pure_eq_ret]
  iintro #HC HS7 HE7 HT7 HW0 HW1 HO Hk
  iapply (sz m ρ K c _ 7 7 4 (o10 c 3) rfl (k0_dev12_eq c) rfl rfl rfl) $$ HC HS7 HE7 HT7 HO
  iintro HT7 HE7 HO
  iapply (wz m ρ K c 0 4 (by decide) rfl) $$ HC HW0 HO
  iintro HO HW0 HZ0
  iapply (wz m ρ K c 1 4 (by decide) rfl) $$ HC HW1 HO
  iintro HO HW1 HZ1
  iapply (wp_done (Q := Q) c (a' := _) rfl)
  iapply Hk $$ HT7 HE7 HW0 HZ0 HW1 HZ1 HO

end Cert.Gather

end
-- ==== Proof.Scale.lean ====
module

public import proofs.«01_k».proof.Proof.Chunks

/-! # The parts of the body that send on and write the output

What lands is sent on to the neighbours, and every column and band of the output is written. -/

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## What is held -/

/-- The semaphores of the two slots columns and bands leave from. -/
def qr (s : ℕ) : DmaSem sig := if s = 0 then (3 : Fin 33) else (4 : Fin 33)
def qb (s : ℕ) : DmaSem sig := if s = 0 then (5 : Fin 33) else (6 : Fin 33)

theorem qr_ne (s : ℕ) (kk : CK) : csem kk ≠ .dma (qr s) := by
  unfold qr
  split_ifs
  · revert kk; decide +kernel
  · revert kk; decide +kernel
theorem qb_ne (s : ℕ) (kk : CK) : csem kk ≠ .dma (qb s) := by
  unfold qb
  split_ifs
  · revert kk; decide +kernel
  · revert kk; decide +kernel

/-- A run of columns of the output, before and after it is written. -/
def O0 (c : Dev nD) (n w : ℕ) : sProp 𝕄 := iprop(∃ f, outP (F := F) c (oB c n w) f)
def O1 (c : Dev nD) (n w : ℕ) : sProp 𝕄 := outP c (oB c n w) (OUTv m ρ c)
/-- A band of rows of the output, before and after it is written. -/
def B0 (c : Dev nD) (b : ℕ) : sProp 𝕄 := iprop(∃ f, outP (F := F) c (bB c b) f)
def B1 (c : Dev nD) (b : ℕ) : sProp 𝕄 := outP c (bB c b) (OUTv m ρ c)
/-- A slot columns leave from, idle, and with a run on its way. -/
def Rw (c : Dev nD) (s w : ℕ) : sProp 𝕄 := iprop((∃ f, rsl (F := F) c s w f) ∗ zero c (qr s))
def OFl (c : Dev nD) (s n w : ℕ) : sProp 𝕄 := OF m ρ c (qr s) s n w
/-- The right half of a slot, set aside. -/
def RR (c : Dev nD) (s : ℕ) : sProp 𝕄 := iprop(∃ f : Vec F S2x512x1024 .f32, ((c : Thread nD τ).loc cc0_scratch5) ↦[slab s 512 512]{fullShare} f)
/-- A slot bands leave from, idle, filled, and with a band on its way. -/
def Bw (c : Dev nD) (s : ℕ) : sProp 𝕄 := iprop((∃ f, bsl (F := F) c s f) ∗ zero c (qb s))
def Bh (c : Dev nD) (s b : ℕ) : sProp 𝕄 := iprop(bsl c s (bandC m ρ c b) ∗ zero c (qb s))
def BFl (c : Dev nD) (s b : ℕ) : sProp 𝕄 := BF m ρ c (qb s) s b
/-- The exponentials, all of them, for reading. -/
def EA (c : Dev nD) : sProp 𝕄 := eP c Finset.univ fullShare.right (Ev m ρ c)
/-- A landed piece of the device's quarter: the shares sent on over `x` and over `y`, and the share kept. -/
def XL (c : Dev nD) (f : Fin 2) : sProp 𝕄 := inP c (mB c f) fullShare.left (INv m ρ c)
def YL (c : Dev nD) (f : Fin 2) : sProp 𝕄 := inP c (mB c f) fullShare.right.left (INv m ρ c)
def MR (c : Dev nD) (f : Fin 2) : sProp 𝕄 := inP c (mB c f) fullShare.right.right (INv m ρ c)
/-- The neighbours' buffers those are to land in. -/
def TX (c : Dev nD) (f : Fin 2) : sProp 𝕄 := iprop(∃ g, inP (F := F) (xn c) (mB c f) fullShare g)
def TY (c : Dev nD) (f : Fin 2) : sProp 𝕄 := iprop(∃ g, inP (F := F) (yn c) (mB c f) fullShare g)
/-- The pieces that land from the `x`- and the `y`-neighbour. -/
def X1 (c : Dev nD) (f : Fin 2) : sProp 𝕄 := inP c (xB c f) fullShare (INv m ρ c)
def Y1 (c : Dev nD) (f : Fin 2) : sProp 𝕄 := inP c (yB c f) fullShare (INv m ρ c)
/-- The share of a piece that comes back when it has left. -/
def EL (c : Dev nD) (j : Fin 8) : sProp 𝕄 := eP c (zB c j) fullShare.left (Ev m ρ c)
/-- The row sums received and sent. -/
def SI (c : Dev nD) : sProp 𝕄 := siP c (Sv m ρ (zn c))
def SB (c : Dev nD) : sProp 𝕄 := sbP c (Sv m ρ c)

theorem hM (c : Dev nD) (f : Fin 2) : cM c + 1024 * f.val + 1024 ≤ 8192 := by have := lt8 c; have := f.isLt; unfold cM; omega
theorem hX (c : Dev nD) (f : Fin 2) : cX c + 1024 * f.val + 1024 ≤ 8192 := by have := lt8 c; have := f.isLt; unfold cX; omega
theorem hY (c : Dev nD) (f : Fin 2) : cY c + 1024 * f.val + 1024 ≤ 8192 := by have := lt8 c; have := f.isLt; unfold cY; omega
theorem hD (c : Dev nD) (r : Fin 4) : cD c + 512 * r.val + 512 ≤ 8192 := by have := lt8 c; have := r.isLt; unfold cD; omega

theorem credE {off : Fin 2 → ℕ} {inb st} : (eM.slice (Rect.unit (s := S512x8192) off S512x512.size inb) st).view.dmaCredit = nZ := by
  simp only [View.dmaCredit]; rfl

/-- Two landed pieces are one piece of the quarter, in three shares. -/
theorem m_join (c : Dev nD) (f : Fin 2) (j j' : Fin 8) (hj : j.val = 2 * f.val) (hj' : j'.val = 2 * f.val + 1) :
    iprop(Z1 m ρ c j ∗ Z1 m ρ c j') ⊢ iprop(XL m ρ c f ∗ YL m ρ c f ∗ MR m ρ c f) := by
  have hf := f.isLt
  have e : ccol c (Fin.castLE (by decide : 8 ≤ 16) j) = cM c + 1024 * f.val := by
    unfold ccol; rw [if_pos (by show j.val < 4; omega)]; show _ + 512 * (j.val % 4) = _; omega
  have e' : ccol c (Fin.castLE (by decide : 8 ≤ 16) j') = cM c + 1024 * f.val + 512 := by
    unfold ccol; rw [if_pos (by show j'.val < 4; omega)]; show _ + 512 * (j'.val % 4) = _; omega
  have hd : Disjoint (zB c j) (zB c j') := by
    unfold zB cols; rw [e, e']; exact box_disj (by omega)
  have hu : zB c j ∪ zB c j' = mB c f := by
    unfold zB mB cols; rw [e, e']; ext i; rw [Finset.mem_union, mem_box, mem_box, mem_box]; omega
  unfold Z1 XL YL MR
  refine (pointsTo_union (Ix := Unit) (Val := Elt F) (Name := ℕ) (U := UU) (Lvl := ℕ) hd).2.trans ?_
  rw [hu]
  refine (pointsTo_share (PosShare.mem_left_op_right _)).1.trans ?_
  iintro ⟨H, H'⟩
  ihave H' := (pointsTo_share (PosShare.mem_left_op_right _)).1 $$ H'
  isplitl [H]; · iexact H
  iexact H'

theorem rw_cut (c : Dev nD) (s : ℕ) : Rw (F := F) c s 1024 ⊢ iprop(Rw c s 512 ∗ RR c s) := by
  have hd : Disjoint (slab s 0 512 : Finset S2x512x1024.Idx) (slab s 512 512) := slab_disj (by omega)
  have hu : (slab s 0 512 : Finset S2x512x1024.Idx) ∪ slab s 512 512 = slab s 0 1024 := by
    ext i; rw [Finset.mem_union, mem_slab, mem_slab, mem_slab]; omega
  unfold Rw RR
  iintro ⟨⟨%f, H⟩, Hz⟩
  ihave H := (show rsl c s 1024 f ⊢ iprop((((c : Thread nD τ).loc cc0_scratch5) ↦[slab s 0 512]{fullShare} f)
    ∗ (((c : Thread nD τ).loc cc0_scratch5) ↦[slab s 512 512]{fullShare} f) : sProp 𝕄) by
      unfold rsl; rw [← hu]; exact (pointsTo_union (Ix := Unit) (Val := Elt F) (Name := ℕ) (U := UU) (Lvl := ℕ) hd).1) $$ H
  icases H with ⟨H, H'⟩
  isplitr [H']
  · isplitl [H]; · iexists f; iexact H
    iexact Hz
  · iexists f; iexact H'

section Steps
variable {α : Type}

/-- A run of columns is scaled into a slot and sent to the output. -/
theorem put {Q : α → sProp 𝕄} (c : Dev nD) (s w n : ℕ) (hw0 : 0 < w) (hw : w ≤ 1024) (hn : n + w ≤ 8192) {inb hl inb' hx hm} {v : Shape.Idx ⟨3, ![1, 512, w]⟩ → Elt F .f32}
    {q : DmaSem sig} {off : Fin 2 → ℕ} {sinb st hsq inb₂ st' hsrc hdst hsem}
    {k : PUnit → Prog (TpuEff nD τ sig (Elt F) Λ₀ .tc) α} {hb hc} (hoff : off = ![0, 8192 * (1 - c.val % 2) + n]) (hq : q = qr s)
    (hv : v = shapeCast ⟨3, ![1, 512, w]⟩ (mulf (extf .f32 (inC m ρ c w n) bitsLt_bf16_f32) (broadcastTo ⟨2, ![512, w]⟩ (INVv m ρ c) hb)) hc) :
    Rw c s w ⊢ iprop(O0 c n w -∗ (OFl m ρ c s n w -∗ WP c (k ⟨⟩) Q)
        -∗ WP c (.op (.load rpM (Rect.unit (s := S2x512x1024) ![s, 0, 0] (⟨3, ![1, 512, w]⟩ : Shape).size inb).toLoadRect hl)
            fun _ => .op (.store rpM (Rect.unit (s := S2x512x1024) ![s, 0, 0] (⟨3, ![1, 512, w]⟩ : Shape).size inb') v Finset.univ hx hm)
            fun _ => .op (.enqueueDma ((rpM.slice (Rect.unit (s := S2x512x1024) ![s, 0, 0] (⟨3, ![1, 512, w]⟩ : Shape).size sinb) st).squeeze ⟨2, ![512, w]⟩ hsq)
              (.here (outM.slice (Rect.unit (s := S512x16384) off (⟨2, ![512, w]⟩ : Shape).size inb₂) st')) (.dma q) hsrc hdst hsem) k) Q) := by
  subst hq
  unfold Rw O0 OFl
  iintro ⟨Hf, Hz⟩ HO Hk
  iapply (rp_store m ρ c s w n hw hn hv) $$ Hf
  iintro Hf
  iapply (rp_issue m ρ c s w n hw0 hw hn hoff) $$ Hf HO Hz
  iintro H
  iapply Hk $$ H

theorem got {Q : α → sProp 𝕄} (K : Dev nD × CK → ℕ) (c : Dev nD) {q : DmaSem sig} (s w n : ℕ) (r : ℕ) {sp} {src : Memref sig .tc sp ⟨2, ![512, w]⟩ .f32} {off : Fin 2 → ℕ} {inb st hsrc hdst}
    {k : PUnit → Prog (TpuEff nD τ sig (Elt F) Λ₀ .tc) α} (hr : r ≤ 16) (hq : q = qr s) :
    Ctx m ρ K ⊢ iprop(OFl m ρ c s n w -∗ Ow c r
      -∗ (O1 m ρ c n w -∗ Rw c s w -∗ Ow c r -∗ WP c (k ⟨⟩) Q)
      -∗ WP c (.op (.waitDma2 q src (outM.slice (Rect.unit (s := S512x16384) off (⟨2, ![512, w]⟩ : Shape).size inb) st) hsrc hdst) k) Q) := by
  subst hq
  unfold Rw O1 OFl
  iintro HC HF HO Hk
  iapply (rp_wait m ρ K c s w n r hr (qr_ne s)) $$ HC HF HO
  iintro ⟨Ho, Hs, Hz, HO⟩
  iapply Hk $$ Ho [Hs Hz] HO
  isplitl [Hs]; · iexact Hs
  iexact Hz

/-- A band of rows is scaled into a slot, -/
theorem bst {Q : α → sProp 𝕄} (c : Dev nD) (s b : ℕ) (hb : b < 8) {inb hl inb' hx hm} {v : S1x64x8192.Idx → Elt F .f32}
    {k : PUnit → Prog (TpuEff nD τ sig (Elt F) Λ₀ .tc) α} {hs}
    (hv : v = shapeCast S1x64x8192 (mulf (extf .f32 (eC m ρ c b) bitsLt_bf16_f32) (broadcastTo S64x8192 (extractStridedSlice S64x1 ![64 * b, 0] (INVv m ρ c) hs) broadcasts_S64x1_S64x8192))
        shapeCasts_S64x8192_S1x64x8192) :
    Bw c s ⊢ iprop((Bh m ρ c s b -∗ WP c (k ⟨⟩) Q)
        -∗ WP c (.op (.load rbM (Rect.unit (s := S2x64x8192) ![s, 0, 0] S1x64x8192.size inb).toLoadRect hl)
            fun _ => .op (.store rbM (Rect.unit (s := S2x64x8192) ![s, 0, 0] S1x64x8192.size inb') v Finset.univ hx hm) k) Q) := by
  unfold Bw Bh
  iintro ⟨Hf, Hz⟩ Hk
  iapply (rb_store m ρ c s b hb hv) $$ Hf
  iintro Hf
  iapply Hk
  isplitl [Hf]; · iexact Hf
  iexact Hz

/-- and sent to the output. -/
theorem bis {Q : α → sProp 𝕄} (c : Dev nD) (s b : ℕ) (hb : b < 8) {q : DmaSem sig} {off : Fin 2 → ℕ} {sinb st hsq inb st' hsrc hdst hsem}
    {k : PUnit → Prog (TpuEff nD τ sig (Elt F) Λ₀ .tc) α} (hoff : off = ![64 * b, 8192 * (c.val % 2)]) (hq : q = qb s) :
    Bh m ρ c s b ⊢ iprop(B0 c b -∗ (BFl m ρ c s b -∗ WP c (k ⟨⟩) Q)
      -∗ WP c (.op (.enqueueDma ((rbM.slice (Rect.unit (s := S2x64x8192) ![s, 0, 0] S1x64x8192.size sinb) st).squeeze S64x8192 hsq)
          (.here (outM.slice (Rect.unit (s := S512x16384) off S64x8192.size inb) st')) (.dma q) hsrc hdst hsem) k) Q) := by
  subst hq
  unfold Bh B0 BFl
  iintro ⟨Hf, Hz⟩ HO Hk
  iapply (rb_issue m ρ c s b hb hoff) $$ Hf HO Hz
  iintro H
  iapply Hk $$ H

theorem bgot {Q : α → sProp 𝕄} (K : Dev nD × CK → ℕ) (c : Dev nD) {q : DmaSem sig} (s b : ℕ) (r : ℕ) {sp} {src : Memref sig .tc sp S64x8192 .f32} {off : Fin 2 → ℕ} {inb st hsrc hdst}
    {k : PUnit → Prog (TpuEff nD τ sig (Elt F) Λ₀ .tc) α} (hr : r ≤ 16) (hq : q = qb s) :
    Ctx m ρ K ⊢ iprop(BFl m ρ c s b -∗ Ow c r
      -∗ (B1 m ρ c b -∗ Bw c s -∗ Ow c r -∗ WP c (k ⟨⟩) Q)
      -∗ WP c (.op (.waitDma2 q src (outM.slice (Rect.unit (s := S512x16384) off S64x8192.size inb) st) hsrc hdst) k) Q) := by
  subst hq
  unfold BFl B1 Bw
  iintro HC HF HO Hk
  iapply (rb_wait m ρ K c s b r hr (qb_ne s)) $$ HC HF HO
  iintro ⟨Ho, Hs, Hz, HO⟩
  iapply Hk $$ Ho [Hs Hz] HO
  isplitl [Hs]; · iexact Hs
  iexact Hz

theorem sx {Q : α → sProp 𝕄} (K : Dev nD × CK → ℕ) (c n : Dev nD) (f : Fin 2) (r : ℕ) {qS qR : DmaSem sig} {off : Fin 2 → ℕ} {inb st inb' st' hsc hsrc hdst hsem}
    {k : PUnit → Prog (TpuEff nD τ sig (Elt F) Λ₀ .tc) α} (hoff : off = ![0, cM c + 1024 * f.val]) (hn : n.val = (2 * ((c.val / 2) % 2) + (c.val % 2) + 4) - 4 * (c.val / 4))
    (ht : tgt c r = (xn c, .xr f)) (hqS : SemLoc.dma qS = csem (.xs f)) (hqR : SemLoc.dma qR = csem (.xr f)) :
    Ctx m ρ K ⊢ iprop(Sd c (xn c) (.xs f) (.xr f) -∗ XL m ρ c f -∗ TX c f -∗ Ow c (r + 1)
      -∗ (Wt c (.xs f) -∗ Ow c r -∗ WP c (k ⟨⟩) Q)
      -∗ WP c (.op (.enqueueDma (inM.slice (Rect.unit (s := S512x8192) off S512x1024.size inb) st)
          (.remote (Dev.tc n : Thread nD τ) (inM.slice (Rect.unit (s := S512x8192) off S512x1024.size inb') st') (.dma qS) hsc) (.dma qR) hsrc hdst hsem) k) Q) := by
  unfold XL TX
  iintro HC HS HE HT HO Hk
  iapply (x_send m ρ K c n f r hoff (Fin.ext (hn.trans (xn_val c).symm)) ht hqS hqR) $$ HC HS HE HT HO
  iintro ⟨HW, HO⟩
  iapply Hk $$ HW HO

theorem sy {Q : α → sProp 𝕄} (K : Dev nD × CK → ℕ) (c n : Dev nD) (f : Fin 2) (r : ℕ) {qS qR : DmaSem sig} {off : Fin 2 → ℕ} {inb st inb' st' hsc hsrc hdst hsem}
    {k : PUnit → Prog (TpuEff nD τ sig (Elt F) Λ₀ .tc) α} (hoff : off = ![0, cM c + 1024 * f.val]) (hn : n.val = (4 * (c.val / 4) + (c.val % 2) + 2) - 2 * ((c.val / 2) % 2))
    (ht : tgt c r = (yn c, .yr f)) (hqS : SemLoc.dma qS = csem (.ys f)) (hqR : SemLoc.dma qR = csem (.yr f)) :
    Ctx m ρ K ⊢ iprop(Sd c (yn c) (.ys f) (.yr f) -∗ YL m ρ c f -∗ TY c f -∗ Ow c (r + 1)
      -∗ (Wt c (.ys f) -∗ Ow c r -∗ WP c (k ⟨⟩) Q)
      -∗ WP c (.op (.enqueueDma (inM.slice (Rect.unit (s := S512x8192) off S512x1024.size inb) st)
          (.remote (Dev.tc n : Thread nD τ) (inM.slice (Rect.unit (s := S512x8192) off S512x1024.size inb') st') (.dma qS) hsc) (.dma qR) hsrc hdst hsem) k) Q) := by
  unfold YL TY
  iintro HC HS HE HT HO Hk
  iapply (y_send m ρ K c n f r hoff (Fin.ext (hn.trans (yn_val c).symm)) ht hqS hqR) $$ HC HS HE HT HO
  iintro ⟨HW, HO⟩
  iapply Hk $$ HW HO

/-- A wait once nothing more is owed. -/
theorem wt {Q : α → sProp 𝕄} (K : Dev nD × CK → ℕ) (c : Dev nD) (kk : CK) (P : sProp 𝕄) {sp sp' : Space} {s s' : Shape} {e e' : EltTy} {src : Memref sig .tc sp' s' e'} (dst : Memref sig .tc sp s e)
    {qs : DmaSem sig} {hsrc : src.view.WordExact} {hdst : dst.view.WordExact}
    {k : PUnit → Prog (TpuEff nD τ sig (Elt F) Λ₀ .tc) α} (hP : pay m ρ c kk 0 = P) (hq : .dma qs = csem kk) (hb : kk ≠ .bar) (hN : dst.view.dmaCredit = amt kk) :
    Ctx m ρ K ⊢ iprop(Wt c kk -∗ Ow c 0 -∗ (Ow c 0 -∗ semVal (cell c kk) 0 -∗ P -∗ WP c (k ⟨⟩) Q)
      -∗ WP c (.op (.waitDma2 qs src dst hsrc hdst) k) Q) := by
  subst hP
  iintro HC HW HO Hk
  iapply (xwait m ρ K c kk (dst := dst) 0 hq hb hN (Or.inr (Or.inr (Or.inr rfl)))) $$ [HC HW HO] [Hk]
  · isplitl [HC]; · iexact HC
    isplitl [HW]; · iexact HW
    iexact HO
  · iintro ⟨HO, Hz, Hp⟩
    iapply Hk $$ HO Hz Hp

theorem wx {Q : α → sProp 𝕄} (K : Dev nD × CK → ℕ) (c : Dev nD) (kk : CK) (P : sProp 𝕄) {sp : Space} {s' : Shape} {e' : EltTy} {src : Memref sig .tc sp s' e'} {off : Fin 2 → ℕ} {inb st}
    {qs : DmaSem sig} {hsrc hdst}
    {k : PUnit → Prog (TpuEff nD τ sig (Elt F) Λ₀ .tc) α} (hP : pay m ρ c kk 0 = P) (hq : .dma qs = csem kk) (hb : kk ≠ .bar) (hN : amt kk = nX) :
    Ctx m ρ K ⊢ iprop(Wt c kk -∗ Ow c 0 -∗ (Ow c 0 -∗ semVal (cell c kk) 0 -∗ P -∗ WP c (k ⟨⟩) Q)
      -∗ WP c (.op (.waitDma2 qs src (inM.slice (Rect.unit (s := S512x8192) off S512x1024.size inb) st) hsrc hdst) k) Q) :=
  wt m ρ K c kk P (inM.slice (Rect.unit (s := S512x8192) off S512x1024.size inb) st) hP hq hb (credX.trans hN.symm)

theorem we {Q : α → sProp 𝕄} (K : Dev nD × CK → ℕ) (c : Dev nD) (j : Fin 8) {sp : Space} {s' : Shape} {e' : EltTy} {src : Memref sig .tc sp s' e'} {off : Fin 2 → ℕ} {inb st}
    {qs : DmaSem sig} {hsrc hdst}
    {k : PUnit → Prog (TpuEff nD τ sig (Elt F) Λ₀ .tc) α} (hq : .dma qs = csem (.zs j)) :
    Ctx m ρ K ⊢ iprop(Wt c (.zs j) -∗ Ow c 0 -∗ (Ow c 0 -∗ semVal (cell c (.zs j)) 0 -∗ EL m ρ c j -∗ WP c (k ⟨⟩) Q)
      -∗ WP c (.op (.waitDma2 qs src (eM.slice (Rect.unit (s := S512x8192) off S512x512.size inb) st) hsrc hdst) k) Q) :=
  wt m ρ K c (.zs j) (EL m ρ c j) (eM.slice (Rect.unit (s := S512x8192) off S512x512.size inb) st) rfl hq (by simp) credE

theorem rdM {Q : α → sProp 𝕄} (c : Dev nD) (f : Fin 2) (n : ℕ) (he : n = cM c + 1024 * f.val) {off : Fin 2 → ℕ} {inb hl}
    {k : (Shape.Idx ⟨2, ![512, 1024]⟩ → Elt F .bf16) → Prog (TpuEff nD τ sig (Elt F) Λ₀ .tc) α} (hoff : off = ![0, n]) :
    MR m ρ c f ⊢ iprop((MR m ρ c f -∗ WP c (k (inC m ρ c 1024 n)) Q)
      -∗ WP c (.op (.load inM (Rect.unit (s := S512x8192) off (⟨2, ![512, 1024]⟩ : Shape).size inb).toLoadRect hl) k) Q) := by
  subst he
  exact ld_in m ρ c 1024 _ (mB c f) _ (Finset.Subset.refl _) (hM c f) hoff
theorem rdX {Q : α → sProp 𝕄} (c : Dev nD) (f : Fin 2) (n : ℕ) (he : n = cX c + 1024 * f.val) {off : Fin 2 → ℕ} {inb hl}
    {k : (Shape.Idx ⟨2, ![512, 1024]⟩ → Elt F .bf16) → Prog (TpuEff nD τ sig (Elt F) Λ₀ .tc) α} (hoff : off = ![0, n]) :
    X1 m ρ c f ⊢ iprop((X1 m ρ c f -∗ WP c (k (inC m ρ c 1024 n)) Q)
      -∗ WP c (.op (.load inM (Rect.unit (s := S512x8192) off (⟨2, ![512, 1024]⟩ : Shape).size inb).toLoadRect hl) k) Q) := by
  subst he
  exact ld_in m ρ c 1024 _ (xB c f) _ (Finset.Subset.refl _) (hX c f) hoff
theorem rdY {Q : α → sProp 𝕄} (c : Dev nD) (f : Fin 2) (n : ℕ) (he : n = cY c + 1024 * f.val) {off : Fin 2 → ℕ} {inb hl}
    {k : (Shape.Idx ⟨2, ![512, 1024]⟩ → Elt F .bf16) → Prog (TpuEff nD τ sig (Elt F) Λ₀ .tc) α} (hoff : off = ![0, n]) :
    Y1 m ρ c f ⊢ iprop((Y1 m ρ c f -∗ WP c (k (inC m ρ c 1024 n)) Q)
      -∗ WP c (.op (.load inM (Rect.unit (s := S512x8192) off (⟨2, ![512, 1024]⟩ : Shape).size inb).toLoadRect hl) k) Q) := by
  subst he
  exact ld_in m ρ c 1024 _ (yB c f) _ (Finset.Subset.refl _) (hY c f) hoff
theorem rdZ {Q : α → sProp 𝕄} (c : Dev nD) (j : Fin 8) (n : ℕ) (he : n = ccol c (Fin.castLE (by decide) j)) {off : Fin 2 → ℕ} {inb hl}
    {k : (Shape.Idx ⟨2, ![512, 512]⟩ → Elt F .bf16) → Prog (TpuEff nD τ sig (Elt F) Λ₀ .tc) α} (hoff : off = ![0, n]) :
    Z1 m ρ c j ⊢ iprop((Z1 m ρ c j -∗ WP c (k (inC m ρ c 512 n)) Q)
      -∗ WP c (.op (.load inM (Rect.unit (s := S512x8192) off (⟨2, ![512, 512]⟩ : Shape).size inb).toLoadRect hl) k) Q) := by
  subst he
  exact ld_in m ρ c 512 _ (zB c j) _ (Finset.Subset.refl _) (ccol_le c _) hoff
theorem rdE {Q : α → sProp 𝕄} (c : Dev nD) (b : ℕ) (hb : b < 8) {off : Fin 2 → ℕ} {inb hl}
    {k : (S64x8192.Idx → Elt F .bf16) → Prog (TpuEff nD τ sig (Elt F) Λ₀ .tc) α} (hoff : off = ![64 * b, 0]) :
    EA m ρ c ⊢ iprop((EA m ρ c -∗ WP c (k (eC m ρ c b)) Q)
      -∗ WP c (.op (.load eM (Rect.unit (s := S512x8192) off S64x8192.size inb).toLoadRect hl) k) Q) :=
  ld_e m ρ c b hb _ hoff

theorem rdS {Q : α → sProp 𝕄} (c : Dev nD) {inb hl} {k : (S512x1.Idx → Elt F .f32) → Prog (TpuEff nD τ sig (Elt F) Λ₀ .tc) α} :
    SI m ρ c ⊢ iprop((SI m ρ c -∗ WP c (k (Sv m ρ (zn c))) Q)
      -∗ WP c (.op (.load siM (Rect.unit (s := S512x1) ![0, 0] S512x1.size inb).toLoadRect hl) k) Q) := ld_s c (Sv m ρ (zn c))

end Steps

/-! ## The parts that send on and write -/

theorem part21 {Q} (K : Dev nD × CK → ℕ) (c : Dev nD) (w1 w2 w3 w4 w5 w6 w7 : BitVec 32) :
    Ctx m ρ K ⊢ iprop(Z1 m ρ c 0 -∗ Z1 m ρ c 1 -∗ Sd c (xn c) (.xs 0) (.xr 0) -∗ TX c 0 -∗ Ow c 4 -∗ Sd c (yn c) (.ys 0) (.yr 0) -∗ TY c 0 -∗ Wt c (.zr 2)
      -∗ (MR m ρ c 0 -∗ Wt c (.xs 0) -∗ Wt c (.ys 0) -∗ Ow c 2 -∗ semVal (cell c (.zr 2)) 0 -∗ Z1 m ρ c 2 -∗ Q ⟨⟩)
      -∗ WP c (k0_part21_skel xM (Memref.isWhole_whole _) WM (Memref.isWhole_whole _) outM (Memref.isWhole_whole _) wbM (Memref.isWhole_whole _) eM (Memref.isWhole_whole _) inM (Memref.isWhole_whole _) sbM (Memref.isWhole_whole _) siM (Memref.isWhole_whole _) rpM (Memref.isWhole_whole _) rbM (Memref.isWhole_whole _) cc0_scratch7 cc0_scratch8 cc0_scratch9 cc0_scratch10 cc0_scratch11 cc0_scratch12 cc0_scratch13 cc0_scratch14 cc0_scratch15 cc0_scratch16 cc0_scratch17 c w1 w2 w3 w4 w5 w6 w7) Q) := by
  unfold k0_part21_skel
  simp only [Prog.lift, Prog.bind_op, Prog.bind_ret, Prog.pure_eq_ret]
  iintro #HC H1 H2 H6 H7 H8 H11 H12 H15 Hk
  ihave HX := (m_join m ρ c 0 0 1 rfl rfl) $$ [H1 H2]
  · isplitl [H1]; · iexact H1
    iexact H2
  icases HX with ⟨H3, H4, H5⟩
  iapply (sx m ρ K c _ 0 3 (o11 c 0) (k0_dev13_eq c) rfl rfl rfl) $$ HC H6 H3 H7 H8
  iintro H9 H10
  iapply (sy m ρ K c _ 0 2 (o11 c 0) (k0_dev14_eq c) rfl rfl rfl) $$ HC H11 H4 H12 H10
  iintro H13 H14
  iapply (wz m ρ K c 2 2 (by decide) rfl) $$ HC H15 H14
  iintro H16 H17 H18
  iapply (wp_done (Q := Q) c (a' := ⟨⟩) rfl)
  iapply Hk $$ H5 H9 H13 H16 H17 H18

theorem part22 {Q} (K : Dev nD × CK → ℕ) (c : Dev nD) (w1 w2 w3 w4 w5 w6 w7 : BitVec 32) :
    Ctx m ρ K ⊢ iprop(Wt c (.zr 3) -∗ Ow c 2 -∗ Z1 m ρ c 2 -∗ Sd c (xn c) (.xs 1) (.xr 1) -∗ TX c 1
      -∗ (semVal (cell c (.zr 3)) 0 -∗ YL m ρ c 1 -∗ MR m ρ c 1 -∗ Wt c (.xs 1) -∗ Ow c 1 -∗ Q ⟨⟩)
      -∗ WP c (k0_part22_skel xM (Memref.isWhole_whole _) WM (Memref.isWhole_whole _) outM (Memref.isWhole_whole _) wbM (Memref.isWhole_whole _) eM (Memref.isWhole_whole _) inM (Memref.isWhole_whole _) sbM (Memref.isWhole_whole _) siM (Memref.isWhole_whole _) rpM (Memref.isWhole_whole _) rbM (Memref.isWhole_whole _) cc0_scratch7 cc0_scratch8 cc0_scratch9 cc0_scratch10 cc0_scratch11 cc0_scratch12 cc0_scratch13 cc0_scratch14 cc0_scratch15 cc0_scratch16 cc0_scratch17 c w1 w2 w3 w4 w5 w6 w7) Q) := by
  unfold k0_part22_skel
  simp only [Prog.lift, Prog.bind_op, Prog.bind_ret, Prog.pure_eq_ret]
  iintro #HC H1 H2 H6 H10 H11 Hk
  iapply (wz m ρ K c 3 2 (by decide) rfl) $$ HC H1 H2
  iintro H3 H4 H5
  ihave HX := (m_join m ρ c 1 2 3 rfl rfl) $$ [H6 H5]
  · isplitl [H6]; · iexact H6
    iexact H5
  icases HX with ⟨H7, H8, H9⟩
  iapply (sx m ρ K c _ 1 1 (o11 c 1) (k0_dev15_eq c) rfl rfl rfl) $$ HC H10 H7 H11 H3
  iintro H12 H13
  iapply (wp_done (Q := Q) c (a' := ⟨⟩) rfl)
  iapply Hk $$ H4 H8 H9 H12 H13

theorem part23 {Q} (K : Dev nD × CK → ℕ) (c : Dev nD) (w1 w2 w3 w4 w5 : BitVec 32) :
    Ctx m ρ K ⊢ iprop(Sd c (yn c) (.ys 1) (.yr 1) -∗ YL m ρ c 1 -∗ TY c 1 -∗ Ow c 1 -∗ Wt c .sr -∗ MR m ρ c 0 -∗ Rw c 0 1024 -∗ O0 c (cM c + 1024 * 0) 1024 -∗ MR m ρ c 1
      -∗ (∀ b, Wt c (.ys 1) -∗ Ow c 0 -∗ semVal (cell c (.sr)) 0 -∗ SI m ρ c -∗ MR m ρ c 0 -∗ OFl m ρ c 0 (cM c + 1024 * 0) 1024 -∗ MR m ρ c 1 -∗ Q ⟨INVv m ρ c, b, k0_pay57 (Sv m ρ c) (Sv m ρ (zn c)) (inC m ρ c 1024 (cM c + 1024 * 1))⟩)
      -∗ WP c (k0_part23_skel xM (Memref.isWhole_whole _) WM (Memref.isWhole_whole _) outM (Memref.isWhole_whole _) wbM (Memref.isWhole_whole _) eM (Memref.isWhole_whole _) inM (Memref.isWhole_whole _) sbM (Memref.isWhole_whole _) siM (Memref.isWhole_whole _) rpM (Memref.isWhole_whole _) rbM (Memref.isWhole_whole _) cc0_scratch7 cc0_scratch8 cc0_scratch9 cc0_scratch10 cc0_scratch11 cc0_scratch12 cc0_scratch13 cc0_scratch14 cc0_scratch15 cc0_scratch16 cc0_scratch17 c w1 w2 w3 w4 w5 (Sv m ρ c)) Q) := by
  unfold k0_part23_skel
  simp only [Prog.lift, Prog.bind_op, Prog.bind_ret, Prog.pure_eq_ret]
  iintro #HC H1 H2 H3 H4 H7 H12 H14 H15 H17 Hk
  iapply (sy m ρ K c _ 1 0 (o11 c 1) (k0_dev16_eq c) rfl rfl rfl) $$ HC H1 H2 H3 H4
  iintro H5 H6
  iapply (wt m ρ K c .sr (SI m ρ c) siM rfl rfl (by simp) credS) $$ HC H7 H6
  iintro H8 H9 H10
  iapply (rdS m ρ c) $$ H10
  iintro H11
  iapply (rdM m ρ c 0 (cM c + 1024 * 0) rfl (o12 c 0)) $$ H12
  iintro H13
  iapply (put m ρ c 0 1024 (cM c + 1024 * 0) (by decide) (by decide) (hM c 0) (o13 c 0) rfl rfl) $$ H14 H15
  iintro H16
  iapply (rdM m ρ c 1 (cM c + 1024 * 1) rfl (o12 c 1)) $$ H17
  iintro H18
  iapply (wp_done (Q := Q) c (a' := ⟨INVv m ρ c, _, k0_pay57 (Sv m ρ c) (Sv m ρ (zn c)) (inC m ρ c 1024 (cM c + 1024 * 1))⟩) rfl)
  iapply Hk $$ H5 H8 H9 H11 H13 H16 H18

theorem part24 {Q} (K : Dev nD × CK → ℕ) (c : Dev nD) (w1 w2 w3 w4 w5 w6 : BitVec 32) :
    Ctx m ρ K ⊢ iprop(Rw c 1 1024 -∗ O0 c (cM c + 1024 * 1) 1024 -∗ Wt c (.xr 0) -∗ Ow c 0 -∗ OFl m ρ c 0 (cM c + 1024 * 0) 1024
      -∗ (∀ b, OFl m ρ c 1 (cM c + 1024 * 1) 1024 -∗ semVal (cell c (.xr 0)) 0 -∗ O1 m ρ c (cM c + 1024 * 0) 1024 -∗ Rw c 0 1024 -∗ Ow c 0 -∗ X1 m ρ c 0 -∗ Q ⟨b, inC m ρ c 1024 (cX c + 1024 * 0)⟩)
      -∗ WP c (k0_part24_skel xM (Memref.isWhole_whole _) WM (Memref.isWhole_whole _) outM (Memref.isWhole_whole _) wbM (Memref.isWhole_whole _) eM (Memref.isWhole_whole _) inM (Memref.isWhole_whole _) sbM (Memref.isWhole_whole _) siM (Memref.isWhole_whole _) rpM (Memref.isWhole_whole _) rbM (Memref.isWhole_whole _) cc0_scratch7 cc0_scratch8 cc0_scratch9 cc0_scratch10 cc0_scratch11 cc0_scratch12 cc0_scratch13 cc0_scratch14 cc0_scratch15 cc0_scratch16 cc0_scratch17 c w1 w2 w3 w4 w5 w6 (k0_pay57 (Sv m ρ c) (Sv m ρ (zn c)) (inC m ρ c 1024 (cM c + 1024 * 1)))) Q) := by
  unfold k0_part24_skel
  simp only [Prog.lift, Prog.bind_op, Prog.bind_ret, Prog.pure_eq_ret]
  iintro #HC H1 H2 H4 H5 H9 Hk
  iapply (put m ρ c 1 1024 (cM c + 1024 * 1) (by decide) (by decide) (hM c 1) (o13 c 1) rfl rfl) $$ H1 H2
  iintro H3
  iapply (wx m ρ K c (.xr 0) (X1 m ρ c 0) rfl rfl (by simp) rfl) $$ HC H4 H5
  iintro H6 H7 H8
  iapply (got m ρ K c 0 1024 (cM c + 1024 * 0) 0 (by decide) rfl) $$ HC H9 H6
  iintro H10 H11 H12
  iapply (rdX m ρ c 0 (cX c + 1024 * 0) rfl (o15 c 0)) $$ H8
  iintro H13
  iapply (wp_done (Q := Q) c (a' := ⟨_, inC m ρ c 1024 (cX c + 1024 * 0)⟩) rfl)
  iapply Hk $$ H3 H7 H10 H11 H12 H13

theorem part25 {Q} (K : Dev nD × CK → ℕ) (c : Dev nD) (w1 w2 w3 w4 w5 w6 : BitVec 32) :
    Ctx m ρ K ⊢ iprop(Rw c 0 1024 -∗ O0 c (cX c + 1024 * 0) 1024 -∗ Wt c (.xr 1) -∗ Ow c 0 -∗ OFl m ρ c 1 (cM c + 1024 * 1) 1024
      -∗ (∀ b, OFl m ρ c 0 (cX c + 1024 * 0) 1024 -∗ semVal (cell c (.xr 1)) 0 -∗ X1 m ρ c 1 -∗ O1 m ρ c (cM c + 1024 * 1) 1024 -∗ Rw c 1 1024 -∗ Ow c 0 -∗ Q b)
      -∗ WP c (k0_part25_skel xM (Memref.isWhole_whole _) WM (Memref.isWhole_whole _) outM (Memref.isWhole_whole _) wbM (Memref.isWhole_whole _) eM (Memref.isWhole_whole _) inM (Memref.isWhole_whole _) sbM (Memref.isWhole_whole _) siM (Memref.isWhole_whole _) rpM (Memref.isWhole_whole _) rbM (Memref.isWhole_whole _) cc0_scratch7 cc0_scratch8 cc0_scratch9 cc0_scratch10 cc0_scratch11 cc0_scratch12 cc0_scratch13 cc0_scratch14 cc0_scratch15 cc0_scratch16 cc0_scratch17 c w1 w2 w3 w4 w5 (INVv m ρ c) w6 (inC m ρ c 1024 (cX c + 1024 * 0))) Q) := by
  unfold k0_part25_skel
  simp only [Prog.lift, Prog.bind_op, Prog.bind_ret, Prog.pure_eq_ret]
  iintro #HC H1 H2 H4 H5 H9 Hk
  iapply (put m ρ c 0 1024 (cX c + 1024 * 0) (by decide) (by decide) (hX c 0) (o16 c 0) rfl rfl) $$ H1 H2
  iintro H3
  iapply (wx m ρ K c (.xr 1) (X1 m ρ c 1) rfl rfl (by simp) rfl) $$ HC H4 H5
  iintro H6 H7 H8
  iapply (got m ρ K c 1 1024 (cM c + 1024 * 1) 0 (by decide) rfl) $$ HC H9 H6
  iintro H10 H11 H12
  iapply (wp_done (Q := Q) c (a' := _) rfl)
  iapply Hk $$ H3 H7 H8 H10 H11 H12

theorem part26 {Q} (K : Dev nD × CK → ℕ) (c : Dev nD) (w1 w2 w3 w4 w5 w6 : BitVec 32) :
    Ctx m ρ K ⊢ iprop(X1 m ρ c 1 -∗ Rw c 1 1024 -∗ O0 c (cX c + 1024 * 1) 1024 -∗ Wt c (.yr 0) -∗ Ow c 0
      -∗ (∀ b, X1 m ρ c 1 -∗ OFl m ρ c 1 (cX c + 1024 * 1) 1024 -∗ Ow c 0 -∗ semVal (cell c (.yr 0)) 0 -∗ Y1 m ρ c 0 -∗ Q b)
      -∗ WP c (k0_part26_skel xM (Memref.isWhole_whole _) WM (Memref.isWhole_whole _) outM (Memref.isWhole_whole _) wbM (Memref.isWhole_whole _) eM (Memref.isWhole_whole _) inM (Memref.isWhole_whole _) sbM (Memref.isWhole_whole _) siM (Memref.isWhole_whole _) rpM (Memref.isWhole_whole _) rbM (Memref.isWhole_whole _) cc0_scratch7 cc0_scratch8 cc0_scratch9 cc0_scratch10 cc0_scratch11 cc0_scratch12 cc0_scratch13 cc0_scratch14 cc0_scratch15 cc0_scratch16 cc0_scratch17 c w1 w2 w3 w4 w5 (INVv m ρ c) w6) Q) := by
  unfold k0_part26_skel
  simp only [Prog.lift, Prog.bind_op, Prog.bind_ret, Prog.pure_eq_ret]
  iintro #HC H1 H3 H4 H6 H7 Hk
  iapply (rdX m ρ c 1 (cX c + 1024 * 1) rfl (o15 c 1)) $$ H1
  iintro H2
  iapply (put m ρ c 1 1024 (cX c + 1024 * 1) (by decide) (by decide) (hX c 1) (o16 c 1) rfl rfl) $$ H3 H4
  iintro H5
  iapply (wx m ρ K c (.yr 0) (Y1 m ρ c 0) rfl rfl (by simp) rfl) $$ HC H6 H7
  iintro H8 H9 H10
  iapply (wp_done (Q := Q) c (a' := _) rfl)
  iapply Hk $$ H2 H5 H8 H9 H10

theorem part27 {Q} (K : Dev nD × CK → ℕ) (c : Dev nD) (w1 w2 w3 w4 w5 w6 : BitVec 32) :
    Ctx m ρ K ⊢ iprop(OFl m ρ c 0 (cX c + 1024 * 0) 1024 -∗ Ow c 0 -∗ Y1 m ρ c 0 -∗ O0 c (cY c + 1024 * 0) 1024 -∗ Wt c (.yr 1)
      -∗ (∀ b, O1 m ρ c (cX c + 1024 * 0) 1024 -∗ Y1 m ρ c 0 -∗ OFl m ρ c 0 (cY c + 1024 * 0) 1024 -∗ Ow c 0 -∗ semVal (cell c (.yr 1)) 0 -∗ Y1 m ρ c 1 -∗ Q b)
      -∗ WP c (k0_part27_skel xM (Memref.isWhole_whole _) WM (Memref.isWhole_whole _) outM (Memref.isWhole_whole _) wbM (Memref.isWhole_whole _) eM (Memref.isWhole_whole _) inM (Memref.isWhole_whole _) sbM (Memref.isWhole_whole _) siM (Memref.isWhole_whole _) rpM (Memref.isWhole_whole _) rbM (Memref.isWhole_whole _) cc0_scratch7 cc0_scratch8 cc0_scratch9 cc0_scratch10 cc0_scratch11 cc0_scratch12 cc0_scratch13 cc0_scratch14 cc0_scratch15 cc0_scratch16 cc0_scratch17 c w1 w2 w3 w4 w5 (INVv m ρ c) w6) Q) := by
  unfold k0_part27_skel
  simp only [Prog.lift, Prog.bind_op, Prog.bind_ret, Prog.pure_eq_ret]
  iintro #HC H1 H2 H6 H8 H10 Hk
  iapply (got m ρ K c 0 1024 (cX c + 1024 * 0) 0 (by decide) rfl) $$ HC H1 H2
  iintro H3 H4 H5
  iapply (rdY m ρ c 0 (cY c + 1024 * 0) rfl (o18 c 0)) $$ H6
  iintro H7
  iapply (put m ρ c 0 1024 (cY c + 1024 * 0) (by decide) (by decide) (hY c 0) (o19 c 0) rfl rfl) $$ H4 H8
  iintro H9
  iapply (wx m ρ K c (.yr 1) (Y1 m ρ c 1) rfl rfl (by simp) rfl) $$ HC H10 H5
  iintro H11 H12 H13
  iapply (wp_done (Q := Q) c (a' := _) rfl)
  iapply Hk $$ H3 H7 H9 H11 H12 H13

theorem part28 {Q} (K : Dev nD × CK → ℕ) (c : Dev nD) (w1 w2 : BitVec 32) :
    Ctx m ρ K ⊢ iprop(OFl m ρ c 1 (cX c + 1024 * 1) 1024 -∗ Ow c 0 -∗ Y1 m ρ c 1 -∗ O0 c (cY c + 1024 * 1) 1024 -∗ EA m ρ c -∗ Bw c 0 -∗ B0 c 0
      -∗ (O1 m ρ c (cX c + 1024 * 1) 1024 -∗ Ow c 0 -∗ Y1 m ρ c 1 -∗ OFl m ρ c 1 (cY c + 1024 * 1) 1024 -∗ BFl m ρ c 0 0 -∗ EA m ρ c -∗ Q (k0_pay64 (eC m ρ c 1)))
      -∗ WP c (k0_part28_skel xM (Memref.isWhole_whole _) WM (Memref.isWhole_whole _) outM (Memref.isWhole_whole _) wbM (Memref.isWhole_whole _) eM (Memref.isWhole_whole _) inM (Memref.isWhole_whole _) sbM (Memref.isWhole_whole _) siM (Memref.isWhole_whole _) rpM (Memref.isWhole_whole _) rbM (Memref.isWhole_whole _) cc0_scratch7 cc0_scratch8 cc0_scratch9 cc0_scratch10 cc0_scratch11 cc0_scratch12 cc0_scratch13 cc0_scratch14 cc0_scratch15 cc0_scratch16 cc0_scratch17 c w1 (INVv m ρ c) w2) Q) := by
  unfold k0_part28_skel
  simp only [Prog.lift, Prog.bind_op, Prog.bind_ret, Prog.pure_eq_ret]
  iintro #HC H1 H2 H6 H8 H10 H12 H14 Hk
  iapply (got m ρ K c 1 1024 (cX c + 1024 * 1) 0 (by decide) rfl) $$ HC H1 H2
  iintro H3 H4 H5
  iapply (rdY m ρ c 1 (cY c + 1024 * 1) rfl (o18 c 1)) $$ H6
  iintro H7
  iapply (put m ρ c 1 1024 (cY c + 1024 * 1) (by decide) (by decide) (hY c 1) (o19 c 1) rfl rfl) $$ H4 H8
  iintro H9
  iapply (rdE m ρ c 0 (by decide) rfl) $$ H10
  iintro H11
  iapply (bst m ρ c 0 0 (by decide) rfl) $$ H12
  iintro H13
  iapply (bis m ρ c 0 0 (by decide) (k0_off20_eq c) rfl) $$ H13 H14
  iintro H15
  iapply (rdE m ρ c 1 (by decide) rfl) $$ H11
  iintro H16
  iapply (wp_done (Q := Q) c (a' := (k0_pay64 (eC m ρ c 1))) rfl)
  iapply Hk $$ H3 H5 H7 H9 H15 H16

theorem part29 {Q} (K : Dev nD × CK → ℕ) (c : Dev nD) :
    Ctx m ρ K ⊢ iprop(Bw c 1 -∗ B0 c 1 -∗ BFl m ρ c 0 0 -∗ Ow c 0 -∗ EA m ρ c -∗ B0 c 2
      -∗ (BFl m ρ c 1 1 -∗ B1 m ρ c 0 -∗ Ow c 0 -∗ EA m ρ c -∗ BFl m ρ c 0 2 -∗ Q ⟨⟩)
      -∗ WP c (k0_part29_skel xM (Memref.isWhole_whole _) WM (Memref.isWhole_whole _) outM (Memref.isWhole_whole _) wbM (Memref.isWhole_whole _) eM (Memref.isWhole_whole _) inM (Memref.isWhole_whole _) sbM (Memref.isWhole_whole _) siM (Memref.isWhole_whole _) rpM (Memref.isWhole_whole _) rbM (Memref.isWhole_whole _) cc0_scratch7 cc0_scratch8 cc0_scratch9 cc0_scratch10 cc0_scratch11 cc0_scratch12 cc0_scratch13 cc0_scratch14 cc0_scratch15 cc0_scratch16 cc0_scratch17 c (INVv m ρ c) (k0_pay64 (eC m ρ c 1))) Q) := by
  unfold k0_part29_skel
  simp only [Prog.lift, Prog.bind_op, Prog.bind_ret, Prog.pure_eq_ret]
  iintro #HC H1 H3 H5 H6 H10 H13 Hk
  iapply (bst m ρ c 1 1 (by decide) rfl) $$ H1
  iintro H2
  iapply (bis m ρ c 1 1 (by decide) (k0_off21_eq c) rfl) $$ H2 H3
  iintro H4
  iapply (bgot m ρ K c 0 0 0 (by decide) rfl) $$ HC H5 H6
  iintro H7 H8 H9
  iapply (rdE m ρ c 2 (by decide) rfl) $$ H10
  iintro H11
  iapply (bst m ρ c 0 2 (by decide) rfl) $$ H8
  iintro H12
  iapply (bis m ρ c 0 2 (by decide) (k0_off22_eq c) rfl) $$ H12 H13
  iintro H14
  iapply (wp_done (Q := Q) c (a' := ⟨⟩) rfl)
  iapply Hk $$ H4 H7 H9 H11 H14

theorem part30 {Q} (K : Dev nD × CK → ℕ) (c : Dev nD) :
    Ctx m ρ K ⊢ iprop(BFl m ρ c 1 1 -∗ Ow c 0 -∗ EA m ρ c -∗ B0 c 3 -∗ BFl m ρ c 0 2
      -∗ (B1 m ρ c 1 -∗ BFl m ρ c 1 3 -∗ B1 m ρ c 2 -∗ Ow c 0 -∗ EA m ρ c -∗ Bh m ρ c 0 4 -∗ Q ⟨⟩)
      -∗ WP c (k0_part30_skel xM (Memref.isWhole_whole _) WM (Memref.isWhole_whole _) outM (Memref.isWhole_whole _) wbM (Memref.isWhole_whole _) eM (Memref.isWhole_whole _) inM (Memref.isWhole_whole _) sbM (Memref.isWhole_whole _) siM (Memref.isWhole_whole _) rpM (Memref.isWhole_whole _) rbM (Memref.isWhole_whole _) cc0_scratch7 cc0_scratch8 cc0_scratch9 cc0_scratch10 cc0_scratch11 cc0_scratch12 cc0_scratch13 cc0_scratch14 cc0_scratch15 cc0_scratch16 cc0_scratch17 c (INVv m ρ c)) Q) := by
  unfold k0_part30_skel
  simp only [Prog.lift, Prog.bind_op, Prog.bind_ret, Prog.pure_eq_ret]
  iintro #HC H1 H2 H6 H9 H11 Hk
  iapply (bgot m ρ K c 1 1 0 (by decide) rfl) $$ HC H1 H2
  iintro H3 H4 H5
  iapply (rdE m ρ c 3 (by decide) rfl) $$ H6
  iintro H7
  iapply (bst m ρ c 1 3 (by decide) rfl) $$ H4
  iintro H8
  iapply (bis m ρ c 1 3 (by decide) (k0_off23_eq c) rfl) $$ H8 H9
  iintro H10
  iapply (bgot m ρ K c 0 2 0 (by decide) rfl) $$ HC H11 H5
  iintro H12 H13 H14
  iapply (rdE m ρ c 4 (by decide) rfl) $$ H7
  iintro H15
  iapply (bst m ρ c 0 4 (by decide) rfl) $$ H13
  iintro H16
  iapply (wp_done (Q := Q) c (a' := ⟨⟩) rfl)
  iapply Hk $$ H3 H10 H12 H14 H15 H16

theorem part31 {Q} (K : Dev nD × CK → ℕ) (c : Dev nD) :
    Ctx m ρ K ⊢ iprop(Bh m ρ c 0 4 -∗ B0 c 4 -∗ BFl m ρ c 1 3 -∗ Ow c 0 -∗ EA m ρ c -∗ B0 c 5
      -∗ (B1 m ρ c 3 -∗ BFl m ρ c 1 5 -∗ B1 m ρ c 4 -∗ Bw c 0 -∗ Ow c 0 -∗ EA m ρ c -∗ Q (k0_pay70 (eC m ρ c 6)))
      -∗ WP c (k0_part31_skel xM (Memref.isWhole_whole _) WM (Memref.isWhole_whole _) outM (Memref.isWhole_whole _) wbM (Memref.isWhole_whole _) eM (Memref.isWhole_whole _) inM (Memref.isWhole_whole _) sbM (Memref.isWhole_whole _) siM (Memref.isWhole_whole _) rpM (Memref.isWhole_whole _) rbM (Memref.isWhole_whole _) cc0_scratch7 cc0_scratch8 cc0_scratch9 cc0_scratch10 cc0_scratch11 cc0_scratch12 cc0_scratch13 cc0_scratch14 cc0_scratch15 cc0_scratch16 cc0_scratch17 c (INVv m ρ c)) Q) := by
  unfold k0_part31_skel
  simp only [Prog.lift, Prog.bind_op, Prog.bind_ret, Prog.pure_eq_ret]
  iintro #HC H1 H2 H4 H5 H9 H12 Hk
  iapply (bis m ρ c 0 4 (by decide) (k0_off24_eq c) rfl) $$ H1 H2
  iintro H3
  iapply (bgot m ρ K c 1 3 0 (by decide) rfl) $$ HC H4 H5
  iintro H6 H7 H8
  iapply (rdE m ρ c 5 (by decide) rfl) $$ H9
  iintro H10
  iapply (bst m ρ c 1 5 (by decide) rfl) $$ H7
  iintro H11
  iapply (bis m ρ c 1 5 (by decide) (k0_off25_eq c) rfl) $$ H11 H12
  iintro H13
  iapply (bgot m ρ K c 0 4 0 (by decide) rfl) $$ HC H3 H8
  iintro H14 H15 H16
  iapply (rdE m ρ c 6 (by decide) rfl) $$ H10
  iintro H17
  iapply (wp_done (Q := Q) c (a' := (k0_pay70 (eC m ρ c 6))) rfl)
  iapply Hk $$ H6 H13 H14 H15 H16 H17

theorem part32 {Q} (K : Dev nD × CK → ℕ) (c : Dev nD) (w1 : BitVec 32) :
    Ctx m ρ K ⊢ iprop(Bw c 0 -∗ B0 c 6 -∗ BFl m ρ c 1 5 -∗ Ow c 0 -∗ EA m ρ c -∗ B0 c 7
      -∗ (∀ a b, BFl m ρ c 0 6 -∗ B1 m ρ c 5 -∗ Ow c 0 -∗ EA m ρ c -∗ BFl m ρ c 1 7 -∗ Q ⟨a, b⟩)
      -∗ WP c (k0_part32_skel xM (Memref.isWhole_whole _) WM (Memref.isWhole_whole _) outM (Memref.isWhole_whole _) wbM (Memref.isWhole_whole _) eM (Memref.isWhole_whole _) inM (Memref.isWhole_whole _) sbM (Memref.isWhole_whole _) siM (Memref.isWhole_whole _) rpM (Memref.isWhole_whole _) rbM (Memref.isWhole_whole _) cc0_scratch7 cc0_scratch8 cc0_scratch9 cc0_scratch10 cc0_scratch11 cc0_scratch12 cc0_scratch13 cc0_scratch14 cc0_scratch15 cc0_scratch16 cc0_scratch17 c w1 (INVv m ρ c) (k0_pay70 (eC m ρ c 6))) Q) := by
  unfold k0_part32_skel
  simp only [Prog.lift, Prog.bind_op, Prog.bind_ret, Prog.pure_eq_ret]
  iintro #HC H1 H3 H5 H6 H10 H13 Hk
  iapply (bst m ρ c 0 6 (by decide) rfl) $$ H1
  iintro H2
  iapply (bis m ρ c 0 6 (by decide) (k0_off26_eq c) rfl) $$ H2 H3
  iintro H4
  iapply (bgot m ρ K c 1 5 0 (by decide) rfl) $$ HC H5 H6
  iintro H7 H8 H9
  iapply (rdE m ρ c 7 (by decide) rfl) $$ H10
  iintro H11
  iapply (bst m ρ c 1 7 (by decide) rfl) $$ H8
  iintro H12
  iapply (bis m ρ c 1 7 (by decide) (k0_off27_eq c) rfl) $$ H12 H13
  iintro H14
  iapply (wp_done (Q := Q) c (a' := ⟨_, _⟩) rfl)
  iapply Hk $$ H4 H7 H9 H11 H14

theorem part33 {Q} (K : Dev nD × CK → ℕ) (c : Dev nD) (w1 w2 w3 w4 w5 w6 w7 : BitVec 32) :
    Ctx m ρ K ⊢ iprop(Wt c (.zr 4) -∗ Ow c 0 -∗ OFl m ρ c 0 (cY c + 1024 * 0) 1024 -∗ O0 c (cD c + 512 * 0) 512
      -∗ (∀ b, semVal (cell c (.zr 4)) 0 -∗ O1 m ρ c (cY c + 1024 * 0) 1024 -∗ Ow c 0 -∗ RR c 0 -∗ Z1 m ρ c 4 -∗ OFl m ρ c 0 (cD c + 512 * 0) 512 -∗ Q b)
      -∗ WP c (k0_part33_skel xM (Memref.isWhole_whole _) WM (Memref.isWhole_whole _) outM (Memref.isWhole_whole _) wbM (Memref.isWhole_whole _) eM (Memref.isWhole_whole _) inM (Memref.isWhole_whole _) sbM (Memref.isWhole_whole _) siM (Memref.isWhole_whole _) rpM (Memref.isWhole_whole _) rbM (Memref.isWhole_whole _) cc0_scratch7 cc0_scratch8 cc0_scratch9 cc0_scratch10 cc0_scratch11 cc0_scratch12 cc0_scratch13 cc0_scratch14 cc0_scratch15 cc0_scratch16 cc0_scratch17 c w1 w2 w3 w4 w5 (INVv m ρ c) w6 w7) Q) := by
  unfold k0_part33_skel
  simp only [Prog.lift, Prog.bind_op, Prog.bind_ret, Prog.pure_eq_ret]
  iintro #HC H1 H2 H6 H13 Hk
  iapply (wz m ρ K c 4 0 (by decide) rfl) $$ HC H1 H2
  iintro H3 H4 H5
  iapply (got m ρ K c 0 1024 (cY c + 1024 * 0) 0 (by decide) rfl) $$ HC H6 H3
  iintro H7 H8 H9
  ihave HX := (rw_cut c 0) $$ [H8]
  · iexact H8
  icases HX with ⟨H10, H11⟩
  iapply (rdZ m ρ c 4 (cD c + 512 * 0) rfl (o28 c 0)) $$ H5
  iintro H12
  iapply (put m ρ c 0 512 (cD c + 512 * 0) (by decide) (by decide) (hD c 0) (o29 c 0) rfl rfl) $$ H10 H13
  iintro H14
  iapply (wp_done (Q := Q) c (a' := _) rfl)
  iapply Hk $$ H4 H7 H9 H11 H12 H14

theorem part34 {Q} (K : Dev nD × CK → ℕ) (c : Dev nD) (w1 w2 w3 w4 w5 w6 : BitVec 32) :
    Ctx m ρ K ⊢ iprop(Wt c (.zr 5) -∗ Ow c 0 -∗ OFl m ρ c 1 (cY c + 1024 * 1) 1024 -∗ O0 c (cD c + 512 * 1) 512
      -∗ (∀ b, semVal (cell c (.zr 5)) 0 -∗ O1 m ρ c (cY c + 1024 * 1) 1024 -∗ Ow c 0 -∗ RR c 1 -∗ Z1 m ρ c 5 -∗ OFl m ρ c 1 (cD c + 512 * 1) 512 -∗ Q b)
      -∗ WP c (k0_part34_skel xM (Memref.isWhole_whole _) WM (Memref.isWhole_whole _) outM (Memref.isWhole_whole _) wbM (Memref.isWhole_whole _) eM (Memref.isWhole_whole _) inM (Memref.isWhole_whole _) sbM (Memref.isWhole_whole _) siM (Memref.isWhole_whole _) rpM (Memref.isWhole_whole _) rbM (Memref.isWhole_whole _) cc0_scratch7 cc0_scratch8 cc0_scratch9 cc0_scratch10 cc0_scratch11 cc0_scratch12 cc0_scratch13 cc0_scratch14 cc0_scratch15 cc0_scratch16 cc0_scratch17 c w1 w2 w3 w4 w5 (INVv m ρ c) w6) Q) := by
  unfold k0_part34_skel
  simp only [Prog.lift, Prog.bind_op, Prog.bind_ret, Prog.pure_eq_ret]
  iintro #HC H1 H2 H6 H13 Hk
  iapply (wz m ρ K c 5 0 (by decide) rfl) $$ HC H1 H2
  iintro H3 H4 H5
  iapply (got m ρ K c 1 1024 (cY c + 1024 * 1) 0 (by decide) rfl) $$ HC H6 H3
  iintro H7 H8 H9
  ihave HX := (rw_cut c 1) $$ [H8]
  · iexact H8
  icases HX with ⟨H10, H11⟩
  iapply (rdZ m ρ c 5 (cD c + 512 * 1) rfl (o28 c 1)) $$ H5
  iintro H12
  iapply (put m ρ c 1 512 (cD c + 512 * 1) (by decide) (by decide) (hD c 1) (o29 c 1) rfl rfl) $$ H10 H13
  iintro H14
  iapply (wp_done (Q := Q) c (a' := _) rfl)
  iapply Hk $$ H4 H7 H9 H11 H12 H14

theorem part35 {Q} (K : Dev nD × CK → ℕ) (c : Dev nD) (w1 w2 w3 w4 w5 w6 : BitVec 32) :
    Ctx m ρ K ⊢ iprop(Wt c (.zr 6) -∗ Ow c 0 -∗ OFl m ρ c 0 (cD c + 512 * 0) 512 -∗ O0 c (cD c + 512 * 2) 512
      -∗ (∀ b, semVal (cell c (.zr 6)) 0 -∗ O1 m ρ c (cD c + 512 * 0) 512 -∗ Ow c 0 -∗ Z1 m ρ c 6 -∗ OFl m ρ c 0 (cD c + 512 * 2) 512 -∗ Q b)
      -∗ WP c (k0_part35_skel xM (Memref.isWhole_whole _) WM (Memref.isWhole_whole _) outM (Memref.isWhole_whole _) wbM (Memref.isWhole_whole _) eM (Memref.isWhole_whole _) inM (Memref.isWhole_whole _) sbM (Memref.isWhole_whole _) siM (Memref.isWhole_whole _) rpM (Memref.isWhole_whole _) rbM (Memref.isWhole_whole _) cc0_scratch7 cc0_scratch8 cc0_scratch9 cc0_scratch10 cc0_scratch11 cc0_scratch12 cc0_scratch13 cc0_scratch14 cc0_scratch15 cc0_scratch16 cc0_scratch17 c w1 w2 w3 w4 w5 (INVv m ρ c) w6) Q) := by
  unfold k0_part35_skel
  simp only [Prog.lift, Prog.bind_op, Prog.bind_ret, Prog.pure_eq_ret]
  iintro #HC H1 H2 H6 H11 Hk
  iapply (wz m ρ K c 6 0 (by decide) rfl) $$ HC H1 H2
  iintro H3 H4 H5
  iapply (got m ρ K c 0 512 (cD c + 512 * 0) 0 (by decide) rfl) $$ HC H6 H3
  iintro H7 H8 H9
  iapply (rdZ m ρ c 6 (cD c + 512 * 2) rfl (o28 c 2)) $$ H5
  iintro H10
  iapply (put m ρ c 0 512 (cD c + 512 * 2) (by decide) (by decide) (hD c 2) (o29 c 2) rfl rfl) $$ H8 H11
  iintro H12
  iapply (wp_done (Q := Q) c (a' := _) rfl)
  iapply Hk $$ H4 H7 H9 H10 H12

theorem part36 {Q} (K : Dev nD × CK → ℕ) (c : Dev nD) (w1 w2 w3 w4 w5 : BitVec 32) :
    Ctx m ρ K ⊢ iprop(Wt c (.zr 7) -∗ Ow c 0 -∗ OFl m ρ c 1 (cD c + 512 * 1) 512 -∗ O0 c (cD c + 512 * 3) 512
      -∗ (semVal (cell c (.zr 7)) 0 -∗ O1 m ρ c (cD c + 512 * 1) 512 -∗ Ow c 0 -∗ Z1 m ρ c 7 -∗ OFl m ρ c 1 (cD c + 512 * 3) 512 -∗ Q ⟨⟩)
      -∗ WP c (k0_part36_skel xM (Memref.isWhole_whole _) WM (Memref.isWhole_whole _) outM (Memref.isWhole_whole _) wbM (Memref.isWhole_whole _) eM (Memref.isWhole_whole _) inM (Memref.isWhole_whole _) sbM (Memref.isWhole_whole _) siM (Memref.isWhole_whole _) rpM (Memref.isWhole_whole _) rbM (Memref.isWhole_whole _) cc0_scratch7 cc0_scratch8 cc0_scratch9 cc0_scratch10 cc0_scratch11 cc0_scratch12 cc0_scratch13 cc0_scratch14 cc0_scratch15 cc0_scratch16 cc0_scratch17 c w1 w2 w3 w4 (INVv m ρ c) w5) Q) := by
  unfold k0_part36_skel
  simp only [Prog.lift, Prog.bind_op, Prog.bind_ret, Prog.pure_eq_ret]
  iintro #HC H1 H2 H6 H11 Hk
  iapply (wz m ρ K c 7 0 (by decide) rfl) $$ HC H1 H2
  iintro H3 H4 H5
  iapply (got m ρ K c 1 512 (cD c + 512 * 1) 0 (by decide) rfl) $$ HC H6 H3
  iintro H7 H8 H9
  iapply (rdZ m ρ c 7 (cD c + 512 * 3) rfl (o28 c 3)) $$ H5
  iintro H10
  iapply (put m ρ c 1 512 (cD c + 512 * 3) (by decide) (by decide) (hD c 3) (o29 c 3) rfl rfl) $$ H8 H11
  iintro H12
  iapply (wp_done (Q := Q) c (a' := ⟨⟩) rfl)
  iapply Hk $$ H4 H7 H9 H10 H12

theorem part37 {Q} (K : Dev nD × CK → ℕ) (c : Dev nD) :
    Ctx m ρ K ⊢ iprop(BFl m ρ c 0 6 -∗ Ow c 0 -∗ BFl m ρ c 1 7 -∗ OFl m ρ c 0 (cD c + 512 * 2) 512 -∗ OFl m ρ c 1 (cD c + 512 * 3) 512 -∗ Wt c (.zs 0) -∗ Wt c (.zs 1)
      -∗ (B1 m ρ c 6 -∗ Bw c 0 -∗ B1 m ρ c 7 -∗ Bw c 1 -∗ O1 m ρ c (cD c + 512 * 2) 512 -∗ Rw c 0 512 -∗ O1 m ρ c (cD c + 512 * 3) 512 -∗ Rw c 1 512 -∗ semVal (cell c (.zs 0)) 0 -∗ EL m ρ c 0 -∗ Ow c 0 -∗ semVal (cell c (.zs 1)) 0 -∗ EL m ρ c 1 -∗ Q ⟨⟩)
      -∗ WP c (k0_part37_skel xM (Memref.isWhole_whole _) WM (Memref.isWhole_whole _) outM (Memref.isWhole_whole _) wbM (Memref.isWhole_whole _) eM (Memref.isWhole_whole _) inM (Memref.isWhole_whole _) sbM (Memref.isWhole_whole _) siM (Memref.isWhole_whole _) rpM (Memref.isWhole_whole _) rbM (Memref.isWhole_whole _) cc0_scratch7 cc0_scratch8 cc0_scratch9 cc0_scratch10 cc0_scratch11 cc0_scratch12 cc0_scratch13 cc0_scratch14 cc0_scratch15 cc0_scratch16 cc0_scratch17 c) Q) := by
  unfold k0_part37_skel
  simp only [Prog.lift, Prog.bind_op, Prog.bind_ret, Prog.pure_eq_ret]
  iintro #HC H1 H2 H6 H10 H14 H18 H22 Hk
  iapply (bgot m ρ K c 0 6 0 (by decide) rfl) $$ HC H1 H2
  iintro H3 H4 H5
  iapply (bgot m ρ K c 1 7 0 (by decide) rfl) $$ HC H6 H5
  iintro H7 H8 H9
  iapply (got m ρ K c 0 512 (cD c + 512 * 2) 0 (by decide) rfl) $$ HC H10 H9
  iintro H11 H12 H13
  iapply (got m ρ K c 1 512 (cD c + 512 * 3) 0 (by decide) rfl) $$ HC H14 H13
  iintro H15 H16 H17
  iapply (we m ρ K c 0 rfl) $$ HC H18 H17
  iintro H19 H20 H21
  iapply (we m ρ K c 1 rfl) $$ HC H22 H19
  iintro H23 H24 H25
  iapply (wp_done (Q := Q) c (a' := ⟨⟩) rfl)
  iapply Hk $$ H3 H4 H7 H8 H11 H12 H15 H16 H20 H21 H23 H24 H25

theorem part38 {Q} (K : Dev nD × CK → ℕ) (c : Dev nD) :
    Ctx m ρ K ⊢ iprop(Wt c (.zs 2) -∗ Ow c 0 -∗ Wt c (.zs 3) -∗ Wt c (.zs 4) -∗ Wt c (.zs 5) -∗ Wt c (.zs 6) -∗ Wt c (.zs 7)
      -∗ (semVal (cell c (.zs 2)) 0 -∗ EL m ρ c 2 -∗ semVal (cell c (.zs 3)) 0 -∗ EL m ρ c 3 -∗ semVal (cell c (.zs 4)) 0 -∗ EL m ρ c 4 -∗ semVal (cell c (.zs 5)) 0 -∗ EL m ρ c 5 -∗ semVal (cell c (.zs 6)) 0 -∗ EL m ρ c 6 -∗ Ow c 0 -∗ semVal (cell c (.zs 7)) 0 -∗ EL m ρ c 7 -∗ Q ⟨⟩)
      -∗ WP c (k0_part38_skel xM (Memref.isWhole_whole _) WM (Memref.isWhole_whole _) outM (Memref.isWhole_whole _) wbM (Memref.isWhole_whole _) eM (Memref.isWhole_whole _) inM (Memref.isWhole_whole _) sbM (Memref.isWhole_whole _) siM (Memref.isWhole_whole _) rpM (Memref.isWhole_whole _) rbM (Memref.isWhole_whole _) cc0_scratch7 cc0_scratch8 cc0_scratch9 cc0_scratch10 cc0_scratch11 cc0_scratch12 cc0_scratch13 cc0_scratch14 cc0_scratch15 cc0_scratch16 cc0_scratch17 c) Q) := by
  unfold k0_part38_skel
  simp only [Prog.lift, Prog.bind_op, Prog.bind_ret, Prog.pure_eq_ret]
  iintro #HC H1 H2 H6 H10 H14 H18 H22 Hk
  iapply (we m ρ K c 2 rfl) $$ HC H1 H2
  iintro H3 H4 H5
  iapply (we m ρ K c 3 rfl) $$ HC H6 H3
  iintro H7 H8 H9
  iapply (we m ρ K c 4 rfl) $$ HC H10 H7
  iintro H11 H12 H13
  iapply (we m ρ K c 5 rfl) $$ HC H14 H11
  iintro H15 H16 H17
  iapply (we m ρ K c 6 rfl) $$ HC H18 H15
  iintro H19 H20 H21
  iapply (we m ρ K c 7 rfl) $$ HC H22 H19
  iintro H23 H24 H25
  iapply (wp_done (Q := Q) c (a' := ⟨⟩) rfl)
  iapply Hk $$ H4 H5 H8 H9 H12 H13 H16 H17 H20 H21 H23 H24 H25

end Cert.Gather

end
-- ==== Proof.Body.lean ====
module

public import proofs.«01_k».proof.Proof.Scale

/-! # The body

The barrier, and the parts one after the other. -/

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

section Steps
variable {α : Type}

theorem bind_at {β : Type} {Q : β → sProp 𝕄} (c : Dev nD) {p : Prog (TpuEff nD τ sig (Elt F) Λ₀ .tc) α} {k : α → Prog (TpuEff nD τ sig (Elt F) Λ₀ .tc) β} :
    WP c p (fun a => WP c (k a) Q) ⊢ WP c (p >>= k) Q := by
  show wp frame (wpE (defs₀ (F := F)) 𝒱₀ (c : Thread nD τ) none) Set.univ p
      (fun a => wp frame (wpE (defs₀ (F := F)) 𝒱₀ (c : Thread nD τ) none) Set.univ (k a) Q)
    ⊢ wp frame (wpE (defs₀ (F := F)) 𝒱₀ (c : Thread nD τ) none) Set.univ (p >>= k) Q
  exact Entails.of_eq (wp_bind _ _ _ p k Q).symm

/-- The wait for the row sums sent. -/
theorem ws {Q : α → sProp 𝕄} (K : Dev nD × CK → ℕ) (c : Dev nD) {hsrc hdst} {k : PUnit → Prog (TpuEff nD τ sig (Elt F) Λ₀ .tc) α} {qs : DmaSem sig} (hq : .dma qs = csem .ss) :
    Ctx m ρ K ⊢ iprop(Wt c .ss -∗ Ow c 0 -∗ (Ow c 0 -∗ semVal (cell c .ss) 0 -∗ SB m ρ c -∗ WP c (k ⟨⟩) Q)
      -∗ WP c (.op (.waitDma2 qs siM sbM hsrc hdst) k) Q) :=
  wt m ρ K c .ss (SB m ρ c) sbM rfl hq (by simp) (by simp only [View.dmaCredit]; rfl)

end Steps

/-! ## The barrier -/

/-- The device's landing buffers, given away at the barrier: to the neighbour along `z`, `x` and `y`. -/
def GZ (c : Dev nD) : sProp 𝕄 := iprop((bigSep Finset.univ fun j : Fin 8 => iprop(∃ f, inP (F := F) c (zB c j) fullShare f)) ∗ ∃ f, siP (F := F) c f)
def GX (c : Dev nD) : sProp 𝕄 := bigSep Finset.univ fun f : Fin 2 => iprop(∃ g, inP (F := F) c (xB c f) fullShare g)
def GY (c : Dev nD) : sProp 𝕄 := bigSep Finset.univ fun f : Fin 2 => iprop(∃ g, inP (F := F) c (yB c f) fullShare g)

theorem ccol_zn (c : Dev nD) (i : Fin 16) : ccol (zn c) i = ccol c i := by
  unfold ccol; rw [cM_zn, cD_zn, cX_zn, cY_zn]
theorem pay_z (c : Dev nD) : pay m ρ (zn c) .bar 0 = GZ c := by
  unfold pay GZ zB; simp only [zn_zn, ccol_zn]
theorem pay_x (c : Dev nD) : pay m ρ (xn c) .bar 1 = GX c := by
  unfold pay GX mB xB; simp only [xn_xn, cM_xn]
theorem pay_y (c : Dev nD) : pay m ρ (yn c) .bar 2 = GY c := by
  unfold pay GY mB yB; simp only [yn_yn, cM_yn]

theorem got_z (c : Dev nD) : pay m ρ c .bar 0 ⊢ iprop((T0 c 0 ∗ T0 c 1 ∗ T0 c 2 ∗ T0 c 3 ∗ T0 c 4 ∗ T0 c 5 ∗ T0 c 6 ∗ T0 c 7) ∗ ∃ f, siP (zn c) f) := by
  refine Entails.of_eq ?_
  unfold pay T0
  rw [bigSep_univ_eq_bigSepL [(0 : Fin 8), 1, 2, 3, 4, 5, 6, 7] (by decide) (by decide)]
  simp only [bigSepL_cons_cons, bigSepL_singleton]; rfl
theorem got_x (c : Dev nD) : pay m ρ c .bar 1 ⊢ iprop(TX c 0 ∗ TX c 1) := by
  refine Entails.of_eq ?_
  unfold TX
  show (bigSep Finset.univ fun j : Fin 2 => iprop(∃ f, inP (F := F) (xn c) (mB c j) fullShare f)) = _
  rw [bigSep_univ_eq_bigSepL [(0 : Fin 2), 1] (by decide) (by decide)]
  simp only [bigSepL_cons_cons, bigSepL_singleton]; rfl
theorem got_y (c : Dev nD) : pay m ρ c .bar 2 ⊢ iprop(TY c 0 ∗ TY c 1) := by
  refine Entails.of_eq ?_
  unfold TY
  show (bigSep Finset.univ fun j : Fin 2 => iprop(∃ f, inP (F := F) (yn c) (mB c j) fullShare f)) = _
  rw [bigSep_univ_eq_bigSepL [(0 : Fin 2), 1] (by decide) (by decide)]
  simp only [bigSepL_cons_cons, bigSepL_singleton]; rfl

theorem part1 {Q} (c : Dev nD) :
    (iprop(∀ w1 w2 w3 w4 w5 w6 w7 w8 w9 w10 w11, Q ⟨c, w1, w2, w3, w4, w5, w6, w7, w8, w9, w10, w11, SemArray.scalar (sig.barrier 0 rfl)⟩) : sProp 𝕄)
      ⊢ WP c (k0_part1_skel (F := F) xM (Memref.isWhole_whole _) WM (Memref.isWhole_whole _) outM (Memref.isWhole_whole _) wbM (Memref.isWhole_whole _) eM (Memref.isWhole_whole _) inM (Memref.isWhole_whole _) sbM (Memref.isWhole_whole _) siM (Memref.isWhole_whole _) rpM (Memref.isWhole_whole _) rbM (Memref.isWhole_whole _) cc0_scratch7 cc0_scratch8 cc0_scratch9 cc0_scratch10 cc0_scratch11 cc0_scratch12 cc0_scratch13 cc0_scratch14 cc0_scratch15 cc0_scratch16 cc0_scratch17) Q := by
  unfold k0_part1_skel
  simp only [Prog.lift, Prog.bind_op, Prog.bind_ret, Prog.pure_eq_ret, wp_deviceId]
  iintro Hk
  iapply (wp_done (Q := Q) c (a' := ⟨c, _, _, _, _, _, _, _, _, _, _, _, _⟩) rfl)
  iapply Hk

theorem part2 {Q} (K : Dev nD × CK → ℕ) (c : Dev nD) (w1 w2 w3 w4 w5 w6 w7 : BitVec 32) :
    Ctx m ρ K ⊢ iprop(dutyTok ER (cell (zn c) .bar) 0 0 -∗ dutyTok ER (cell (xn c) .bar) 0 1 -∗ dutyTok ER (cell (yn c) .bar) 0 2 -∗ GZ c -∗ GX c -∗ GY c -∗ Wt c .bar -∗ Ow c 16
      -∗ (∀ a1 a2 a3 a4 a5 a6 a7 a8, T0 c 0 -∗ T0 c 1 -∗ T0 c 2 -∗ T0 c 3 -∗ T0 c 4 -∗ T0 c 5 -∗ T0 c 6 -∗ T0 c 7 -∗ (∃ f, siP (zn c) f) -∗ TX c 0 -∗ TX c 1 -∗ TY c 0 -∗ TY c 1 -∗ semVal (cell c (.bar)) 0 -∗ Ow c 13 -∗ Q ⟨a1, a2, a3, a4, a5, a6, a7, a8⟩)
      -∗ WP c (k0_part2_skel (F := F) xM (Memref.isWhole_whole _) WM (Memref.isWhole_whole _) outM (Memref.isWhole_whole _) wbM (Memref.isWhole_whole _) eM (Memref.isWhole_whole _) inM (Memref.isWhole_whole _) sbM (Memref.isWhole_whole _) siM (Memref.isWhole_whole _) rpM (Memref.isWhole_whole _) rbM (Memref.isWhole_whole _) cc0_scratch7 cc0_scratch8 cc0_scratch9 cc0_scratch10 cc0_scratch11 cc0_scratch12 cc0_scratch13 cc0_scratch14 cc0_scratch15 cc0_scratch16 cc0_scratch17 c w1 w2 w3 w4 w5 w6 w7 (SemArray.scalar (sig.barrier 0 rfl))) Q) := by
  unfold k0_part2_skel
  simp only [semSignalWord, semWaitWord, Prog.lift, Prog.bind_op, Prog.bind_ret, Prog.pure_eq_ret]
  iintro #HC H0 H1 H2 HZ HX HY HW HO Hk
  ihave HZ := (Entails.of_eq (pay_z m ρ c).symm) $$ HZ
  ihave HX := (Entails.of_eq (pay_x m ρ c).symm) $$ HX
  ihave HY := (Entails.of_eq (pay_y m ρ c).symm) $$ HY
  iapply (xsignal m ρ K c _ (zn c) 0 15 rfl rfl) $$ [HC H0 HZ HO]
  · isplitr; · iexact HC
    isplitl [H0]; · iexact H0
    isplitl [HZ]; · iexact HZ
    iexact HO
  iintro HO
  iapply (xsignal m ρ K c _ (xn c) 1 14 rfl rfl) $$ [HC H1 HX HO]
  · isplitr; · iexact HC
    isplitl [H1]; · iexact H1
    isplitl [HX]; · iexact HX
    iexact HO
  iintro HO
  iapply (xsignal m ρ K c _ (yn c) 2 13 rfl rfl) $$ [HC H2 HY HO]
  · isplitr; · iexact HC
    isplitl [H2]; · iexact H2
    isplitl [HY]; · iexact HY
    iexact HO
  iintro HO
  iapply (xbarrier m ρ K c) $$ [HC HW HO]
  · isplitr; · iexact HC
    isplitl [HW]; · iexact HW
    iexact HO
  iintro ⟨HO, Hz, HZ, HX, HY⟩
  ihave HZ := (got_z m ρ c) $$ HZ
  ihave HX := (got_x m ρ c) $$ HX
  ihave HY := (got_y m ρ c) $$ HY
  icases HZ with ⟨⟨Z0, Z1, Z2, Z3, Z4, Z5, Z6, Z7⟩, HS⟩
  icases HX with ⟨X0, X1⟩
  icases HY with ⟨Y0, Y1⟩
  iapply (wp_done (Q := Q) c (a' := ⟨_, _, _, _, _, _, _, _⟩) rfl)
  iapply Hk $$ Z0 Z1 Z2 Z3 Z4 Z5 Z6 Z7 HS X0 X1 Y0 Y1 Hz HO

/-! ## The exponentials, whole for reading -/

theorem ccol_inj (c : Dev nD) (i j : Fin 16) (h : i ≠ j) : ccol c i + 512 ≤ ccol c j ∨ ccol c j + 512 ≤ ccol c i := by
  have := lt8 c; have := i.isLt; have := j.isLt
  have : i.val ≠ j.val := fun e => h (Fin.ext e)
  unfold ccol cM cD cX cY; split_ifs <;> omega

theorem ccol_cover (c : Dev nD) (n : ℕ) (h : n < 8192) : ∃ i : Fin 16, ccol c i ≤ n ∧ n < ccol c i + 512 := by
  have := lt8 c
  have hk : (cM c ≤ n ∧ n < cM c + 2048) ∨ (cD c ≤ n ∧ n < cD c + 2048) ∨ (cX c ≤ n ∧ n < cX c + 2048) ∨ (cY c ≤ n ∧ n < cY c + 2048) := by
    unfold cM cD cX cY; omega
  rcases hk with h | h | h | h
  · exact ⟨⟨(n - cM c) / 512, by omega⟩, by unfold ccol; dsimp only; split_ifs <;> omega⟩
  · exact ⟨⟨4 + (n - cD c) / 512, by omega⟩, by unfold ccol; dsimp only; split_ifs <;> omega⟩
  · exact ⟨⟨8 + (n - cX c) / 512, by omega⟩, by unfold ccol; dsimp only; split_ifs <;> omega⟩
  · exact ⟨⟨12 + (n - cY c) / 512, by omega⟩, by unfold ccol; dsimp only; split_ifs <;> omega⟩

abbrev ePiece (c : Dev nD) (i : Fin 16) : Finset S512x8192.Idx := cols (ccol c i) 512

theorem e_disj (c : Dev nD) : ∀ i ∈ (Finset.univ : Finset (Fin 16)), ∀ j ∈ (Finset.univ : Finset (Fin 16)), i ≠ j → Disjoint (ePiece c i) (ePiece c j) :=
  fun i _ j _ h => box_disj (Or.inr (Or.inr (ccol_inj c i j h)))
theorem e_cover (c : Dev nD) : (Finset.univ : Finset (Fin 16)).biUnion (ePiece c) = Finset.univ := by
  ext x
  have hx1 : (x 1).val < 8192 := (x 1).isLt
  have hx0 : (x 0).val < 512 := (x 0).isLt
  simp only [Finset.mem_biUnion, Finset.mem_univ, true_and, iff_true]
  obtain ⟨i, hi⟩ := ccol_cover c _ hx1
  exact ⟨i, by rw [mem_box]; omega⟩

/-- What is left of the exponentials beside the share the bands are read from. -/
def EH (c : Dev nD) (i : Fin 16) : sProp 𝕄 := eP c (ePiece c i) fullShare.left (Ev m ρ c)

theorem e_half (c : Dev nD) (i : Fin 16) : E1 m ρ c i ⊢ iprop(eP c (ePiece c i) fullShare.right (Ev m ρ c) ∗ EH m ρ c i) := by
  unfold EH
  refine (pointsTo_share (PosShare.mem_left_op_right _)).1.trans ?_
  iintro ⟨H, H'⟩
  isplitl [H']; · iexact H'
  iexact H

theorem e_whole (c : Dev nD) (q : PosShare TreeShare) : (bigSep Finset.univ fun i : Fin 16 => eP c (ePiece c i) q (Ev m ρ c)) ⊢ eP c Finset.univ q (Ev m ρ c) := by
  have h := pointsTo_biUnion (Ix := Unit) (Val := Elt F) (Name := ℕ) (U := UU) (Lvl := ℕ) (ℓ := ((c : Thread nD τ).loc cc0_scratch1)) (q := q) (f := Ev m ρ c) Finset.univ (ePiece c) (e_disj c)
  rw [e_cover] at h
  exact (Entails.of_eq h.symm)

theorem fin16 {P : Fin 16 → sProp 𝕄} : (bigSep Finset.univ P) = iprop(P 0 ∗ P 1 ∗ P 2 ∗ P 3 ∗ P 4 ∗ P 5 ∗ P 6 ∗ P 7 ∗ P 8 ∗ P 9 ∗ P 10 ∗ P 11 ∗ P 12 ∗ P 13 ∗ P 14 ∗ P 15) := by
  rw [bigSep_univ_eq_bigSepL [(0 : Fin 16), 1, 2, 3, 4, 5, 6, 7, 8, 9, 10, 11, 12, 13, 14, 15] (by decide) (by decide)]
  simp only [bigSepL_cons_cons, bigSepL_singleton]; rfl

theorem ea_join (c : Dev nD) :
    EK m ρ c 0 ⊢ iprop(EK m ρ c 1 -∗ EK m ρ c 2 -∗ EK m ρ c 3 -∗ EK m ρ c 4 -∗ EK m ρ c 5 -∗ EK m ρ c 6 -∗ EK m ρ c 7 -∗ E1 m ρ c 8 -∗ E1 m ρ c 9 -∗ E1 m ρ c 10 -∗ E1 m ρ c 11 -∗ E1 m ρ c 12 -∗ E1 m ρ c 13 -∗ E1 m ρ c 14 -∗ E1 m ρ c 15
      -∗ (EA m ρ c ∗ EH m ρ c 8 ∗ EH m ρ c 9 ∗ EH m ρ c 10 ∗ EH m ρ c 11 ∗ EH m ρ c 12 ∗ EH m ρ c 13 ∗ EH m ρ c 14 ∗ EH m ρ c 15)) := by
  have h : _ ⊢ EA m ρ c := e_whole m ρ c fullShare.right
  rw [fin16] at h
  iintro K0 K1 K2 K3 K4 K5 K6 K7 A8 A9 A10 A11 A12 A13 A14 A15
  ihave K0 := (Entails.of_eq (show EK m ρ c 0 = eP c (ePiece c 0) fullShare.right (Ev m ρ c) from rfl)) $$ K0
  ihave K1 := (Entails.of_eq (show EK m ρ c 1 = eP c (ePiece c 1) fullShare.right (Ev m ρ c) from rfl)) $$ K1
  ihave K2 := (Entails.of_eq (show EK m ρ c 2 = eP c (ePiece c 2) fullShare.right (Ev m ρ c) from rfl)) $$ K2
  ihave K3 := (Entails.of_eq (show EK m ρ c 3 = eP c (ePiece c 3) fullShare.right (Ev m ρ c) from rfl)) $$ K3
  ihave K4 := (Entails.of_eq (show EK m ρ c 4 = eP c (ePiece c 4) fullShare.right (Ev m ρ c) from rfl)) $$ K4
  ihave K5 := (Entails.of_eq (show EK m ρ c 5 = eP c (ePiece c 5) fullShare.right (Ev m ρ c) from rfl)) $$ K5
  ihave K6 := (Entails.of_eq (show EK m ρ c 6 = eP c (ePiece c 6) fullShare.right (Ev m ρ c) from rfl)) $$ K6
  ihave K7 := (Entails.of_eq (show EK m ρ c 7 = eP c (ePiece c 7) fullShare.right (Ev m ρ c) from rfl)) $$ K7
  ihave A8 := (e_half m ρ c 8) $$ A8; icases A8 with ⟨A8, L8⟩
  ihave A9 := (e_half m ρ c 9) $$ A9; icases A9 with ⟨A9, L9⟩
  ihave A10 := (e_half m ρ c 10) $$ A10; icases A10 with ⟨A10, L10⟩
  ihave A11 := (e_half m ρ c 11) $$ A11; icases A11 with ⟨A11, L11⟩
  ihave A12 := (e_half m ρ c 12) $$ A12; icases A12 with ⟨A12, L12⟩
  ihave A13 := (e_half m ρ c 13) $$ A13; icases A13 with ⟨A13, L13⟩
  ihave A14 := (e_half m ρ c 14) $$ A14; icases A14 with ⟨A14, L14⟩
  ihave A15 := (e_half m ρ c 15) $$ A15; icases A15 with ⟨A15, L15⟩
  isplitr [L8 L9 L10 L11 L12 L13 L14 L15]
  · iapply h
    isplitl [K0]; · iexact K0
    isplitl [K1]; · iexact K1
    isplitl [K2]; · iexact K2
    isplitl [K3]; · iexact K3
    isplitl [K4]; · iexact K4
    isplitl [K5]; · iexact K5
    isplitl [K6]; · iexact K6
    isplitl [K7]; · iexact K7
    isplitl [A8]; · iexact A8
    isplitl [A9]; · iexact A9
    isplitl [A10]; · iexact A10
    isplitl [A11]; · iexact A11
    isplitl [A12]; · iexact A12
    isplitl [A13]; · iexact A13
    isplitl [A14]; · iexact A14
    iexact A15
  · isplitl [L8]; · iexact L8
    isplitl [L9]; · iexact L9
    isplitl [L10]; · iexact L10
    isplitl [L11]; · iexact L11
    isplitl [L12]; · iexact L12
    isplitl [L13]; · iexact L13
    isplitl [L14]; · iexact L14
    iexact L15

theorem body_run {Q : PUnit → sProp 𝕄} (K : Dev nD × CK → ℕ) (c : Dev nD) :
    Ctx m ρ K ⊢ iprop(dutyTok ER (cell (zn c) .bar) 0 0 -∗ dutyTok ER (cell (xn c) .bar) 0 1 -∗ dutyTok ER (cell (yn c) .bar) 0 2 -∗ GZ c -∗ GX c -∗ GY c -∗ Wt c .bar -∗ Ow c 16 -∗ wP m c -∗ Wfree c 0 -∗ Wfree c 1 -∗ xP m ρ c -∗ E0 c 0 -∗ E0 c 1 -∗ Sd c (zn c) (.zs 0) (.zr 0) -∗ E0 c 2 -∗ Sd c (zn c) (.zs 1) (.zr 1) -∗ Sd c (zn c) (.zs 2) (.zr 2) -∗ E0 c 3 -∗ Sd c (zn c) (.zs 3) (.zr 3) -∗ E0 c 4 -∗ E0 c 5 -∗ E0 c 6 -∗ E0 c 7 -∗ E0 c 8 -∗ E0 c 9 -∗ E0 c 10 -∗ E0 c 11 -∗ E0 c 12 -∗ E0 c 13 -∗ E0 c 14 -∗ E0 c 15 -∗ (∃ f, sbP c f) -∗ Sd c (zn c) .ss .sr -∗ Sd c (zn c) (.zs 4) (.zr 4) -∗ Sd c (zn c) (.zs 5) (.zr 5) -∗ Sd c (zn c) (.zs 6) (.zr 6) -∗ Sd c (zn c) (.zs 7) (.zr 7) -∗ Wt c (.zr 0) -∗ Wt c (.zr 1) -∗ Sd c (xn c) (.xs 0) (.xr 0) -∗ Sd c (yn c) (.ys 0) (.yr 0) -∗ Wt c (.zr 2) -∗ Wt c (.zr 3) -∗ Sd c (xn c) (.xs 1) (.xr 1) -∗ Sd c (yn c) (.ys 1) (.yr 1) -∗ Wt c .sr -∗ Rw c 0 1024 -∗ O0 c (cM c + 1024 * 0) 1024 -∗ Rw c 1 1024 -∗ O0 c (cM c + 1024 * 1) 1024 -∗ Wt c (.xr 0) -∗ O0 c (cX c + 1024 * 0) 1024 -∗ Wt c (.xr 1) -∗ O0 c (cX c + 1024 * 1) 1024 -∗ Wt c (.yr 0) -∗ O0 c (cY c + 1024 * 0) 1024 -∗ Wt c (.yr 1) -∗ O0 c (cY c + 1024 * 1) 1024 -∗ Bw c 0 -∗ B0 c 0 -∗ Bw c 1 -∗ B0 c 1 -∗ B0 c 2 -∗ B0 c 3 -∗ B0 c 4 -∗ B0 c 5 -∗ B0 c 6 -∗ B0 c 7 -∗ Wt c (.zr 4) -∗ O0 c (cD c + 512 * 0) 512 -∗ Wt c (.zr 5) -∗ O0 c (cD c + 512 * 1) 512 -∗ Wt c (.zr 6) -∗ O0 c (cD c + 512 * 2) 512 -∗ Wt c (.zr 7) -∗ O0 c (cD c + 512 * 3) 512
      -∗ (semVal (cell c (.bar)) 0 -∗ xP m ρ c -∗ wP m c -∗ Wfree c 0 -∗ Wfree c 1 -∗ semVal (cell c (.zr 0)) 0 -∗ semVal (cell c (.zr 1)) 0 -∗ semVal (cell c (.zr 2)) 0 -∗ semVal (cell c (.zr 3)) 0 -∗ semVal (cell c (.sr)) 0 -∗ SI m ρ c -∗ MR m ρ c 0 -∗ MR m ρ c 1 -∗ semVal (cell c (.xr 0)) 0 -∗ O1 m ρ c (cM c + 1024 * 0) 1024 -∗ X1 m ρ c 0 -∗ semVal (cell c (.xr 1)) 0 -∗ O1 m ρ c (cM c + 1024 * 1) 1024 -∗ X1 m ρ c 1 -∗ semVal (cell c (.yr 0)) 0 -∗ O1 m ρ c (cX c + 1024 * 0) 1024 -∗ Y1 m ρ c 0 -∗ semVal (cell c (.yr 1)) 0 -∗ EH m ρ c 8 -∗ EH m ρ c 9 -∗ EH m ρ c 10 -∗ EH m ρ c 11 -∗ EH m ρ c 12 -∗ EH m ρ c 13 -∗ EH m ρ c 14 -∗ EH m ρ c 15 -∗ O1 m ρ c (cX c + 1024 * 1) 1024 -∗ Y1 m ρ c 1 -∗ B1 m ρ c 0 -∗ B1 m ρ c 1 -∗ B1 m ρ c 2 -∗ B1 m ρ c 3 -∗ B1 m ρ c 4 -∗ B1 m ρ c 5 -∗ EA m ρ c -∗ semVal (cell c (.zr 4)) 0 -∗ O1 m ρ c (cY c + 1024 * 0) 1024 -∗ RR c 0 -∗ Z1 m ρ c 4 -∗ semVal (cell c (.zr 5)) 0 -∗ O1 m ρ c (cY c + 1024 * 1) 1024 -∗ RR c 1 -∗ Z1 m ρ c 5 -∗ semVal (cell c (.zr 6)) 0 -∗ O1 m ρ c (cD c + 512 * 0) 512 -∗ Z1 m ρ c 6 -∗ semVal (cell c (.zr 7)) 0 -∗ O1 m ρ c (cD c + 512 * 1) 512 -∗ Z1 m ρ c 7 -∗ B1 m ρ c 6 -∗ Bw c 0 -∗ B1 m ρ c 7 -∗ Bw c 1 -∗ O1 m ρ c (cD c + 512 * 2) 512 -∗ Rw c 0 512 -∗ O1 m ρ c (cD c + 512 * 3) 512 -∗ Rw c 1 512 -∗ semVal (cell c (.zs 0)) 0 -∗ EL m ρ c 0 -∗ semVal (cell c (.zs 1)) 0 -∗ EL m ρ c 1 -∗ semVal (cell c (.zs 2)) 0 -∗ EL m ρ c 2 -∗ semVal (cell c (.zs 3)) 0 -∗ EL m ρ c 3 -∗ semVal (cell c (.zs 4)) 0 -∗ EL m ρ c 4 -∗ semVal (cell c (.zs 5)) 0 -∗ EL m ρ c 5 -∗ semVal (cell c (.zs 6)) 0 -∗ EL m ρ c 6 -∗ semVal (cell c (.zs 7)) 0 -∗ EL m ρ c 7 -∗ semVal (cell c (.xs 0)) 0 -∗ XL m ρ c 0 -∗ semVal (cell c (.xs 1)) 0 -∗ XL m ρ c 1 -∗ semVal (cell c (.ys 0)) 0 -∗ YL m ρ c 0 -∗ semVal (cell c (.ys 1)) 0 -∗ YL m ρ c 1 -∗ Ow c 0 -∗ semVal (cell c (.ss)) 0 -∗ SB m ρ c -∗ Q ⟨⟩)
      -∗ WP c (cc0_body_skel xM (Memref.isWhole_whole _) WM (Memref.isWhole_whole _) outM (Memref.isWhole_whole _) wbM (Memref.isWhole_whole _) eM (Memref.isWhole_whole _) inM (Memref.isWhole_whole _) sbM (Memref.isWhole_whole _) siM (Memref.isWhole_whole _) rpM (Memref.isWhole_whole _) rbM (Memref.isWhole_whole _) cc0_scratch7 cc0_scratch8 cc0_scratch9 cc0_scratch10 cc0_scratch11 cc0_scratch12 cc0_scratch13 cc0_scratch14 cc0_scratch15 cc0_scratch16 cc0_scratch17) Q) := by
  unfold cc0_body_skel
  simp only [k0_part39_eq_skeleton]
  iintro #HC H1 H2 H3 H4 H5 H6 H7 H8 H24 H25 H26 H29 H30 H34 H35 H42 H43 H50 H56 H57 H62 H67 H72 H73 H79 H84 H89 H94 H95 H101 H106 H111 H112 H113 H114 H123 H124 H130 H131 H132 H140 H141 H142 H149 H150 H156 H157 H158 H159 H167 H168 H169 H176 H177 H184 H185 H191 H192 H208 H209 H210 H217 H218 H219 H225 H232 H233 H240 H241 H247 H248 H255 H256 H263 H264 H270 H271 Hk
  iapply (bind_at c)
  unfold k0_part39_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton]
  iapply (bind_at c)
  iapply (part1 c)
  iintro %u1 %u2 %u3 %u4 %u5 %u6 %u7 %u8 %u9 %u10 %u11
  dsimp only
  iapply (bind_at c)
  iapply (part2 m ρ K c _ _ _ _ _ _ _) $$ HC H1 H2 H3 H4 H5 H6 H7 H8
  iintro %v1 %v2 %v3 %v4 %v5 %v6 %v7 %v8 H9 H10 H11 H12 H13 H14 H15 H16 H17 H18 H19 H20 H21 H22 H23
  try dsimp only
  iapply (bind_at c)
  iapply (part3 m ρ K c _ _ _ _) $$ HC H24 H25 H26 H23
  iintro %v9 %v10 %v11 %v12 %v13 %v14 %v15 %v16 H27 H28
  try dsimp only
  iapply (bind_at c)
  iapply (part4 m ρ c _ _ _ _) $$ H27 H29 H30
  iintro H31 H32 H33
  try dsimp only
  iapply (bind_at c)
  iapply (part5 m ρ K c _ _ _) $$ HC H31 H32 H34 H35 H33 H9 H28
  iintro %v17 H36 H37 H38 H39 H40 H41
  try dsimp only
  iapply (bind_at c)
  iapply (part6 m ρ K c _ _ _ _ _) $$ HC H36 H37 H42 H43 H38 H10 H41
  iintro H44 H45 H46 H47 H48 H49
  try dsimp only
  iapply (bind_at c)
  iapply (part7 m ρ K c _ _ _ _ _) $$ HC H44 H45 H50 H46 H11 H49
  iintro H51 H52 H53 H54 H55
  try dsimp only
  iapply (bind_at c)
  iapply (part8 m ρ K c _ _ _ _ _) $$ HC H51 H56 H57 H12 H55
  iintro H58 H59 H60 H61
  try dsimp only
  iapply (bind_at c)
  iapply (part9 m ρ K c _ _) $$ HC H58 H52 H62 H61
  iintro H63 H64 H65 H66
  try dsimp only
  iapply (bind_at c)
  iapply (part10 m ρ K c _ _ _) $$ HC H63 H64 H67 H66
  iintro %v18 H68 H69 H70 H71
  try dsimp only
  iapply (bind_at c)
  iapply (part11 m ρ K c _ _ _) $$ HC H68 H69 H72 H73 H71
  iintro H74 H75 H76 H77 H78
  try dsimp only
  iapply (bind_at c)
  iapply (part12 m ρ K c _ _) $$ HC H74 H75 H79 H78
  iintro %v19 H80 H81 H82 H83
  try dsimp only
  iapply (bind_at c)
  iapply (part13 m ρ K c _ _ _ _) $$ HC H80 H81 H84 H83
  iintro H85 H86 H87 H88
  try dsimp only
  iapply (bind_at c)
  iapply (part14 m ρ K c _ _) $$ HC H85 H86 H89 H88
  iintro H90 H91 H92 H93
  try dsimp only
  iapply (bind_at c)
  iapply (part15 m ρ K c _ _ _) $$ HC H90 H91 H94 H95 H93
  iintro H96 H97 H98 H99 H100
  try dsimp only
  iapply (bind_at c)
  iapply (part16 m ρ K c _ _) $$ HC H96 H97 H101 H100
  iintro H102 H103 H104 H105
  try dsimp only
  iapply (bind_at c)
  iapply (part17 m ρ K c _ _) $$ HC H102 H103 H106 H105
  iintro H107 H108 H109 H110
  try dsimp only
  iapply (bind_at c)
  iapply (part18 m ρ K c _ _ _ _ _) $$ HC H107 H111 H112 H113 H17 H114 H65 H13 H110
  iintro H115 H116 H117 H118 H119 H120 H121 H122
  try dsimp only
  iapply (bind_at c)
  iapply (part19 m ρ K c _ _ _ _ _ _) $$ HC H123 H70 H14 H124 H76 H15 H122
  iintro %v20 H125 H126 H127 H128 H129
  try dsimp only
  iapply (bind_at c)
  iapply (part20 m ρ K c _ _ _ _ _) $$ HC H130 H77 H16 H131 H132 H129
  iintro %v21 H133 H134 H135 H136 H137 H138 H139
  try dsimp only
  iapply (bind_at c)
  iapply (part21 m ρ K c _ _ _ _ _ _ _) $$ HC H136 H138 H140 H18 H139 H141 H20 H142
  iintro H143 H144 H145 H146 H147 H148
  try dsimp only
  iapply (bind_at c)
  iapply (part22 m ρ K c _ _ _ _ _ _ _) $$ HC H149 H146 H148 H150 H19
  iintro H151 H152 H153 H154 H155
  try dsimp only
  iapply (bind_at c)
  iapply (part23 m ρ K c _ _ _ _ _) $$ HC H156 H152 H21 H155 H157 H143 H158 H159 H153
  iintro %v22 H160 H161 H162 H163 H164 H165 H166
  try dsimp only
  iapply (bind_at c)
  iapply (part24 m ρ K c _ _ _ _ _ _) $$ HC H167 H168 H169 H161 H165
  iintro %v23 H170 H171 H172 H173 H174 H175
  try dsimp only
  iapply (bind_at c)
  iapply (part25 m ρ K c _ _ _ _ _ _) $$ HC H173 H176 H177 H174 H170
  iintro %v24 H178 H179 H180 H181 H182 H183
  try dsimp only
  iapply (bind_at c)
  iapply (part26 m ρ K c _ _ _ _ _ _) $$ HC H180 H182 H184 H185 H183
  iintro %v25 H186 H187 H188 H189 H190
  try dsimp only
  iapply (bind_at c)
  iapply (part27 m ρ K c _ _ _ _ _ _) $$ HC H178 H188 H190 H191 H192
  iintro %v26 H193 H194 H195 H196 H197 H198
  try dsimp only
  ihave HX := (ea_join m ρ c) $$ H40 H48 H54 H60 H121 H126 H128 H134 H82 H87 H92 H98 H99 H104 H109 H118
  icases HX with ⟨H199, H200, H201, H202, H203, H204, H205, H206, H207⟩
  iapply (bind_at c)
  iapply (part28 m ρ K c _ _) $$ HC H187 H196 H198 H208 H199 H209 H210
  iintro H211 H212 H213 H214 H215 H216
  try dsimp only
  iapply (bind_at c)
  iapply (part29 m ρ K c) $$ HC H217 H218 H215 H212 H216 H219
  iintro H220 H221 H222 H223 H224
  try dsimp only
  iapply (bind_at c)
  iapply (part30 m ρ K c) $$ HC H220 H222 H223 H225 H224
  iintro H226 H227 H228 H229 H230 H231
  try dsimp only
  iapply (bind_at c)
  iapply (part31 m ρ K c) $$ HC H231 H232 H227 H229 H230 H233
  iintro H234 H235 H236 H237 H238 H239
  try dsimp only
  iapply (bind_at c)
  iapply (part32 m ρ K c _) $$ HC H237 H240 H235 H238 H239 H241
  iintro %v27 %v28 H242 H243 H244 H245 H246
  try dsimp only
  iapply (bind_at c)
  iapply (part33 m ρ K c _ _ _ _ _ _ _) $$ HC H247 H244 H195 H248
  iintro %v29 H249 H250 H251 H252 H253 H254
  try dsimp only
  iapply (bind_at c)
  iapply (part34 m ρ K c _ _ _ _ _ _) $$ HC H255 H251 H214 H256
  iintro %v30 H257 H258 H259 H260 H261 H262
  try dsimp only
  iapply (bind_at c)
  iapply (part35 m ρ K c _ _ _ _ _ _) $$ HC H263 H259 H254 H264
  iintro %v31 H265 H266 H267 H268 H269
  try dsimp only
  iapply (bind_at c)
  iapply (part36 m ρ K c _ _ _ _ _) $$ HC H270 H267 H262 H271
  iintro H272 H273 H274 H275 H276
  try dsimp only
  iapply (bind_at c)
  iapply (part37 m ρ K c) $$ HC H242 H274 H246 H269 H276 H39 H47
  iintro H277 H278 H279 H280 H281 H282 H283 H284 H285 H286 H287 H288 H289
  try dsimp only
  iapply (bind_at c)
  iapply (part38 m ρ K c) $$ HC H53 H287 H59 H120 H125 H127 H133
  iintro H290 H291 H292 H293 H294 H295 H296 H297 H298 H299 H300 H301 H302
  try dsimp only
  iapply (wx m ρ K c (.xs 0) (XL m ρ c 0) rfl rfl (by simp) rfl) $$ HC H144 H300
  iintro H303 H304 H305
  iapply (wx m ρ K c (.xs 1) (XL m ρ c 1) rfl rfl (by simp) rfl) $$ HC H154 H303
  iintro H306 H307 H308
  iapply (wp_done c (a' := c) rfl)
  try dsimp only
  iapply (wx m ρ K c (.ys 0) (YL m ρ c 0) rfl rfl (by simp) rfl) $$ HC H145 H306
  iintro H309 H310 H311
  iapply (wx m ρ K c (.ys 1) (YL m ρ c 1) rfl rfl (by simp) rfl) $$ HC H160 H309
  iintro H312 H313 H314
  iapply (ws m ρ K c rfl) $$ HC H119 H312
  iintro H315 H316 H317
  iapply (wp_done (Q := Q) c (a' := ⟨⟩) rfl)
  iapply Hk $$ H22 H108 H115 H116 H117 H135 H137 H147 H151 H162 H163 H164 H166 H171 H172 H175 H179 H181 H186 H189 H193 H194 H197 H200 H201 H202 H203 H204 H205 H206 H207 H211 H213 H221 H226 H228 H234 H236 H243 H245 H249 H250 H252 H253 H257 H258 H260 H261 H265 H266 H268 H272 H273 H275 H277 H278 H279 H280 H281 H282 H283 H284 H285 H286 H288 H289 H290 H291 H292 H293 H294 H295 H296 H297 H298 H299 H301 H302 H304 H305 H307 H308 H310 H311 H313 H314 H315 H316 H317

end Cert.Gather

end
-- ==== Proof.Tiles.lean ====
module

public import proofs.«01_k».proof.Proof.Body

/-! # The buffers cut into pieces and put together -/

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Cutting and joining by covers -/

theorem cut {ℓ : Loc nD τ sig} {T : Type} [Fintype T] (K : T → Finset (Idx ℓ)) (hd : ∀ i ∈ (Finset.univ : Finset T), ∀ j ∈ (Finset.univ : Finset T), i ≠ j → Disjoint (K i) (K j))
    (hc : (Finset.univ : Finset T).biUnion K = Finset.univ) (q : PosShare TreeShare) (f : Buf (Elt F) ℓ) :
    (ℓ ↦{q} f : sProp 𝕄) = bigSep Finset.univ fun t => ℓ ↦[K t]{q} f := by
  rw [← pointsTo_biUnion Finset.univ K hd, hc]

theorem two {ℓ : Loc nD τ sig} {A B S : Finset (Idx ℓ)} (hd : Disjoint A B) (hu : A ∪ B = S) (q : PosShare TreeShare) (f : Buf (Elt F) ℓ) :
    (ℓ ↦[S]{q} f : sProp 𝕄) ⊣⊢ iprop((ℓ ↦[A]{q} f) ∗ ℓ ↦[B]{q} f) := by
  subst hu; exact pointsTo_union (Ix := Unit) (Val := Elt F) (Name := ℕ) (U := UU) (Lvl := ℕ) hd

theorem glue {ℓ : Loc nD τ sig} {A B S : Finset (Idx ℓ)} (hd : Disjoint A B) (hu : A ∪ B = S) :
    iprop((∃ f, (ℓ ↦[A]{fullShare} f : sProp 𝕄)) ∗ ∃ f, (ℓ ↦[B]{fullShare} f : sProp 𝕄)) ⊢ iprop(∃ f, (ℓ ↦[S]{fullShare} f : sProp 𝕄)) := by
  subst hu
  iintro ⟨⟨%f, H⟩, ⟨%g, H'⟩⟩
  iexists (B.piecewise g f)
  iapply (pointsTo_join (Ix := Unit) (Val := Elt F) (Name := ℕ) (U := UU) (Lvl := ℕ) hd)
  isplitl [H]; · iexact H
  iexact H'

/-! ## The exponentials -/

theorem e_in (c : Dev nD) : iprop(∃ f, (((c : Thread nD τ).loc cc0_scratch1) ↦{fullShare} f : sProp 𝕄)) ⊢ iprop(E0 c 0 ∗ E0 c 1 ∗ E0 c 2 ∗ E0 c 3 ∗ E0 c 4 ∗ E0 c 5 ∗ E0 c 6 ∗ E0 c 7 ∗ E0 c 8 ∗ E0 c 9 ∗ E0 c 10 ∗ E0 c 11 ∗ E0 c 12 ∗ E0 c 13 ∗ E0 c 14 ∗ E0 c 15) := by
  iintro ⟨%f, H⟩
  ihave H := (Entails.of_eq ((cut (ℓ := ((c : Thread nD τ).loc cc0_scratch1)) (ePiece c) (e_disj c) (e_cover c) fullShare f).trans fin16)) $$ H
  icases H with ⟨A0, A1, A2, A3, A4, A5, A6, A7, A8, A9, A10, A11, A12, A13, A14, A15⟩
  unfold E0
  isplitl [A0]; · iexists f; iexact A0
  isplitl [A1]; · iexists f; iexact A1
  isplitl [A2]; · iexists f; iexact A2
  isplitl [A3]; · iexists f; iexact A3
  isplitl [A4]; · iexists f; iexact A4
  isplitl [A5]; · iexists f; iexact A5
  isplitl [A6]; · iexists f; iexact A6
  isplitl [A7]; · iexists f; iexact A7
  isplitl [A8]; · iexists f; iexact A8
  isplitl [A9]; · iexists f; iexact A9
  isplitl [A10]; · iexists f; iexact A10
  isplitl [A11]; · iexists f; iexact A11
  isplitl [A12]; · iexists f; iexact A12
  isplitl [A13]; · iexists f; iexact A13
  isplitl [A14]; · iexists f; iexact A14
  iexists f; iexact A15

theorem e_out (c : Dev nD) : EA m ρ c ⊢ iprop(EL m ρ c 0 -∗ EL m ρ c 1 -∗ EL m ρ c 2 -∗ EL m ρ c 3 -∗ EL m ρ c 4 -∗ EL m ρ c 5 -∗ EL m ρ c 6 -∗ EL m ρ c 7 -∗ EH m ρ c 8 -∗ EH m ρ c 9 -∗ EH m ρ c 10 -∗ EH m ρ c 11 -∗ EH m ρ c 12 -∗ EH m ρ c 13 -∗ EH m ρ c 14 -∗ EH m ρ c 15
    -∗ ∃ f, (((c : Thread nD τ).loc cc0_scratch1) ↦{fullShare} f : sProp 𝕄)) := by
  unfold EA
  iintro HA A0 A1 A2 A3 A4 A5 A6 A7 A8 A9 A10 A11 A12 A13 A14 A15
  ihave A0 := (Entails.of_eq (show EL m ρ c 0 = eP c (ePiece c 0) fullShare.left (Ev m ρ c) from rfl)) $$ A0
  ihave A1 := (Entails.of_eq (show EL m ρ c 1 = eP c (ePiece c 1) fullShare.left (Ev m ρ c) from rfl)) $$ A1
  ihave A2 := (Entails.of_eq (show EL m ρ c 2 = eP c (ePiece c 2) fullShare.left (Ev m ρ c) from rfl)) $$ A2
  ihave A3 := (Entails.of_eq (show EL m ρ c 3 = eP c (ePiece c 3) fullShare.left (Ev m ρ c) from rfl)) $$ A3
  ihave A4 := (Entails.of_eq (show EL m ρ c 4 = eP c (ePiece c 4) fullShare.left (Ev m ρ c) from rfl)) $$ A4
  ihave A5 := (Entails.of_eq (show EL m ρ c 5 = eP c (ePiece c 5) fullShare.left (Ev m ρ c) from rfl)) $$ A5
  ihave A6 := (Entails.of_eq (show EL m ρ c 6 = eP c (ePiece c 6) fullShare.left (Ev m ρ c) from rfl)) $$ A6
  ihave A7 := (Entails.of_eq (show EL m ρ c 7 = eP c (ePiece c 7) fullShare.left (Ev m ρ c) from rfl)) $$ A7
  ihave A8 := (Entails.of_eq (show EH m ρ c 8 = eP c (ePiece c 8) fullShare.left (Ev m ρ c) from rfl)) $$ A8
  ihave A9 := (Entails.of_eq (show EH m ρ c 9 = eP c (ePiece c 9) fullShare.left (Ev m ρ c) from rfl)) $$ A9
  ihave A10 := (Entails.of_eq (show EH m ρ c 10 = eP c (ePiece c 10) fullShare.left (Ev m ρ c) from rfl)) $$ A10
  ihave A11 := (Entails.of_eq (show EH m ρ c 11 = eP c (ePiece c 11) fullShare.left (Ev m ρ c) from rfl)) $$ A11
  ihave A12 := (Entails.of_eq (show EH m ρ c 12 = eP c (ePiece c 12) fullShare.left (Ev m ρ c) from rfl)) $$ A12
  ihave A13 := (Entails.of_eq (show EH m ρ c 13 = eP c (ePiece c 13) fullShare.left (Ev m ρ c) from rfl)) $$ A13
  ihave A14 := (Entails.of_eq (show EH m ρ c 14 = eP c (ePiece c 14) fullShare.left (Ev m ρ c) from rfl)) $$ A14
  ihave A15 := (Entails.of_eq (show EH m ρ c 15 = eP c (ePiece c 15) fullShare.left (Ev m ρ c) from rfl)) $$ A15

  ihave HL := (show _ ⊢ eP c Finset.univ fullShare.left (Ev m ρ c) from (Entails.of_eq fin16.symm).trans (e_whole m ρ c fullShare.left)) $$ [A0 A1 A2 A3 A4 A5 A6 A7 A8 A9 A10 A11 A12 A13 A14 A15]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    isplitl [A13]; · iexact A13
    isplitl [A14]; · iexact A14
    iexact A15
  iexists (Ev m ρ c)
  iapply (pointsTo_share (PosShare.mem_left_op_right fullShare)).2
  isplitl [HL]; · iexact HL
  iexact HA

/-! ## The landing buffer -/

theorem fin2 {P : Fin 2 → sProp 𝕄} : bigSep Finset.univ P = iprop(P 0 ∗ P 1) := by
  rw [bigSep_univ_eq_bigSepL [(0 : Fin 2), 1] (by decide) (by decide)]
  simp only [bigSepL_cons_cons, bigSepL_singleton]; rfl
theorem fin8 {P : Fin 8 → sProp 𝕄} : bigSep Finset.univ P = iprop(P 0 ∗ P 1 ∗ P 2 ∗ P 3 ∗ P 4 ∗ P 5 ∗ P 6 ∗ P 7) := by
  rw [bigSep_univ_eq_bigSepL [(0 : Fin 8), 1, 2, 3, 4, 5, 6, 7] (by decide) (by decide)]
  simp only [bigSepL_cons_cons, bigSepL_singleton]; rfl

/-- Two neighbouring runs of 512 columns are one of 1024. -/
theorem pair (c : Dev nD) (n : ℕ) (q : PosShare TreeShare) (f : Vec F S512x8192 .bf16) :
    inP c (cols n 1024) q f ⊣⊢ iprop(inP c (cols n 512) q f ∗ inP c (cols (n + 512) 512) q f) := by
  have hd : Disjoint (cols n 512) (cols (n + 512) 512) := box_disj (Or.inr (Or.inr (Or.inl le_rfl)))
  have hu : cols n 512 ∪ cols (n + 512) 512 = cols n 1024 := by
    unfold cols; ext i; rw [Finset.mem_union, mem_box, mem_box, mem_box]; omega
  rw [← hu]; exact pointsTo_union (Ix := Unit) (Val := Elt F) (Name := ℕ) (U := UU) (Lvl := ℕ) hd

theorem pair_e (c : Dev nD) (i i' : Fin 16) (n : ℕ) (h : ccol c i = n) (h' : ccol c i' = n + 512) (q : PosShare TreeShare) (f : Vec F S512x8192 .bf16) :
    inP c (cols n 1024) q f ⊣⊢ iprop(inP c (ePiece c i) q f ∗ inP c (ePiece c i') q f) := by
  unfold ePiece; rw [h, h']; exact pair c n q f

theorem i_in (c : Dev nD) : iprop(∃ f, (((c : Thread nD τ).loc cc0_scratch2) ↦{fullShare} f : sProp 𝕄)) ⊢ iprop((∃ f, siP (F := F) c f) -∗ (GZ c ∗ GX c ∗ GY c)) := by
  iintro ⟨%f, H⟩ HS
  ihave H := (Entails.of_eq ((cut (ℓ := ((c : Thread nD τ).loc cc0_scratch2)) (ePiece c) (e_disj c) (e_cover c) fullShare f).trans fin16)) $$ H
  icases H with ⟨A0, A1, A2, A3, A4, A5, A6, A7, A8, A9, A10, A11, A12, A13, A14, A15⟩
  ihave P0 := (show _ ⊢ inP c (xB c 0) fullShare f from (pair_e (F := F) c 8 9 (cX c + 1024 * 0) (by show cX c + 512 * 0 = cX c + 1024 * 0; omega) (by show cX c + 512 * 1 = cX c + 1024 * 0 + 512; omega) fullShare f).2) $$ [A8 A9]
  · isplitl [A8]; · iexact A8
    iexact A9
  ihave P1 := (show _ ⊢ inP c (xB c 1) fullShare f from (pair_e (F := F) c 10 11 (cX c + 1024 * 1) (by show cX c + 512 * 2 = cX c + 1024 * 1; omega) (by show cX c + 512 * 3 = cX c + 1024 * 1 + 512; omega) fullShare f).2) $$ [A10 A11]
  · isplitl [A10]; · iexact A10
    iexact A11
  ihave P2 := (show _ ⊢ inP c (yB c 0) fullShare f from (pair_e (F := F) c 12 13 (cY c + 1024 * 0) (by show cY c + 512 * 0 = cY c + 1024 * 0; omega) (by show cY c + 512 * 1 = cY c + 1024 * 0 + 512; omega) fullShare f).2) $$ [A12 A13]
  · isplitl [A12]; · iexact A12
    iexact A13
  ihave P3 := (show _ ⊢ inP c (yB c 1) fullShare f from (pair_e (F := F) c 14 15 (cY c + 1024 * 1) (by show cY c + 512 * 2 = cY c + 1024 * 1; omega) (by show cY c + 512 * 3 = cY c + 1024 * 1 + 512; omega) fullShare f).2) $$ [A14 A15]
  · isplitl [A14]; · iexact A14
    iexact A15

  unfold GZ GX GY
  isplitl [A0 A1 A2 A3 A4 A5 A6 A7 HS]
  · isplitr [HS]
    · rw [fin8]
      isplitl [A0]; · iexists f; iexact A0
      isplitl [A1]; · iexists f; iexact A1
      isplitl [A2]; · iexists f; iexact A2
      isplitl [A3]; · iexists f; iexact A3
      isplitl [A4]; · iexists f; iexact A4
      isplitl [A5]; · iexists f; iexact A5
      isplitl [A6]; · iexists f; iexact A6
      iexists f; iexact A7
    · iexact HS
  isplitl [P0 P1]
  · rw [fin2]
    isplitl [P0]; · iexists f; iexact P0
    iexists f; iexact P1
  · rw [fin2]
    isplitl [P2]; · iexists f; iexact P2
    iexists f; iexact P3

theorem m_back (c : Dev nD) (f : Fin 2) : iprop(XL m ρ c f ∗ YL m ρ c f ∗ MR m ρ c f) ⊢ inP c (mB c f) fullShare (INv m ρ c) := by
  unfold XL YL MR
  iintro ⟨H, H1, H2⟩
  iapply (pointsTo_share (PosShare.mem_left_op_right fullShare)).2
  isplitl [H]; · iexact H
  iapply (pointsTo_share (PosShare.mem_left_op_right fullShare.right)).2
  isplitl [H1]; · iexact H1
  iexact H2

theorem i_out (c : Dev nD) : iprop(XL m ρ c 0 ∗ YL m ρ c 0 ∗ MR m ρ c 0) ⊢ iprop((XL m ρ c 1 ∗ YL m ρ c 1 ∗ MR m ρ c 1)
    -∗ Z1 m ρ c 4 -∗ Z1 m ρ c 5 -∗ Z1 m ρ c 6 -∗ Z1 m ρ c 7 -∗ X1 m ρ c 0 -∗ X1 m ρ c 1 -∗ Y1 m ρ c 0 -∗ Y1 m ρ c 1
    -∗ ∃ f, (((c : Thread nD τ).loc cc0_scratch2) ↦{fullShare} f : sProp 𝕄)) := by
  iintro M0 M1 A4 A5 A6 A7 X0 X1 Y0 Y1
  ihave M0 := (m_back m ρ c 0) $$ M0
  ihave M1 := (m_back m ρ c 1) $$ M1
  ihave M0 := (show inP c (mB c 0) fullShare (INv m ρ c) ⊢ _ from (pair_e (F := F) c 0 1 (cM c + 1024 * 0) (by show cM c + 512 * 0 = cM c + 1024 * 0; omega) (by show cM c + 512 * 1 = cM c + 1024 * 0 + 512; omega) fullShare (INv m ρ c)).1) $$ M0
  icases M0 with ⟨A0, A1⟩
  ihave M1 := (show inP c (mB c 1) fullShare (INv m ρ c) ⊢ _ from (pair_e (F := F) c 2 3 (cM c + 1024 * 1) (by show cM c + 512 * 2 = cM c + 1024 * 1; omega) (by show cM c + 512 * 3 = cM c + 1024 * 1 + 512; omega) fullShare (INv m ρ c)).1) $$ M1
  icases M1 with ⟨A2, A3⟩
  ihave X0 := (Entails.of_eq (show X1 m ρ c 0 = inP c (xB c 0) fullShare (INv m ρ c) from rfl)) $$ X0
  ihave X0 := (show inP c (xB c 0) fullShare (INv m ρ c) ⊢ _ from (pair_e (F := F) c 8 9 (cX c + 1024 * 0) (by show cX c + 512 * 0 = cX c + 1024 * 0; omega) (by show cX c + 512 * 1 = cX c + 1024 * 0 + 512; omega) fullShare (INv m ρ c)).1) $$ X0
  icases X0 with ⟨A8, A9⟩
  ihave X1 := (Entails.of_eq (show X1 m ρ c 1 = inP c (xB c 1) fullShare (INv m ρ c) from rfl)) $$ X1
  ihave X1 := (show inP c (xB c 1) fullShare (INv m ρ c) ⊢ _ from (pair_e (F := F) c 10 11 (cX c + 1024 * 1) (by show cX c + 512 * 2 = cX c + 1024 * 1; omega) (by show cX c + 512 * 3 = cX c + 1024 * 1 + 512; omega) fullShare (INv m ρ c)).1) $$ X1
  icases X1 with ⟨A10, A11⟩
  ihave Y0 := (Entails.of_eq (show Y1 m ρ c 0 = inP c (yB c 0) fullShare (INv m ρ c) from rfl)) $$ Y0
  ihave Y0 := (show inP c (yB c 0) fullShare (INv m ρ c) ⊢ _ from (pair_e (F := F) c 12 13 (cY c + 1024 * 0) (by show cY c + 512 * 0 = cY c + 1024 * 0; omega) (by show cY c + 512 * 1 = cY c + 1024 * 0 + 512; omega) fullShare (INv m ρ c)).1) $$ Y0
  icases Y0 with ⟨A12, A13⟩
  ihave Y1 := (Entails.of_eq (show Y1 m ρ c 1 = inP c (yB c 1) fullShare (INv m ρ c) from rfl)) $$ Y1
  ihave Y1 := (show inP c (yB c 1) fullShare (INv m ρ c) ⊢ _ from (pair_e (F := F) c 14 15 (cY c + 1024 * 1) (by show cY c + 512 * 2 = cY c + 1024 * 1; omega) (by show cY c + 512 * 3 = cY c + 1024 * 1 + 512; omega) fullShare (INv m ρ c)).1) $$ Y1
  icases Y1 with ⟨A14, A15⟩
  ihave A4 := (Entails.of_eq (show Z1 m ρ c 4 = inP c (ePiece c 4) fullShare (INv m ρ c) from rfl)) $$ A4
  ihave A5 := (Entails.of_eq (show Z1 m ρ c 5 = inP c (ePiece c 5) fullShare (INv m ρ c) from rfl)) $$ A5
  ihave A6 := (Entails.of_eq (show Z1 m ρ c 6 = inP c (ePiece c 6) fullShare (INv m ρ c) from rfl)) $$ A6
  ihave A7 := (Entails.of_eq (show Z1 m ρ c 7 = inP c (ePiece c 7) fullShare (INv m ρ c) from rfl)) $$ A7

  iexists (INv m ρ c)
  iapply (Entails.of_eq ((cut (ℓ := ((c : Thread nD τ).loc cc0_scratch2)) (ePiece c) (e_disj c) (e_cover c) fullShare (INv m ρ c)).trans fin16).symm)
  isplitl [A0]; · iexact A0
  isplitl [A1]; · iexact A1
  isplitl [A2]; · iexact A2
  isplitl [A3]; · iexact A3
  isplitl [A4]; · iexact A4
  isplitl [A5]; · iexact A5
  isplitl [A6]; · iexact A6
  isplitl [A7]; · iexact A7
  isplitl [A8]; · iexact A8
  isplitl [A9]; · iexact A9
  isplitl [A10]; · iexact A10
  isplitl [A11]; · iexact A11
  isplitl [A12]; · iexact A12
  isplitl [A13]; · iexact A13
  isplitl [A14]; · iexact A14
  iexact A15

/-! ## The output -/

/-- The runs of columns of the other half, in the order they are written: first column and width. -/
def os (c : Dev nD) (i : Fin 10) : ℕ :=
  if i.val < 2 then cM c + 1024 * i.val else if i.val < 4 then cX c + 1024 * (i.val - 2) else if i.val < 6 then cY c + 1024 * (i.val - 4) else cD c + 512 * (i.val - 6)
def ow (i : Fin 10) : ℕ := if i.val < 6 then 1024 else 512

theorem os_disj (c : Dev nD) (i j : Fin 10) (h : i ≠ j) : os c i + ow i ≤ os c j ∨ os c j + ow j ≤ os c i := by
  have := lt8 c; have := i.isLt; have := j.isLt
  have : i.val ≠ j.val := fun e => h (Fin.ext e)
  unfold os ow cM cD cX cY; split_ifs <;> omega

theorem os_cover (c : Dev nD) (n : ℕ) (h : n < 8192) : ∃ i : Fin 10, os c i ≤ n ∧ n < os c i + ow i := by
  have := lt8 c
  have hk : (cM c ≤ n ∧ n < cM c + 2048) ∨ (cX c ≤ n ∧ n < cX c + 2048) ∨ (cY c ≤ n ∧ n < cY c + 2048) ∨ (cD c ≤ n ∧ n < cD c + 2048) := by
    unfold cM cD cX cY; omega
  rcases hk with h | h | h | h
  · exact ⟨⟨(n - cM c) / 1024, by omega⟩, by unfold os ow; dsimp only; split_ifs <;> omega⟩
  · exact ⟨⟨2 + (n - cX c) / 1024, by omega⟩, by unfold os ow; dsimp only; split_ifs <;> omega⟩
  · exact ⟨⟨4 + (n - cY c) / 1024, by omega⟩, by unfold os ow; dsimp only; split_ifs <;> omega⟩
  · exact ⟨⟨6 + (n - cD c) / 512, by omega⟩, by unfold os ow; dsimp only; split_ifs <;> omega⟩

theorem os_le (c : Dev nD) (i : Fin 10) : os c i + ow i ≤ 8192 := by
  have := lt8 c; have := i.isLt
  unfold os ow cM cD cX cY; split_ifs <;> omega

/-- A piece of the output: a band of rows of the own half, or a run of columns of the other. -/
def oPiece (c : Dev nD) : Fin 8 ⊕ Fin 10 → Finset S512x16384.Idx
  | .inl b => bB c b.val
  | .inr i => oB c (os c i) (ow i)

theorem o_disj (c : Dev nD) : ∀ i ∈ (Finset.univ : Finset (Fin 8 ⊕ Fin 10)), ∀ j ∈ (Finset.univ : Finset (Fin 8 ⊕ Fin 10)), i ≠ j → Disjoint (oPiece c i) (oPiece c j) := by
  rintro (i | i) - (j | j) - h
  · have : i.val ≠ j.val := fun e => h (congrArg Sum.inl (Fin.ext e))
    exact box_disj (by omega)
  · have := os_le c j
    exact box_disj (by omega)
  · have := os_le c i
    exact box_disj (by omega)
  · have := os_disj c i j (fun e => h (congrArg Sum.inr e))
    exact box_disj (by omega)

theorem o_cover (c : Dev nD) : (Finset.univ : Finset (Fin 8 ⊕ Fin 10)).biUnion (oPiece c) = Finset.univ := by
  ext x
  have hx1 : (x 1).val < 16384 := (x 1).isLt
  have hx0 : (x 0).val < 512 := (x 0).isLt
  simp only [Finset.mem_biUnion, Finset.mem_univ, true_and, iff_true]
  by_cases hh : (x 1).val / 8192 = c.val % 2
  · exact ⟨.inl ⟨(x 0).val / 64, by omega⟩, by unfold oPiece; rw [mem_box]; dsimp only; omega⟩
  · obtain ⟨i, hi⟩ := os_cover c ((x 1).val % 8192) (Nat.mod_lt _ (by decide))
    exact ⟨.inr i, by unfold oPiece; rw [mem_box]; dsimp only; omega⟩

theorem o_cut (c : Dev nD) (f : Vec F S512x16384 .f32) : (((c : Thread nD τ).loc main_v1) ↦{fullShare} f : sProp 𝕄)
    = iprop((outP c (bB c 0) f ∗ outP c (bB c 1) f ∗ outP c (bB c 2) f ∗ outP c (bB c 3) f ∗ outP c (bB c 4) f ∗ outP c (bB c 5) f ∗ outP c (bB c 6) f ∗ outP c (bB c 7) f) ∗ (outP c (oB c (cM c + 1024 * 0) 1024) f ∗ outP c (oB c (cM c + 1024 * 1) 1024) f ∗ outP c (oB c (cX c + 1024 * 0) 1024) f ∗ outP c (oB c (cX c + 1024 * 1) 1024) f ∗ outP c (oB c (cY c + 1024 * 0) 1024) f ∗ outP c (oB c (cY c + 1024 * 1) 1024) f ∗ outP c (oB c (cD c + 512 * 0) 512) f ∗ outP c (oB c (cD c + 512 * 1) 512) f ∗ outP c (oB c (cD c + 512 * 2) 512) f ∗ outP c (oB c (cD c + 512 * 3) 512) f)) := by
  rw [cut (ℓ := ((c : Thread nD τ).loc main_v1)) (oPiece c) (o_disj c) (o_cover c) fullShare f, BI.bigSep_univ_sum,
    bigSep_univ_eq_bigSepL [(0 : Fin 8), 1, 2, 3, 4, 5, 6, 7] (by decide) (by decide),
    bigSep_univ_eq_bigSepL [(0 : Fin 10), 1, 2, 3, 4, 5, 6, 7, 8, 9] (by decide) (by decide)]
  simp only [bigSepL_cons_cons, bigSepL_singleton]
  rfl

theorem o_in (c : Dev nD) (f : Vec F S512x16384 .f32) : (((c : Thread nD τ).loc main_v1) ↦{fullShare} f : sProp 𝕄)
    ⊢ iprop((B0 (F := F) c 0 ∗ B0 (F := F) c 1 ∗ B0 (F := F) c 2 ∗ B0 (F := F) c 3 ∗ B0 (F := F) c 4 ∗ B0 (F := F) c 5 ∗ B0 (F := F) c 6 ∗ B0 (F := F) c 7) ∗ (O0 (F := F) c (cM c + 1024 * 0) 1024 ∗ O0 (F := F) c (cM c + 1024 * 1) 1024 ∗ O0 (F := F) c (cX c + 1024 * 0) 1024 ∗ O0 (F := F) c (cX c + 1024 * 1) 1024 ∗ O0 (F := F) c (cY c + 1024 * 0) 1024 ∗ O0 (F := F) c (cY c + 1024 * 1) 1024 ∗ O0 (F := F) c (cD c + 512 * 0) 512 ∗ O0 (F := F) c (cD c + 512 * 1) 512 ∗ O0 (F := F) c (cD c + 512 * 2) 512 ∗ O0 (F := F) c (cD c + 512 * 3) 512)) := by
  rw [o_cut]
  iintro ⟨⟨B0, B1, B2, B3, B4, B5, B6, B7⟩, ⟨O0, O1, O2, O3, O4, O5, O6, O7, O8, O9⟩⟩
  isplitl [B0 B1 B2 B3 B4 B5 B6 B7]
  · unfold B0
    isplitl [B0]; · iexists f; iexact B0
    isplitl [B1]; · iexists f; iexact B1
    isplitl [B2]; · iexists f; iexact B2
    isplitl [B3]; · iexists f; iexact B3
    isplitl [B4]; · iexists f; iexact B4
    isplitl [B5]; · iexists f; iexact B5
    isplitl [B6]; · iexists f; iexact B6
    iexists f; iexact B7
  · unfold O0
    isplitl [O0]; · iexists f; iexact O0
    isplitl [O1]; · iexists f; iexact O1
    isplitl [O2]; · iexists f; iexact O2
    isplitl [O3]; · iexists f; iexact O3
    isplitl [O4]; · iexists f; iexact O4
    isplitl [O5]; · iexists f; iexact O5
    isplitl [O6]; · iexists f; iexact O6
    isplitl [O7]; · iexists f; iexact O7
    isplitl [O8]; · iexists f; iexact O8
    iexists f; iexact O9

theorem o_out (c : Dev nD) : iprop((B1 m ρ c 0 ∗ B1 m ρ c 1 ∗ B1 m ρ c 2 ∗ B1 m ρ c 3 ∗ B1 m ρ c 4 ∗ B1 m ρ c 5 ∗ B1 m ρ c 6 ∗ B1 m ρ c 7) ∗ (O1 m ρ c (cM c + 1024 * 0) 1024 ∗ O1 m ρ c (cM c + 1024 * 1) 1024 ∗ O1 m ρ c (cX c + 1024 * 0) 1024 ∗ O1 m ρ c (cX c + 1024 * 1) 1024 ∗ O1 m ρ c (cY c + 1024 * 0) 1024 ∗ O1 m ρ c (cY c + 1024 * 1) 1024 ∗ O1 m ρ c (cD c + 512 * 0) 512 ∗ O1 m ρ c (cD c + 512 * 1) 512 ∗ O1 m ρ c (cD c + 512 * 2) 512 ∗ O1 m ρ c (cD c + 512 * 3) 512))
    ⊢ (((c : Thread nD τ).loc main_v1) ↦{fullShare} OUTv m ρ c : sProp 𝕄) := by
  rw [o_cut]
  exact BI.Entails.refl _

/-! ## The two-slot buffers -/

theorem slots {A B C : ℕ} (hA : A = 2) : (slab 0 0 C : Finset (Shape.Idx ⟨3, ![A, B, C]⟩)) ∪ slab 1 0 C = Finset.univ := by
  subst hA
  ext i
  have h0 : (i 0).val < 2 := (i 0).isLt
  have h2 : (i 2).val < C := (i 2).isLt
  rw [Finset.mem_union, mem_slab, mem_slab]
  simp only [Finset.mem_univ, iff_true]
  omega

theorem w_cut (c : Dev nD) : iprop(∃ f, (((c : Thread nD τ).loc cc0_scratch0) ↦{fullShare} f : sProp 𝕄)) ⊢ iprop((∃ f, wsl (F := F) c 0 f) ∗ ∃ f, wsl (F := F) c 1 f) := by
  iintro ⟨%f, H⟩
  ihave H := (two (ℓ := ((c : Thread nD τ).loc cc0_scratch0)) (A := (slab 0 0 512 : Finset S2x1024x512.Idx)) (B := slab 1 0 512) (slab_disj (by omega)) (slots rfl) fullShare f).1 $$ H
  icases H with ⟨H, H'⟩
  isplitl [H]; · iexists f; iexact H
  iexists f; iexact H'
theorem r_cut (c : Dev nD) : iprop(∃ f, (((c : Thread nD τ).loc cc0_scratch5) ↦{fullShare} f : sProp 𝕄)) ⊢ iprop((∃ f, rsl (F := F) c 0 1024 f) ∗ ∃ f, rsl (F := F) c 1 1024 f) := by
  iintro ⟨%f, H⟩
  ihave H := (two (ℓ := ((c : Thread nD τ).loc cc0_scratch5)) (A := (slab 0 0 1024 : Finset S2x512x1024.Idx)) (B := slab 1 0 1024) (slab_disj (by omega)) (slots rfl) fullShare f).1 $$ H
  icases H with ⟨H, H'⟩
  isplitl [H]; · iexists f; iexact H
  iexists f; iexact H'
theorem b_cut (c : Dev nD) : iprop(∃ f, (((c : Thread nD τ).loc cc0_scratch6) ↦{fullShare} f : sProp 𝕄)) ⊢ iprop((∃ f, bsl (F := F) c 0 f) ∗ ∃ f, bsl (F := F) c 1 f) := by
  iintro ⟨%f, H⟩
  ihave H := (two (ℓ := ((c : Thread nD τ).loc cc0_scratch6)) (A := (slab 0 0 8192 : Finset S2x64x8192.Idx)) (B := slab 1 0 8192) (slab_disj (by omega)) (slots rfl) fullShare f).1 $$ H
  icases H with ⟨H, H'⟩
  isplitl [H]; · iexists f; iexact H
  iexists f; iexact H'

theorem w_glue (c : Dev nD) : iprop((∃ f, wsl (F := F) c 0 f) ∗ ∃ f, wsl (F := F) c 1 f) ⊢ iprop(∃ f, (((c : Thread nD τ).loc cc0_scratch0) ↦{fullShare} f : sProp 𝕄)) :=
  glue (ℓ := ((c : Thread nD τ).loc cc0_scratch0)) (A := (slab 0 0 512 : Finset S2x1024x512.Idx)) (B := slab 1 0 512) (slab_disj (by omega)) (slots rfl)
theorem b_glue (c : Dev nD) : iprop((∃ f, bsl (F := F) c 0 f) ∗ ∃ f, bsl (F := F) c 1 f) ⊢ iprop(∃ f, (((c : Thread nD τ).loc cc0_scratch6) ↦{fullShare} f : sProp 𝕄)) :=
  glue (ℓ := ((c : Thread nD τ).loc cc0_scratch6)) (A := (slab 0 0 8192 : Finset S2x64x8192.Idx)) (B := slab 1 0 8192) (slab_disj (by omega)) (slots rfl)
theorem h_glue (c : Dev nD) (s : ℕ) : iprop((∃ f, rsl (F := F) c s 512 f) ∗ RR c s) ⊢ iprop(∃ f, rsl (F := F) c s 1024 f) :=
  glue (ℓ := ((c : Thread nD τ).loc cc0_scratch5)) (A := (slab s 0 512 : Finset S2x512x1024.Idx)) (B := slab s 512 512) (slab_disj (by omega))
    (by ext i; rw [Finset.mem_union, mem_slab, mem_slab, mem_slab]; omega)
theorem r_glue (c : Dev nD) : iprop((∃ f, rsl (F := F) c 0 1024 f) ∗ ∃ f, rsl (F := F) c 1 1024 f) ⊢ iprop(∃ f, (((c : Thread nD τ).loc cc0_scratch5) ↦{fullShare} f : sProp 𝕄)) :=
  glue (ℓ := ((c : Thread nD τ).loc cc0_scratch5)) (A := (slab 0 0 1024 : Finset S2x512x1024.Idx)) (B := slab 1 0 1024) (slab_disj (by omega)) (slots rfl)

end Cert.Gather

end
-- ==== Proof.Launch.lean ====
module

public import proofs.«01_k».proof.Proof.Tiles
public import Idealize.ShloMosaic.Lib.Pipeline.CollectiveSegs

/-! # The launch

What every device starts from, what it ends with, and the run of all eight. -/

@[expose] public section

noncomputable section

namespace Cert.Gather

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores -/

/-- The kernel's own semaphores. -/
abbrev osem : Fin 32 → SemLoc sig := fun i => .dma (⟨i.val + 1, by have := i.isLt; omega⟩ : Fin 33)

theorem ownSemFacts : Pipeline.OwnSemFacts cfg0.spec osem := by decide

theorem ck_chain (P : CK → sProp 𝕄) : bigSep Finset.univ P = iprop(P (.zs 0) ∗ P (.zs 1) ∗ P (.zs 2) ∗ P (.zs 3) ∗ P (.zs 4) ∗ P (.zs 5) ∗ P (.zs 6) ∗ P (.zs 7) ∗ P (.zr 0) ∗ P (.zr 1) ∗ P (.zr 2) ∗ P (.zr 3) ∗ P (.zr 4) ∗ P (.zr 5) ∗ P (.zr 6) ∗ P (.zr 7) ∗ P (.xs 0) ∗ P (.xs 1) ∗ P (.xr 0) ∗ P (.xr 1) ∗ P (.ys 0) ∗ P (.ys 1) ∗ P (.yr 0) ∗ P (.yr 1) ∗ P (.ss) ∗ P (.sr) ∗ P (.bar)) := by
  rw [bigSep_univ_eq_bigSepL [CK.zs 0, .zs 1, .zs 2, .zs 3, .zs 4, .zs 5, .zs 6, .zs 7, .zr 0, .zr 1, .zr 2, .zr 3, .zr 4, .zr 5, .zr 6, .zr 7, .xs 0, .xs 1, .xr 0, .xr 1, .ys 0, .ys 1, .yr 0, .yr 1, .ss, .sr, .bar] (by decide +kernel) (by decide +kernel)]
  simp only [bigSepL_cons_cons, bigSepL_singleton]; rfl

/-- Six of them serve the copies inside the device; the others are cells of the exchange. -/
theorem own_chain (c : Dev nD) : (Pipeline.ownSems0 (Ix := Unit) (Name := ℕ) (U := UU) (Lvl := ℕ) (Val := Elt F) (τ := τ) osem c : sProp 𝕄)
    = iprop(zero (F := F) c (1 : Fin 33) ∗ zero (F := F) c (2 : Fin 33) ∗ zero (F := F) c (3 : Fin 33) ∗ zero (F := F) c (4 : Fin 33) ∗ zero (F := F) c (5 : Fin 33) ∗ zero (F := F) c (6 : Fin 33) ∗ semVal (cell c (.zs 0)) 0 ∗ semVal (cell c (.zs 1)) 0 ∗ semVal (cell c (.zs 2)) 0 ∗ semVal (cell c (.zs 3)) 0 ∗ semVal (cell c (.zs 4)) 0 ∗ semVal (cell c (.zs 5)) 0 ∗ semVal (cell c (.zs 6)) 0 ∗ semVal (cell c (.zs 7)) 0 ∗ semVal (cell c (.zr 0)) 0 ∗ semVal (cell c (.zr 1)) 0 ∗ semVal (cell c (.zr 2)) 0 ∗ semVal (cell c (.zr 3)) 0 ∗ semVal (cell c (.zr 4)) 0 ∗ semVal (cell c (.zr 5)) 0 ∗ semVal (cell c (.zr 6)) 0 ∗ semVal (cell c (.zr 7)) 0 ∗ semVal (cell c (.xs 0)) 0 ∗ semVal (cell c (.xs 1)) 0 ∗ semVal (cell c (.xr 0)) 0 ∗ semVal (cell c (.xr 1)) 0 ∗ semVal (cell c (.ys 0)) 0 ∗ semVal (cell c (.ys 1)) 0 ∗ semVal (cell c (.yr 0)) 0 ∗ semVal (cell c (.yr 1)) 0 ∗ semVal (cell c (.ss)) 0 ∗ semVal (cell c (.sr)) 0) := by
  rw [Pipeline.ownSems0_eq_of_list c osem [0, 1, 2, 3, 4, 5, 6, 7, 8, 9, 10, 11, 12, 13, 14, 15, 16, 17, 18, 19, 20, 21, 22, 23, 24, 25, 26, 27, 28, 29, 30, 31] (by decide +kernel) (by decide +kernel)]
  simp only [bigSepL_cons_cons, bigSepL_singleton]; rfl
theorem bar_chain (c : Dev nD) : (unscopedSems0 c : sProp 𝕄) = semVal (cell c .bar) 0 := by
  unfold unscopedSems0; rw [bigSep_eq_bigSepL_of_eq [SemLoc.reg barS] (by decide +kernel) (by decide)]; rfl

def zeros (c : Dev nD) : sProp 𝕄 := iprop(zero (F := F) c (1 : Fin 33) ∗ zero (F := F) c (2 : Fin 33) ∗ zero (F := F) c (3 : Fin 33) ∗ zero (F := F) c (4 : Fin 33) ∗ zero (F := F) c (5 : Fin 33) ∗ zero (F := F) c (6 : Fin 33))

theorem sems (c : Dev nD) :
    iprop(Pipeline.ownSems0 (Ix := Unit) (Name := ℕ) (U := UU) (Lvl := ℕ) (Val := Elt F) (τ := τ) osem c ∗ unscopedSems0 c)
      ⊢ iprop(zeros (F := F) c ∗ bigSep Finset.univ fun k : CK => semVal (cell c k) 0 : sProp 𝕄) := by
  rw [own_chain, bar_chain, ck_chain]
  unfold zeros
  iintro ⟨⟨Q1, Q2, Q3, Q4, Q5, Q6, Czs0, Czs1, Czs2, Czs3, Czs4, Czs5, Czs6, Czs7, Czr0, Czr1, Czr2, Czr3, Czr4, Czr5, Czr6, Czr7, Cxs0, Cxs1, Cxr0, Cxr1, Cys0, Cys1, Cyr0, Cyr1, Css, Csr⟩, Cbar⟩
  isplitl [Q1 Q2 Q3 Q4 Q5 Q6]
  · skip
    isplitl [Q1]; · iexact Q1
    isplitl [Q2]; · iexact Q2
    isplitl [Q3]; · iexact Q3
    isplitl [Q4]; · iexact Q4
    isplitl [Q5]; · iexact Q5
    iexact Q6
  · skip
    isplitl [Czs0]; · iexact Czs0
    isplitl [Czs1]; · iexact Czs1
    isplitl [Czs2]; · iexact Czs2
    isplitl [Czs3]; · iexact Czs3
    isplitl [Czs4]; · iexact Czs4
    isplitl [Czs5]; · iexact Czs5
    isplitl [Czs6]; · iexact Czs6
    isplitl [Czs7]; · iexact Czs7
    isplitl [Czr0]; · iexact Czr0
    isplitl [Czr1]; · iexact Czr1
    isplitl [Czr2]; · iexact Czr2
    isplitl [Czr3]; · iexact Czr3
    isplitl [Czr4]; · iexact Czr4
    isplitl [Czr5]; · iexact Czr5
    isplitl [Czr6]; · iexact Czr6
    isplitl [Czr7]; · iexact Czr7
    isplitl [Cxs0]; · iexact Cxs0
    isplitl [Cxs1]; · iexact Cxs1
    isplitl [Cxr0]; · iexact Cxr0
    isplitl [Cxr1]; · iexact Cxr1
    isplitl [Cys0]; · iexact Cys0
    isplitl [Cys1]; · iexact Cys1
    isplitl [Cyr0]; · iexact Cyr0
    isplitl [Cyr1]; · iexact Cyr1
    isplitl [Css]; · iexact Css
    isplitl [Csr]; · iexact Csr
    iexact Cbar

/-! ## The tokens -/

/-- Who pays a duty of the device's cell. -/
def payer : CK × Fin 3 → (Dev nD ≃ Dev nD)
  | (.bar, 0) => zE
  | (.bar, 1) => xE
  | (.bar, 2) => yE
  | (.zr _, _) => zE
  | (.sr, _) => zE
  | (.xr _, _) => xE
  | (.yr _, _) => yE
  | _ => Equiv.refl _

theorem cell_inj : Function.Injective (fun p : Dev nD × CK => cell p.1 p.2) := by
  rintro ⟨c, k⟩ ⟨c', k'⟩ h
  have h1 : c = c' := congrArg (fun g : GSem nD τ sig => g.1.1) h
  have h2 : k = k' := csem_inj (congrArg Prod.snd h)
  rw [h1, h2]
def allCells : Finset (GSem nD τ sig) := Finset.univ.map ⟨fun p : Dev nD × CK => cell p.1 p.2, cell_inj⟩

theorem tok_inj : Function.Injective (fun p : Dev nD × (CK × Fin 3) => ((cell p.1 p.2.1, 0, p.2.2) : GSem nD τ sig × ℕ × Fin 3)) := by
  rintro ⟨c, k, d⟩ ⟨c', k', d'⟩ h
  have h1 : (c, k) = (c', k') := cell_inj (congrArg Prod.fst h)
  have h2 : d = d' := congrArg (fun x : GSem nD τ sig × ℕ × Fin 3 => x.2.2) h
  rw [(Prod.mk.inj h1).1, (Prod.mk.inj h1).2, h2]
def allToks : Finset (GSem nD τ sig × ℕ × Fin 3) := Finset.univ.map ⟨fun p : Dev nD × (CK × Fin 3) => (cell p.1 p.2.1, 0, p.2.2), tok_inj⟩

def u₀ : UU :=
  (initOf (Pipeline.cells cfgs cellOf_inj) (Pipeline.launchToks cfgs cellOf_inj), (Emb.inl : Emb UB (UB × Counters)) (initOf allCells allToks))

/-- The tokens of the device's own cells, and those of the duties the device pays. -/
def toks (c : Dev nD) : sProp 𝕄 := bigSep Finset.univ fun p : CK × Fin 3 => dutyTok ER (cell c p.1) 0 p.2
def myToks (c : Dev nD) : sProp 𝕄 := bigSep Finset.univ fun p : CK × Fin 3 => dutyTok ER (cell (payer p c) p.1) 0 p.2

theorem toks_around : (bigSep Finset.univ fun c : Dev nD => (toks c : sProp 𝕄)) ⊢ bigSep Finset.univ fun c : Dev nD => myToks c := by
  have h1 := bigSep_univ_prod (fun q : Dev nD × (CK × Fin 3) => (dutyTok ER (cell q.1 q.2.1) 0 q.2.2 : sProp 𝕄))
  have h2 := bigSep_univ_equiv (Equiv.prodComm (CK × Fin 3) (Dev nD)) (fun q : Dev nD × (CK × Fin 3) => (dutyTok ER (cell q.1 q.2.1) 0 q.2.2 : sProp 𝕄))
  have h3 := bigSep_univ_prod (fun q : (CK × Fin 3) × Dev nD => (dutyTok ER (cell q.2 q.1.1) 0 q.1.2 : sProp 𝕄))
  have h4 := bigSep_congr (s := Finset.univ) fun (p : CK × Fin 3) _ => bigSep_univ_equiv (payer p) (fun c : Dev nD => (dutyTok ER (cell c p.1) 0 p.2 : sProp 𝕄))
  have h5 := bigSep_univ_prod (fun q : (CK × Fin 3) × Dev nD => (dutyTok ER (cell (payer q.1 q.2) q.1.1) 0 q.1.2 : sProp 𝕄))
  have h6 := bigSep_univ_equiv (Equiv.prodComm (CK × Fin 3) (Dev nD)) (fun q : Dev nD × (CK × Fin 3) => (dutyTok ER (cell (payer q.2 q.1) q.2.1) 0 q.2.2 : sProp 𝕄))
  have h7 := bigSep_univ_prod (fun q : Dev nD × (CK × Fin 3) => (dutyTok ER (cell (payer q.2 q.1) q.2.1) 0 q.2.2 : sProp 𝕄))
  exact Entails.of_eq (h1.symm.trans (h2.trans (h3.trans (h4.trans (h5.symm.trans (h6.symm.trans h7))))))

/-- What the launch deals a device. -/
def G (c : Dev nD) : sProp 𝕄 :=
  iprop((bigSep Finset.univ fun k : CK => roundState ER (Rd m ρ) (cell c k) 0)
    ∗ (bigSep Finset.univ fun k : CK => iprop(atPos ER (cell c k) 0 ∅ 0 ∗ reached ER (cell c k) 0)) ∗ toks c)

theorem fund_all : BI.own (ER (initOf allCells allToks)) ⊢ (|==> bigSep Finset.univ (G m ρ) : sProp 𝕄) := by
  have hX (Φ : GSem nD τ sig → sProp 𝕄) : bigSep allCells Φ = bigSep Finset.univ fun c : Dev nD => bigSep Finset.univ fun k : CK => Φ (cell c k) := by
    unfold allCells; rw [bigSep_map, bigSep_univ_prod]; rfl
  have hT : bigSep allToks (fun x => (dutyTok ER x.1 x.2.1 x.2.2 : sProp 𝕄)) = bigSep Finset.univ fun c : Dev nD => toks c := by
    unfold allToks toks; rw [bigSep_map, bigSep_univ_prod]; rfl
  iintro HX
  imod (Rounds.fund ER (Rd m ρ) allCells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- What it keeps of that, once the cells are shared: its positions, the tokens it pays with, its six local counters. -/
def mine (c : Dev nD) : sProp 𝕄 :=
  iprop((bigSep Finset.univ fun k : CK => atPos ER (cell c k) 0 ∅ 0) ∗ myToks c ∗ zeros (F := F) c)
def records (K : Dev nD × CK → ℕ) : sProp 𝕄 :=
  iprop((bigSep Finset.univ fun p : Dev nD × CK => cellInv ER (Rd m ρ) (K p) (cell p.1 p.2))
    ∗ bigSep Finset.univ fun p : Dev nD × CK => reached ER (cell p.1 p.2) 0)
instance records_persistent (K : Dev nD × CK → ℕ) : BI.Persistent (records (F := F) m ρ K) := by unfold records; infer_instance
def G' (c : Dev nD) : sProp 𝕄 := iprop(∃ K, records m ρ K ∗ mine (F := F) c)

theorem alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CK => iprop(∃ κ : ℕ, cellInv ER (Rd m ρ) κ (cell c k)))
          ∗ (bigSep Finset.univ fun k : CK => iprop(atPos ER (cell c k) 0 ∅ 0 ∗ reached ER (cell c k) 0)) ∗ toks c ∗ zeros (F := F) c) := by
  unfold G
  iintro ⟨Hos, Hus, Hst, Hat, Htok⟩
  ihave Hv := (sems (F := F) c) $$ [Hos Hus]
  · isplitl [Hos] <;> iassumption
  icases Hv with ⟨Hz, Hv⟩
  imod (show iprop((bigSep Finset.univ fun k : CK => semVal (cell c k) 0) ∗ bigSep Finset.univ fun k : CK => roundState ER (Rd m ρ) (cell c k) 0)
      ⊢ (|={Set.univ}=> bigSep Finset.univ fun k : CK => iprop(∃ κ : ℕ, cellInv ER (Rd m ρ) κ (cell c k)) : sProp 𝕄) from by
        rw [← bigSep_sep']
        exact (bigSep_mono fun k _ => (Rounds.body_intro ER (Rd m ρ) (cell c k)).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hz

theorem share_out :
    (bigSep Finset.univ fun c : Dev nD => iprop((bigSep Finset.univ fun k : CK => iprop(∃ κ : ℕ, cellInv ER (Rd m ρ) κ (cell c k)))
          ∗ (bigSep Finset.univ fun k : CK => iprop(atPos ER (cell c k) 0 ∅ 0 ∗ reached ER (cell c k) 0)) ∗ toks c ∗ zeros (F := F) c) : sProp 𝕄)
      ⊢ bigSep Finset.univ (G' m ρ) := by
  rw [bigSep_sep', bigSep_sep', bigSep_sep', ← bigSep_univ_prod (fun p : Dev nD × CK => iprop(∃ κ : ℕ, cellInv ER (Rd m ρ) κ (cell p.1 p.2))),
    bigSep_congr (s := Finset.univ) (fun (c : Dev nD) _ => bigSep_sep' Finset.univ (fun k : CK => (atPos ER (cell c k) 0 ∅ 0 : sProp 𝕄)) (fun k => reached ER (cell c k) 0)),
    bigSep_sep', ← bigSep_univ_prod (fun p : Dev nD × CK => (reached ER (cell p.1 p.2) 0 : sProp 𝕄))]
  iintro ⟨HI, ⟨Hat, #HR⟩, Htok, Hz⟩
  ihave HK := (BI.bigSep_exists_pi Finset.univ (fun (p : Dev nD × CK) (κ : ℕ) => (cellInv ER (Rd m ρ) κ (cell p.1 p.2) : sProp 𝕄))) $$ HI
  icases HK with ⟨%K, #HI⟩
  ihave Htk := (toks_around (F := F)) $$ Htok
  have hall : iprop(records m ρ K ∗ bigSep Finset.univ fun c : Dev nD => mine (F := F) c) ⊢ bigSep Finset.univ (G' m ρ) := by
    refine (show iprop(records m ρ K ∗ bigSep Finset.univ fun c : Dev nD => mine (F := F) c)
      ⊢ iprop((bigSep Finset.univ fun _ : Dev nD => records m ρ K) ∗ bigSep Finset.univ fun c : Dev nD => mine (F := F) c) from ?_).trans ?_
    · iintro ⟨#H, H'⟩
      isplitr; · iapply (BI.bigSep_of_persistent (Finset.univ : Finset (Dev nD)) (records m ρ K)); iexact H
      iexact H'
    · rw [← bigSep_sep']
      exact bigSep_mono fun c _ => by
        show iprop(records m ρ K ∗ mine (F := F) c) ⊢ iprop(∃ K, records m ρ K ∗ mine (F := F) c)
        iintro H; iexists K; iexact H
  iapply hall
  isplitr
  · unfold records; isplitl; · iexact HI
    iexact HR
  · unfold mine
    rw [bigSep_sep', bigSep_sep']
    isplitl [Hat]; · iexact Hat
    isplitl [Htk]; · iexact Htk
    iexact Hz

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => alloc m ρ c).trans (bigSep_fupd _ _)).trans (BI.fupd_mono (share_out m ρ))

/-! ## What is owed at the launch -/

theorem OR_apply (c : Dev nD) (r : ℕ) (p : Dev nD × CK) :
    OR c r (cell p.1 p.2) () = ((Finset.range r).filter fun i => tgt c i = p).card * amt p.2 := by
  induction r with
  | zero => simp [OR]
  | succ r ih =>
    unfold OR
    rw [Pi.add_apply, Finsupp.add_apply, ih, tallyAt_apply, Finset.range_add_one, Finset.filter_insert]
    by_cases h : tgt c r = p
    · rw [if_pos ⟨by rw [h], rfl⟩, if_pos h, Finset.card_insert_of_notMem (by simp), h, Nat.add_mul, Nat.one_mul]
    · rw [if_neg (fun e => h (cell_inj e.1).symm), if_neg h, Nat.add_zero]

/-- The cells others raise. -/
def isR : CK → Bool
  | .bar | .sr | .zr _ | .xr _ | .yr _ => true
  | _ => false

theorem owed_count (c : Dev nD) (k : CK) (h : isR k = true) :
    (∑ d : Dev nD, ((Finset.range 16).filter fun i => tgt d i = (c, k)).card) = if k = .bar then 3 else 1 := by
  revert c k; decide +kernel

theorem launch_cell (c : Dev nD) (k : CK) (h : isR k = true) :
    tallyOn (cell c k) (launchCredit (Pipeline.owing fun d => OR d 16) 0 (cell c k)) = (tallyAt (cell c k) () (exps k) : CellTallies nD τ sig Unit) := by
  unfold tallyAt; refine congrArg _ (Finsupp.ext fun u => ?_); cases u
  rw [Pipeline.launchCredit_owing, Finsupp.single_eq_same, Finset.sum_congr rfl fun d _ => OR_apply d 16 (c, k), ← Finset.sum_mul, owed_count c k h]
  cases k <;> simp [exps, amt]

/-- The credit of a cell others raise. -/
def Cr (c : Dev nD) (k : CK) : sProp 𝕄 := if isR k = true then cred (tallyAt (cell c k) () (exps k)) else iprop(emp)

theorem creds (c : Dev nD) : (Pipeline.launchCred (fun d => OR d 16) c : sProp 𝕄) ⊢ bigSep Finset.univ (Cr (F := F) c) := by
  unfold Pipeline.launchCred
  refine (bigSep_subset (Finset.subset_univ (Finset.univ.map ⟨csem, csem_inj⟩))).trans ?_
  rw [bigSep_map]
  refine bigSep_mono fun k _ => ?_
  unfold Cr
  by_cases h : isR k = true
  · rw [if_pos h, ← launch_cell c k h]; exact BI.Entails.refl _
  · rw [if_neg h]; exact show _ ⊢ (iprop(emp) : sProp 𝕄) from by
      iintro -; iempintro

/-! ## Start and end of the body -/

def start (c : Dev nD) : sProp 𝕄 :=
  iprop(G' m ρ c ∗ bigSep Finset.univ (Cr (F := F) c) ∗ levAts L lv
    ∗ wP m c
    ∗ (((c : Thread nD τ).loc main_v1) ↦{fullShare} m ((c : Thread nD τ).loc main_v1)))

def Φ₀ (c : Dev nD) : sProp 𝕄 := iprop(start m ρ c ∗ Pipeline.scopedRest cfg0.spec c)
/-- What the launch reads at the end: `W` unchanged, and the output. -/
def outs (c : Dev nD) : sProp 𝕄 :=
  iprop(wP m c ∗ (((c : Thread nD τ).loc main_v1) ↦{fullShare} OUTv m ρ c))
def Φ₁ (c : Dev nD) : sProp 𝕄 :=
  iprop((unscopedSems0 c ∗ outs m ρ c) ∗ Pipeline.ownSems0 osem c ∗ Pipeline.scopedRest cfg0.spec c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xv m ρ c
  Φ t := match t with
    | ⟨0, _⟩ => Φ₀ m ρ c
    | ⟨_ + 1, _⟩ => Φ₁ m ρ c
  q _ := fullShare
  owed t := match t with
    | ⟨0, _⟩ => OR c 16
    | ⟨_ + 1, _⟩ => 0

theorem share_eq (c : Dev nD) (w : Fin cfg0.W) : (dats m ρ 0 c).share w = fullShare := by unfold Dat.share; split <;> rfl

theorem fetch_x (t : Fin cfg0.N) : (cfg0.win (0 : Fin 1)).fetch t = true := by rw [fin_N0 t]; rfl

theorem owns_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

abbrev stg (c : Dev nD) (X : (cc0_stg0_0 : Ref sig .tc).ty.Contents (Elt F)) : sProp 𝕄 :=
  iprop(∃ f : Buf (Elt F) ((c : Thread nD τ).loc cc0_stg0_0), ⌜f = X⌝ ∗ (((c : Thread nD τ).loc cc0_stg0_0) ↦{fullShare} f))

theorem mk_wt (c : Dev nD) (k : CK) (h : isR k = true) : atPos ER (cell c k) 0 ∅ 0 ⊢ iprop(Cr (F := F) c k -∗ Wt c k : sProp 𝕄) := by
  unfold Cr Wt; rw [if_pos h]
  iintro H H'
  isplitl [H]; · iexact H
  iexact H'
theorem mk_tok {a b : Dev nD} (k : CK) (d : Fin 3) (h : a = b) : dutyTok ER (cell a k) 0 d ⊢ (dutyTok ER (cell b k) 0 d : sProp 𝕄) := by
  subst h; exact BI.Entails.refl _
theorem mk_sd (c p a b : Dev nD) (kS kR : CK) (ha : a = c) (hb : b = p) :
    dutyTok ER (cell a kS) 0 0 ⊢ iprop(dutyTok ER (cell b kR) 0 0 -∗ atPos ER (cell c kS) 0 ∅ 0 -∗ Sd (F := F) c p kS kR : sProp 𝕄) := by
  subst ha hb
  unfold Sd
  iintro H H' H''
  isplitl [H]; · iexact H
  isplitl [H']; · iexact H'
  iexact H''
theorem mk_w (c : Dev nD) (s : ℕ) (q : Fin 33) (hq : qw s = q) : iprop(∃ f, wsl (F := F) c s f) ⊢ iprop(zero c q -∗ Wfree (F := F) c s) := by
  subst hq
  unfold Wfree
  iintro H H'
  isplitl [H]; · iexact H
  iexact H'
theorem mk_r (c : Dev nD) (s w : ℕ) (q : Fin 33) (hq : qr s = q) : iprop(∃ f, rsl (F := F) c s w f) ⊢ iprop(zero c q -∗ Rw (F := F) c s w) := by
  subst hq
  unfold Rw
  iintro H H'
  isplitl [H]; · iexact H
  iexact H'
theorem mk_b (c : Dev nD) (s : ℕ) (q : Fin 33) (hq : qb s = q) : iprop(∃ f, bsl (F := F) c s f) ⊢ iprop(zero c q -∗ Bw (F := F) c s) := by
  subst hq
  unfold Bw
  iintro H H'
  isplitl [H]; · iexact H
  iexact H'

theorem tok3 {k : CK} {p : Fin 3 → Dev nD} : (bigSep Finset.univ fun d : Fin 3 => (dutyTok ER (cell (p d) k) 0 d : sProp 𝕄))
    = iprop(dutyTok ER (cell (p 0) k) 0 0 ∗ dutyTok ER (cell (p 1) k) 0 1 ∗ dutyTok ER (cell (p 2) k) 0 2) := by
  rw [bigSep_univ_eq_bigSepL [(0 : Fin 3), 1, 2] (by decide) (by decide)]
  simp only [bigSepL_cons_cons, bigSepL_singleton]; rfl

theorem my_chain (c : Dev nD) : myToks (F := F) c
    = bigSep Finset.univ fun k : CK => iprop(dutyTok ER (cell (payer (k, 0) c) k) 0 0 ∗ dutyTok ER (cell (payer (k, 1) c) k) 0 1 ∗ dutyTok ER (cell (payer (k, 2) c) k) 0 2) := by
  unfold myToks
  rw [bigSep_univ_prod]
  exact bigSep_congr fun k _ => tok3 (k := k) (p := fun d => payer (k, d) c)

theorem body_sound (c : Dev nD) (Kt : PUnit → sProp 𝕄) :
    iprop((Φ₀ m ρ c ∗ Ow c 16 ∗ xP m ρ c) ∗ ((Φ₁ m ρ c ∗ Ow c 0 ∗ xP m ρ c) -∗ Kt ⟨⟩))
      ⊢ WP c (cc0_body_skel xM (Memref.isWhole_whole _) WM (Memref.isWhole_whole _) outM (Memref.isWhole_whole _) wbM (Memref.isWhole_whole _) eM (Memref.isWhole_whole _) inM (Memref.isWhole_whole _) sbM (Memref.isWhole_whole _) siM (Memref.isWhole_whole _) rpM (Memref.isWhole_whole _) rbM (Memref.isWhole_whole _) cc0_scratch7 cc0_scratch8 cc0_scratch9 cc0_scratch10 cc0_scratch11 cc0_scratch12 cc0_scratch13 cc0_scratch14 cc0_scratch15 cc0_scratch16 cc0_scratch17) Kt := by
  unfold Φ₀ start G' mine
  rw [scopedRest0_eq, my_chain, ck_chain, ck_chain, ck_chain]
  unfold zeros
  iintro ⟨⟨⟨⟨⟨%K, ⟨#HI, ⟨aCzs0, aCzs1, aCzs2, aCzs3, aCzs4, aCzs5, aCzs6, aCzs7, aCzr0, aCzr1, aCzr2, aCzr3, aCzr4, aCzr5, aCzr6, aCzr7, aCxs0, aCxs1, aCxr0, aCxr1, aCys0, aCys1, aCyr0, aCyr1, aCss, aCsr, aCbar⟩, ⟨⟨tCzs00, -, -⟩, ⟨tCzs10, -, -⟩, ⟨tCzs20, -, -⟩, ⟨tCzs30, -, -⟩, ⟨tCzs40, -, -⟩, ⟨tCzs50, -, -⟩, ⟨tCzs60, -, -⟩, ⟨tCzs70, -, -⟩, ⟨tCzr00, -, -⟩, ⟨tCzr10, -, -⟩, ⟨tCzr20, -, -⟩, ⟨tCzr30, -, -⟩, ⟨tCzr40, -, -⟩, ⟨tCzr50, -, -⟩, ⟨tCzr60, -, -⟩, ⟨tCzr70, -, -⟩, ⟨tCxs00, -, -⟩, ⟨tCxs10, -, -⟩, ⟨tCxr00, -, -⟩, ⟨tCxr10, -, -⟩, ⟨tCys00, -, -⟩, ⟨tCys10, -, -⟩, ⟨tCyr00, -, -⟩, ⟨tCyr10, -, -⟩, ⟨tCss0, -, -⟩, ⟨tCsr0, -, -⟩, ⟨tCbar0, tCbar1, tCbar2⟩⟩, Q1, Q2, Q3, Q4, Q5, Q6⟩⟩, ⟨rCzs0, rCzs1, rCzs2, rCzs3, rCzs4, rCzs5, rCzs6, rCzs7, rCzr0, rCzr1, rCzr2, rCzr3, rCzr4, rCzr5, rCzr6, rCzr7, rCxs0, rCxs1, rCxr0, rCxr1, rCys0, rCys1, rCyr0, rCyr1, rCss, rCsr, rCbar⟩, #HL, HW, HV⟩, s0, s1, s2, sb, si, s5, s6⟩, HO, HX⟩, Hk⟩
  ihave #HC := (show iprop(records m ρ K ∗ levAts L lv) ⊢ Ctx m ρ K from by
    unfold records Ctx
    iintro ⟨⟨H1, H2⟩, H3⟩
    isplitl [H1]; · iexact H1
    isplitl [H2]; · iexact H2
    iexact H3) $$ []
  · isplitr
    · iexact HI
    · iexact HL
  ihave s0 := (w_cut (F := F) c) $$ s0; icases s0 with ⟨w0, w1⟩
  ihave s5 := (r_cut (F := F) c) $$ s5; icases s5 with ⟨r0, r1⟩
  ihave s6 := (b_cut (F := F) c) $$ s6; icases s6 with ⟨b0, b1⟩
  ihave s1 := (e_in (F := F) c) $$ s1; icases s1 with ⟨e0, e1, e2, e3, e4, e5, e6, e7, e8, e9, e10, e11, e12, e13, e14, e15⟩
  ihave s2 := (i_in (F := F) c) $$ s2 si; icases s2 with ⟨GZ, GX, GY⟩
  ihave HV := (o_in (F := F) c _) $$ HV; icases HV with ⟨⟨ob0, ob1, ob2, ob3, ob4, ob5, ob6, ob7⟩, ⟨oo0, oo1, oo2, oo3, oo4, oo5, oo6, oo7, oo8, oo9⟩⟩
  ihave I0 := (mk_tok (F := F) .bar 0 (show payer (.bar, 0) c = zn c from rfl)) $$ tCbar0
  ihave I1 := (mk_tok (F := F) .bar 1 (show payer (.bar, 1) c = xn c from rfl)) $$ tCbar1
  ihave I2 := (mk_tok (F := F) .bar 2 (show payer (.bar, 2) c = yn c from rfl)) $$ tCbar2
  ihave I6 := (mk_wt (F := F) c .bar rfl) $$ aCbar rCbar
  ihave I9 := (mk_w (F := F) c 0 1 rfl) $$ w0 Q1
  ihave I10 := (mk_w (F := F) c 1 2 rfl) $$ w1 Q2
  ihave I14 := (mk_sd (F := F) c (zn c) (payer (.zs 0, 0) c) (payer (.zr 0, 0) c) (.zs 0) (.zr 0) rfl rfl) $$ tCzs00 tCzr00 aCzs0
  ihave I16 := (mk_sd (F := F) c (zn c) (payer (.zs 1, 0) c) (payer (.zr 1, 0) c) (.zs 1) (.zr 1) rfl rfl) $$ tCzs10 tCzr10 aCzs1
  ihave I17 := (mk_sd (F := F) c (zn c) (payer (.zs 2, 0) c) (payer (.zr 2, 0) c) (.zs 2) (.zr 2) rfl rfl) $$ tCzs20 tCzr20 aCzs2
  ihave I19 := (mk_sd (F := F) c (zn c) (payer (.zs 3, 0) c) (payer (.zr 3, 0) c) (.zs 3) (.zr 3) rfl rfl) $$ tCzs30 tCzr30 aCzs3
  ihave I33 := (mk_sd (F := F) c (zn c) (payer (.ss, 0) c) (payer (.sr, 0) c) .ss .sr rfl rfl) $$ tCss0 tCsr0 aCss
  ihave I34 := (mk_sd (F := F) c (zn c) (payer (.zs 4, 0) c) (payer (.zr 4, 0) c) (.zs 4) (.zr 4) rfl rfl) $$ tCzs40 tCzr40 aCzs4
  ihave I35 := (mk_sd (F := F) c (zn c) (payer (.zs 5, 0) c) (payer (.zr 5, 0) c) (.zs 5) (.zr 5) rfl rfl) $$ tCzs50 tCzr50 aCzs5
  ihave I36 := (mk_sd (F := F) c (zn c) (payer (.zs 6, 0) c) (payer (.zr 6, 0) c) (.zs 6) (.zr 6) rfl rfl) $$ tCzs60 tCzr60 aCzs6
  ihave I37 := (mk_sd (F := F) c (zn c) (payer (.zs 7, 0) c) (payer (.zr 7, 0) c) (.zs 7) (.zr 7) rfl rfl) $$ tCzs70 tCzr70 aCzs7
  ihave I38 := (mk_wt (F := F) c (.zr 0) rfl) $$ aCzr0 rCzr0
  ihave I39 := (mk_wt (F := F) c (.zr 1) rfl) $$ aCzr1 rCzr1
  ihave I40 := (mk_sd (F := F) c (xn c) (payer (.xs 0, 0) c) (payer (.xr 0, 0) c) (.xs 0) (.xr 0) rfl rfl) $$ tCxs00 tCxr00 aCxs0
  ihave I41 := (mk_sd (F := F) c (yn c) (payer (.ys 0, 0) c) (payer (.yr 0, 0) c) (.ys 0) (.yr 0) rfl rfl) $$ tCys00 tCyr00 aCys0
  ihave I42 := (mk_wt (F := F) c (.zr 2) rfl) $$ aCzr2 rCzr2
  ihave I43 := (mk_wt (F := F) c (.zr 3) rfl) $$ aCzr3 rCzr3
  ihave I44 := (mk_sd (F := F) c (xn c) (payer (.xs 1, 0) c) (payer (.xr 1, 0) c) (.xs 1) (.xr 1) rfl rfl) $$ tCxs10 tCxr10 aCxs1
  ihave I45 := (mk_sd (F := F) c (yn c) (payer (.ys 1, 0) c) (payer (.yr 1, 0) c) (.ys 1) (.yr 1) rfl rfl) $$ tCys10 tCyr10 aCys1
  ihave I46 := (mk_wt (F := F) c .sr rfl) $$ aCsr rCsr
  ihave I47 := (mk_r (F := F) c 0 1024 3 rfl) $$ r0 Q3
  ihave I49 := (mk_r (F := F) c 1 1024 4 rfl) $$ r1 Q4
  ihave I51 := (mk_wt (F := F) c (.xr 0) rfl) $$ aCxr0 rCxr0
  ihave I53 := (mk_wt (F := F) c (.xr 1) rfl) $$ aCxr1 rCxr1
  ihave I55 := (mk_wt (F := F) c (.yr 0) rfl) $$ aCyr0 rCyr0
  ihave I57 := (mk_wt (F := F) c (.yr 1) rfl) $$ aCyr1 rCyr1
  ihave I59 := (mk_b (F := F) c 0 5 rfl) $$ b0 Q5
  ihave I61 := (mk_b (F := F) c 1 6 rfl) $$ b1 Q6
  ihave I69 := (mk_wt (F := F) c (.zr 4) rfl) $$ aCzr4 rCzr4
  ihave I71 := (mk_wt (F := F) c (.zr 5) rfl) $$ aCzr5 rCzr5
  ihave I73 := (mk_wt (F := F) c (.zr 6) rfl) $$ aCzr6 rCzr6
  ihave I75 := (mk_wt (F := F) c (.zr 7) rfl) $$ aCzr7 rCzr7
  iapply (body_run m ρ K c) $$ HC I0 I1 I2 GZ GX GY I6 HO HW I9 I10 HX e0 e1 I14 e2 I16 I17 e3 I19 e4 e5 e6 e7 e8 e9 e10 e11 e12 e13 e14 e15 sb I33 I34 I35 I36 I37 I38 I39 I40 I41 I42 I43 I44 I45 I46 I47 oo0 I49 oo1 I51 oo2 I53 oo3 I55 oo4 I57 oo5 I59 ob0 I61 ob1 ob2 ob3 ob4 ob5 ob6 ob7 I69 oo6 I71 oo7 I73 oo8 I75 oo9
  iintro J0 J1 J2 J3 J4 J5 J6 J7 J8 J9 J10 J11 J12 J13 J14 J15 J16 J17 J18 J19 J20 J21 J22 J23 J24 J25 J26 J27 J28 J29 J30 J31 J32 J33 J34 J35 J36 J37 J38 J39 J40 J41 J42 J43 J44 J45 J46 J47 J48 J49 J50 J51 J52 J53 J54 J55 J56 J57 J58 J59 J60 J61 J62 J63 J64 J65 J66 J67 J68 J69 J70 J71 J72 J73 J74 J75 J76 J77 J78 J79 J80 J81 J82 J83 J84 J85 J86 J87 J88
  ihave n1 := (e_out m ρ c) $$ J39 J63 J65 J67 J69 J71 J73 J75 J77 J23 J24 J25 J26 J27 J28 J29 J30
  ihave n2 := (i_out m ρ c) $$ [J79 J83 J11] [J81 J85 J12] J43 J47 J50 J53 J15 J18 J21 J32
  · isplitl [J79]; · iexact J79
    isplitl [J83]; · iexact J83
    iexact J11
  · isplitl [J81]; · iexact J81
    isplitl [J85]; · iexact J85
    iexact J12
  ihave nv := (o_out m ρ c) $$ [J33 J34 J35 J36 J37 J38 J54 J56 J14 J17 J20 J31 J41 J45 J49 J52 J58 J60]
  · isplitl [J33 J34 J35 J36 J37 J38 J54 J56]
    · isplitl [J33]; · iexact J33
      isplitl [J34]; · iexact J34
      isplitl [J35]; · iexact J35
      isplitl [J36]; · iexact J36
      isplitl [J37]; · iexact J37
      isplitl [J38]; · iexact J38
      isplitl [J54]; · iexact J54
      iexact J56
    · isplitl [J14]; · iexact J14
      isplitl [J17]; · iexact J17
      isplitl [J20]; · iexact J20
      isplitl [J31]; · iexact J31
      isplitl [J41]; · iexact J41
      isplitl [J45]; · iexact J45
      isplitl [J49]; · iexact J49
      isplitl [J52]; · iexact J52
      isplitl [J58]; · iexact J58
      iexact J60
  unfold Wfree Rw Bw
  icases J3 with ⟨w0, q1⟩
  icases J4 with ⟨w1, q2⟩
  icases J59 with ⟨r0, q3⟩
  icases J61 with ⟨r1, q4⟩
  icases J55 with ⟨b0, q5⟩
  icases J57 with ⟨b1, q6⟩
  ihave n0 := (w_glue (F := F) c) $$ [w0 w1]
  · isplitl [w0]; · iexact w0
    iexact w1
  ihave r0 := (h_glue (F := F) c 0) $$ [r0 J42]
  · isplitl [r0]; · iexact r0
    iexact J42
  ihave r1 := (h_glue (F := F) c 1) $$ [r1 J46]
  · isplitl [r1]; · iexact r1
    iexact J46
  ihave n5 := (r_glue (F := F) c) $$ [r0 r1]
  · isplitl [r0]; · iexact r0
    iexact r1
  ihave n6 := (b_glue (F := F) c) $$ [b0 b1]
  · isplitl [b0]; · iexact b0
    iexact b1
  iapply Hk
  unfold Φ₁ outs
  rw [scopedRest0_eq, own_chain, bar_chain]
  isplitr [J1 J86]
  · isplitl [J0 J2 nv]
    · isplitl [J0]; · iexact J0
      isplitl [J2]; · iexact J2
      iexact nv
    isplitl [q1 q2 q3 q4 q5 q6 J62 J64 J66 J68 J70 J72 J74 J76 J5 J6 J7 J8 J40 J44 J48 J51 J78 J80 J13 J16 J82 J84 J19 J22 J87 J9]
    · isplitl [q1]; · iexact q1
      isplitl [q2]; · iexact q2
      isplitl [q3]; · iexact q3
      isplitl [q4]; · iexact q4
      isplitl [q5]; · iexact q5
      isplitl [q6]; · iexact q6
      isplitl [J62]; · iexact J62
      isplitl [J64]; · iexact J64
      isplitl [J66]; · iexact J66
      isplitl [J68]; · iexact J68
      isplitl [J70]; · iexact J70
      isplitl [J72]; · iexact J72
      isplitl [J74]; · iexact J74
      isplitl [J76]; · iexact J76
      isplitl [J5]; · iexact J5
      isplitl [J6]; · iexact J6
      isplitl [J7]; · iexact J7
      isplitl [J8]; · iexact J8
      isplitl [J40]; · iexact J40
      isplitl [J44]; · iexact J44
      isplitl [J48]; · iexact J48
      isplitl [J51]; · iexact J51
      isplitl [J78]; · iexact J78
      isplitl [J80]; · iexact J80
      isplitl [J13]; · iexact J13
      isplitl [J16]; · iexact J16
      isplitl [J82]; · iexact J82
      isplitl [J84]; · iexact J84
      isplitl [J19]; · iexact J19
      isplitl [J22]; · iexact J22
      isplitl [J87]; · iexact J87
      iexact J9
    isplitl [n0]; · iexact n0
    isplitl [n1]; · iexact n1
    isplitl [n2]; · iexact n2
    isplitl [J88]; · iexists (Sv m ρ c); unfold SB; iexact J88
    isplitl [J10]; · iexists (Sv m ρ (zn c)); unfold SI; iexact J10
    isplitl [n5]; · iexact n5
    iexact n6
  · isplitl [J86]; · iexact J86
    iexact J1

theorem before_x (c : Dev nD) (d) : (dats m ρ 0 c).before (0 : Fin 1) t0_0 d = xv m ρ c := by
  unfold Dat.before; rw [if_pos (fetch_x t0_0)]; rfl

set_option maxRecDepth 8000 in
theorem body_obligation (c : Dev nD) : BodyObligation (dats (F := F) m ρ 0 c) (defs₀ (F := F)) 𝒱₀ () Set.univ := fun t => by
  rw [fin_N0 t, bigSep_W0, bigSep_W0]
  simp only [owns_eq]
  have h1 : (dats m ρ 0 c).Φ t0_0.castSucc = Φ₀ m ρ c := rfl
  have h2 : (dats m ρ 0 c).Φ t0_0.succ = Φ₁ m ρ c := rfl
  have h3 : (dats m ρ 0 c).after 0 t0_0 = xv m ρ c := rfl
  have h4 : defs₀ (F := F) Proc.tc 0 (t0_0, cfg0.slots t0_0) = bodyAt0 t0_0 := rfl
  have h5 : bodyAt0 (F := F) t0_0 = cc0_body xM (Memref.isWhole_whole _) WM (Memref.isWhole_whole _) outM (Memref.isWhole_whole _) wbM (Memref.isWhole_whole _) eM (Memref.isWhole_whole _) inM (Memref.isWhole_whole _) sbM (Memref.isWhole_whole _) siM (Memref.isWhole_whole _) rpM (Memref.isWhole_whole _) rbM (Memref.isWhole_whole _) cc0_scratch7 cc0_scratch8 cc0_scratch9 cc0_scratch10 cc0_scratch11 cc0_scratch12 cc0_scratch13 cc0_scratch14 cc0_scratch15 cc0_scratch16 cc0_scratch17 := rfl
  rw [h1, h2, h3, h4, h5]
  rw [cc0_body_eq_skeleton]
  unfold Dat.owesAt Pipeline.owesWithin
  iintro ⟨HΦ, ⟨%W, %hW, HO⟩, ⟨%d, %f, %hf, Hx⟩⟩
  rw [before_x] at hf; subst hf
  iapply (body_sound m ρ c _)
  isplitl [HΦ HO Hx]
  · isplitl [HΦ]; · iexact HΦ
    isplitl [HO]
    · unfold Ow; iexists W; iexact HO
    iexact Hx
  · unfold Ow
    iintro ⟨H1, ⟨%W', HO⟩, Hx⟩
    isplitl [H1]; · iexact H1
    isplitl [HO]
    · iexists W'
      isplitr; · ipureintro; exact fun _ _ => Or.inl trivial
      iexact HO
    iexists (xv m ρ c)
    isplitr; · ipureintro; rfl
    iexact Hx

/-! ## The run -/

theorem start_intro (c : Dev nD) :
    iprop(Pipeline.unscopedRestP Pipeline.Prefetch.none cfg0.spec c (fun b => m ((c : Thread nD τ).loc b)) ∗ levAts L lv
        ∗ Pipeline.launchCred (fun d => OR d 16) c ∗ prngReg c (ρ c) ∗ G' m ρ c)
      ⊢ |={Set.univ}=> iprop(start m ρ c ∗ emp) := by
  rw [Pipeline.unscopedRestP_none, unscopedRest0_eq]
  iintro ⟨⟨HW, HV⟩, Hlev, Hcr, -, HG⟩
  ihave Hc := (creds (F := F) c) $$ Hcr
  imodintro
  unfold start
  isplitl
  · isplitl [HG]; · iexact HG
    isplitl [Hc]; · iexact Hc
    isplitl [Hlev]; · iexact Hlev
    isplitl [HW]; · iapply (show ((((c : Thread nD τ).loc main_arg1) ↦{fullShare} m ((c : Thread nD τ).loc main_arg1)) ⊢ (wP m c : sProp 𝕄)) from BI.Entails.refl _); iexact HW
    iexact HV
  · iempintro

theorem phi_in (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl]
  unfold Φ₀
  iintro ⟨Hs, -, Hr⟩
  isplitl [Hs]; · iexact Hs
  iexact Hr

theorem lv_stage (c : Dev nD) : lv ((c : Thread nD τ), .dma (0 : Fin 33)) () = 0 := by
  have h : dk (.dma (0 : Fin 33)) = none := by
    unfold dk; exact dif_neg (by rintro ⟨k, hk⟩; revert hk; revert k; decide +kernel)
  show (match dk (.dma (0 : Fin 33)) with | some k => lvk k | none => 0) = 0
  rw [h]

set_option maxRecDepth 8000 in
theorem waits (c : Dev nD) : (levAts L lv : sProp 𝕄) ⊢ Pipeline.cellsWaits cfgs (dats m ρ) () 0 c :=
  Pipeline.cellsWaits_intro cfgs (dats m ρ) () 0 c fun w s t => by
    have h (r : ℕ) (hr : r ≤ 16) := mayWait (F := F) c (.dma (0 : Fin 33)) r (by rw [lv_stage]; exact tgt_lv c 0 r (Or.inl ⟨le_refl _, hr⟩))
    have hs : (SemLoc.dma (((cfgs 0).win w).sem s) : SemLoc sig) = .dma (0 : Fin 33) := by revert s; revert w; decide
    rw [hs]
    rcases t with ⟨_ | _, ht⟩
    · exact h 16 (le_refl _)
    · exact h 0 (by omega)

/-- The arrays after the run. -/
def done (c : Dev nD) (s : MemSt nD τ sig (Elt F)) : Prop :=
  s.mem ((c : Thread nD τ).loc main_arg1) = m ((c : Thread nD τ).loc main_arg1) ∧ s.mem ((c : Thread nD τ).loc main_v1) = OUTv m ρ c

theorem read_outs (c : Dev nD) (s' : Phys nD τ sig (Elt F)) :
    iprop(outs m ρ c ∗ Idealize.ShloMosaic.SI s') ⊢ (iprop(⌜done m ρ c s'.mem⌝ ∗ Idealize.ShloMosaic.SI s') : sProp 𝕄) := by
  unfold outs
  iintro ⟨⟨H1, H2⟩, HSI⟩
  icombine HSI H1 gives %h1
  icombine HSI H2 gives %h2
  isplitr
  · ipureintro; exact ⟨Buf.eq_of_forall_mem_univ h1, Buf.eq_of_forall_mem_univ h2⟩
  iexact HSI

theorem x_kept (c : Dev nD) : (dats m ρ 0 c).arrAt (0 : Fin 1) cfg0.N = m ((c : Thread nD τ).loc main_arg0) :=
  (dats (F := F) m ρ 0 c).arrAt_in (0 : Fin 1) rfl _

set_option maxRecDepth 200000 in
/-- From any memory with zero counters every fair execution on the eight devices ends, with the arguments as they were,
    the result array at `OUTv` on each device, and every counter back at zero. -/
theorem run_main : θ_run (defs (F := F)) (onTc (τ := τ) (main (F := F))) (s₀ m ρ)
    (fun r => (∀ c : Dev nD, (r.2.mem ((c : Thread nD τ).loc main_arg0) = m ((c : Thread nD τ).loc main_arg0)
        ∧ r.2.mem ((c : Thread nD τ).loc main_arg1) = m ((c : Thread nD τ).loc main_arg1))
        ∧ r.2.mem ((c : Thread nD τ).loc main_v1) = OUTv m ρ c) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := fun d => OR d 16) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => iprop(unscopedSems0 c ∗ outs m ρ c)) (Z := fun _ => iprop(emp))
    (hX := start_intro m ρ) (hin := phi_in m ρ) (hout := fun _ => BI.Entails.refl _)
    (QY := fun c s => done m ρ c s ∧ ∀ sm : SemLoc sig, sm.isScoped .tc = false → s.sem ((c.tc : Thread nD τ), sm) = 0)
    (hY := fun c s' => by
      iintro ⟨⟨Hu, Ho⟩, -, HSI⟩
      ihave H := (read_outs m ρ c s') $$ [Ho HSI]
      · isplitl [Ho] <;> iassumption
      icases H with ⟨%h1, HSI⟩
      imod (Pipeline.unscopedSems0_read (X := unscopedSems0 c) (c := c) fupd_intro s') $$ [Hu HSI] with ⟨%h2, HSI⟩
      · isplitl [Hu] <;> iassumption
      imodintro
      isplitr; · ipureintro; exact ⟨h1, h2⟩
      iexact HSI)
    (hQ := fun _ h hs => ⟨fun c => ⟨⟨((h c).1 (0 : Fin 1)).trans (x_kept m ρ c), (h c).2.2.1.1⟩, (h c).2.2.1.2⟩, sem_eq_zero hs fun c => (h c).2.2.2⟩)

end Cert.Gather

end
-- ==== Proof.Frames.lean ====
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Launch

/-! # The frames

Each program runs to the end from any memory, leaves its arguments as they were and every counter at zero. -/

@[expose] public section

noncomputable section

namespace Cert.Gather

open Idealize.ShloMosaic Idealize.ShloMosaic.TcCoe Idealize.SL.Sem

/-- The two printed programs have the same text, so the same body … -/
theorem bodies_eq : Cert.Kernel.defs₀ (F := Bits) = Cert.KernelIdeal.defs₀ (F := Bits) := by
  unfold Cert.Kernel.defs₀ Cert.KernelIdeal.defs₀
  refine congrArg Defs.onTc (funext fun ℓ => ?_)
  match ℓ with
  | ⟨0, _⟩ => exact funext fun ⟨t, s⟩ => rfl
/-- … and the same table of bodies. -/
theorem defs_eq : Cert.Kernel.defs (F := Bits) = Cert.KernelIdeal.defs (F := Bits) :=
  congrArg (Pipeline.defs Cert.KernelIdeal.pcfgs) bodies_eq

/-- The kernel over machine floats: the run at those, its values dropped. -/
theorem frame_kernel : Cert.quiescent_Kernel := fun m ρ _ => by
  rw [defs_eq]
  exact (θ_run Cert.KernelIdeal.defs _ _).mono (fun _ h => ⟨fun c => (h.1 c).1, h.2⟩) (run_main (F := Bits) m ρ)

/-- The kernel over the reals: the run at those, its values dropped. -/
theorem frame_ideal : Cert.quiescent_KernelIdeal := fun m ρ _ =>
  (θ_run Cert.KernelIdeal.defs _ _).mono (fun _ h => ⟨fun c => (h.1 c).1, h.2⟩) (run_main (F := Ideal) m ρ)

/-- The reference has no counter. -/
theorem frame_reference : Cert.quiescent_ReferenceIdeal := fun m ρ _ =>
  (θ_run Cert.ReferenceIdeal.defs _ _).mono
    (fun _ h => ⟨fun c => (h c).2, funext fun g => by rcases g with ⟨t, i | i⟩ <;> exact i.elim0⟩)
    (Cert.ReferenceIdeal.Value.run (F := Ideal) m ρ)

end Cert.Gather

end
-- ==== Proof.KernelValue.lean ====
module

public import proofs.«01_k».proof.Proof.Common
public import Idealize.ShloMosaic.Lib.StackMember
public import Idealize.ShloMosaic.Lib.IdealHost
public import Idealize.ShloMosaic.Lib.KernelVsHost
public import Idealize.ShloMosaic.Lib.Pointwise.Reduce
public import Idealize.ShloMosaic.Lib.Pipeline.Value

/-! # What the kernel computes, over the extended reals

The exponentials of a block, a device's row sums and the inverse sums as plain sums over the columns. -/

@[expose] public section

noncomputable section

namespace Cert.Gather

open Cert.KernelIdeal Cert.KernelIdeal.Gen
open Idealize.ShloMosaic Idealize.ShloMosaic.TcCoe

/-- A block's exponentials, entry by entry. -/
theorem pay2_apply (x : Vec Ideal S512x1024 .f32) (w : Vec Ideal S1x1024x512 .f32) (r n : Fin 512) :
    k0_pay2 (F := Ideal) x w (ix2 r n) = Ideal.exp (∑ k : Fin 1024, x (ix2 r k) * w (ix3 0 k n)) := by
  unfold k0_pay2
  show Ideal.exp (matmul (F := Ideal) dot_S512x1024_S1024x512_S512x512_1_0_0_1_n_n none _ _ _ (ix2 r n)) = _
  rw [matmul_zero_eq_dotGeneral]
  refine congrArg Ideal.exp ((StackMember.dotGeneral_plain_apply none _ _ r n).trans (Finset.sum_congr rfl fun k _ => ?_))
  congr 1
  · exact congrFun (shapeCast_self x _) _
  · exact (shapeCast_dropUnit_apply ![1024, 512] w _ (ix2 k n)).trans (congrArg w (by
      funext a; match a with | ⟨0, _⟩ => rfl | ⟨1, _⟩ => rfl | ⟨2, _⟩ => rfl))

/-- The rounding to the sent format and back is the identity here. -/
theorem pay3_apply (x : Vec Ideal S512x1024 .f32) (w : Vec Ideal S1x1024x512 .f32) (r n : Fin 512) :
    k0_pay3 (F := Ideal) x w (ix2 r n) = Ideal.exp (∑ k : Fin 1024, x (ix2 r k) * w (ix3 0 k n)) := by
  unfold k0_pay3
  exact (congrFun (shapeCast_self _ _) _).trans (pay2_apply x w r n)

/-- One block's row sums are added. -/
theorem pay4_apply (s : FVec Ideal S512x1 .f32) (x : Vec Ideal S512x1024 .f32) (w : Vec Ideal S1x1024x512 .f32) (r : Fin 512) :
    k0_pay4 (F := Ideal) s x w (ix2 r 0)
      = s (ix2 r 0) + ∑ n : Fin 512, Ideal.exp (∑ k : Fin 1024, x (ix2 r k) * w (ix3 0 k n)) := by
  unfold k0_pay4
  show s (ix2 r 0) + shapeCast S512x1 _ _ (ix2 r 0) = _
  congr 1
  refine (shapeCast_apply _ _ (ix2 r 0) (ix1 r) ?_).trans ?_
  · rw [Shape.rowMajor_val_one, Shape.rowMajor_val_two]; show r.val = r.val * 1 + 0; omega
  · refine (multiReduction_add_apply _ _ _ _ _ _).trans ((Ideal.reduceAdd_r2_a1 _ _ _).trans ?_)
    exact Finset.sum_congr rfl fun n _ => pay2_apply x w r n

/-- One over a sum. -/
theorem pay55_apply (a b : FVec Ideal S512x1 .f32) (i : S512x1.Idx) :
    k0_pay55 (F := Ideal) a b i = Ideal.div 1 (a i + b i) := by
  unfold k0_pay55
  show Ideal.div (Ideal.ofBits .f32 0x3F800000#32) (a i + b i) = _
  rw [Ideal.ofBits_one_f32]

end Cert.Gather

end
-- ==== Proof.Whole.lean ====
module

public import proofs.«01_k».proof.Proof.KernelValue

/-! # The kernel's result over the extended reals, in the whole arrays

With `A` the first argument, the same on every device, and `B` the whole second argument, of which a device holds the half
its `z` names: the result on every device is `exp (A B)` times one over its row sums. -/

@[expose] public section

noncomputable section

namespace Cert.Gather

open Cert.KernelIdeal Cert.KernelIdeal.Gen
open Idealize.ShloMosaic Idealize.ShloMosaic.TcCoe

/-- The exponential of an entry of the product of the whole arrays. -/
def LG (A : (⟨2, ![512, 1024]⟩ : Shape).Idx → EReal) (B : (⟨2, ![1024, 16384]⟩ : Shape).Idx → EReal)
    (r : Fin 512) (n : Fin 16384) : EReal :=
  Ideal.exp (∑ k : Fin 1024, A (ix2 r k) * B (ix2 k n))

/-- A sum over `a * b` positions, by blocks of `b`. -/
theorem sum_blocks {a b : ℕ} (f : Fin (a * b) → EReal) (g : Fin a → Fin b → EReal)
    (h : ∀ x y (hlt : b * x.val + y.val < a * b), f ⟨b * x.val + y.val, hlt⟩ = g x y) :
    ∑ j, f j = ∑ x : Fin a, ∑ y : Fin b, g x y := by
  rw [← Equiv.sum_comp finProdFinEquiv, Fintype.sum_prod_type]
  refine Finset.sum_congr rfl fun x _ => Finset.sum_congr rfl fun y _ => ?_
  have e : (finProdFinEquiv (x, y)).val = b * x.val + y.val := by
    rw [finProdFinEquiv_apply_val]; exact Nat.add_comm _ _
  have hlt : b * x.val + y.val < a * b := e ▸ (finProdFinEquiv (x, y)).isLt
  rw [← h x y hlt]; exact congrArg f (Fin.ext e)

/-- The sixteen blocks a device computes are all sixteen. -/
theorem cblk_bij (c : Dev nD) : Function.Bijective (cblk c) := by
  refine Finite.injective_iff_bijective.mp fun i j h => ?_
  have hv : ccol c i / 512 = ccol c j / 512 := congrArg Fin.val h
  have h1 := ccol_dvd c i; have h2 := ccol_dvd c j
  have hc : ccol c i = ccol c j := by omega
  have := lt8 c; have := i.isLt; have := j.isLt
  unfold ccol cM cD cX cY at hc
  apply Fin.ext
  split_ifs at hc <;> omega

theorem lt_half {z n : ℕ} (h : n < 8192) : 8192 * (z % 2) + n < 16384 := by omega

variable (m : (ℓ : Loc nD τ sig) → Buf (Elt Ideal) ℓ) (ρ : Dev nD → PrngReg)

theorem xv_eq (c : Dev nD) : xv m ρ c = m ((c : Thread nD τ).loc main_arg0) := by
  funext i
  unfold xv
  show m ((c : Thread nD τ).loc main_arg0) ((win0_0.blk (0 : Fin 1)).view.emb i) = m ((c : Thread nD τ).loc main_arg0) i
  refine congrArg _ (funext fun a => Fin.ext ?_)
  match a with
  | ⟨0, _⟩ => exact Pipeline.Window.rect_emb_val_of_index_zero win0_0 (0 : Fin 1) 0 rfl i
  | ⟨1, _⟩ => exact Pipeline.Window.rect_emb_val_of_index_zero win0_0 (0 : Fin 1) 1 rfl i

section Whole

variable {m ρ}
variable {A : (⟨2, ![512, 1024]⟩ : Shape).Idx → EReal} {B : (⟨2, ![1024, 16384]⟩ : Shape).Idx → EReal}
  (hA : ∀ c : Dev nD, m ((c : Thread nD τ).loc main_arg0) = A)
  (hB : ∀ (c : Dev nD) (k : Fin 1024) (n : Fin 8192), Wv m c (ix2 k n) = B (ix2 k ⟨8192 * (c.val % 2) + n.val, lt_half n.isLt⟩))

include hA hB

/-- An entry of a block's exponentials. -/
theorem blk_apply (c : Dev nD) (b : Fin 16) (r n : Fin 512) (j : Fin 16384) (hj : j.val = 8192 * (c.val % 2) + (512 * b.val + n.val)) :
    Ideal.exp (∑ k : Fin 1024, xv m ρ c (ix2 r k) * Wch m c b (ix3 0 k n)) = LG A B r j := by
  unfold LG
  refine congrArg Ideal.exp (Finset.sum_congr rfl fun k _ => ?_)
  rw [xv_eq, hA]
  congr 1
  refine (hB c k ⟨512 * b.val + n.val, by have := b.isLt; have := n.isLt; omega⟩).trans (congrArg (fun j => B (ix2 k j)) (Fin.ext hj.symm))

theorem Ev_apply (c : Dev nD) (r : Fin 512) (n : Fin 8192) (j : Fin 16384) (hj : j.val = 8192 * (c.val % 2) + n.val) :
    Ev m ρ c (ix2 r n) = LG A B r j := by
  refine (pay3_apply _ _ r ⟨n.val % 512, Nat.mod_lt _ (by decide)⟩).trans (blk_apply hA hB c _ r _ j ?_)
  rw [hj]; show _ = 8192 * (c.val % 2) + (512 * (n.val / 512) + n.val % 512); omega

/-- A device's row sums. -/
theorem Sv_apply (c : Dev nD) (r : Fin 512) (z : Fin 2) (hz : c.val % 2 = z.val) :
    Sv m ρ c (ix2 r 0) = ∑ b : Fin 16, ∑ n : Fin 512,
      LG A B r ⟨8192 * z.val + (512 * b.val + n.val), by have := b.isLt; have := n.isLt; have := z.isLt; omega⟩ := by
  have run : ∀ n, srun m ρ c n (ix2 r 0) = ∑ i ∈ Finset.range n, ∑ k : Fin 512,
      LG A B r ⟨8192 * z.val + (512 * (cblk c (Fin.ofNat 16 i)).val + k.val), by
        have := (cblk c (Fin.ofNat 16 i)).isLt; have := k.isLt; have := z.isLt; omega⟩ := fun n => by
    induction n with
    | zero =>
      rw [Finset.range_zero, Finset.sum_empty]
      show Ideal.ofBits .f32 0x00000000#32 = 0
      exact Ideal.ofBits_zero_f32
    | succ n ih =>
      rw [Finset.sum_range_succ, ← ih]
      refine (pay4_apply _ _ _ r).trans (congrArg (srun m ρ c n (ix2 r 0) + ·) (Finset.sum_congr rfl fun k _ => ?_))
      exact blk_apply hA hB c _ r k _ (by rw [hz])
  unfold Sv
  rw [run, Finset.sum_range]
  refine (Finset.sum_congr rfl fun i _ => ?_).trans (Function.Bijective.sum_comp (cblk_bij c) fun b => ∑ n : Fin 512,
      LG A B r ⟨8192 * z.val + (512 * b.val + n.val), by have := b.isLt; have := n.isLt; have := z.isLt; omega⟩)
  refine Finset.sum_congr rfl fun k _ => congrArg (LG A B r) (Fin.ext ?_)
  show 8192 * z.val + (512 * (cblk c (Fin.ofNat 16 i.val)).val + k.val) = 8192 * z.val + (512 * (cblk c i).val + k.val)
  rw [Fin.ofNat_val_eq_self i]

/-- The row sums of both halves together. -/
theorem sums_apply (c : Dev nD) (r : Fin 512) :
    Sv m ρ c (ix2 r 0) + Sv m ρ (zn c) (ix2 r 0) = ∑ j, LG A B r j := by
  have key : ∑ j, LG A B r j = ∑ z : Fin 2, ∑ b : Fin 16, ∑ n : Fin 512,
      LG A B r ⟨8192 * z.val + (512 * b.val + n.val), by have := b.isLt; have := n.isLt; have := z.isLt; omega⟩ := by
    refine (sum_blocks (a := 2) (b := 8192) (LG A B r) (fun z y => LG A B r ⟨8192 * z.val + y.val, by have := y.isLt; have := z.isLt; omega⟩)
      fun x y hlt => rfl).trans (Finset.sum_congr rfl fun z _ => ?_)
    exact sum_blocks (a := 16) (b := 512) _ _ fun x y hlt => rfl
  rw [key, Fin.sum_univ_two]
  have := lt8 c
  rcases Nat.mod_two_eq_zero_or_one c.val with h | h
  · rw [Sv_apply hA hB c r 0 h, Sv_apply hA hB (zn c) r 1 (by rw [zn_val]; show _ = 1; omega)]
  · rw [Sv_apply hA hB c r 1 h, Sv_apply hA hB (zn c) r 0 (by rw [zn_val]; show _ = 0; omega), add_comm]

theorem srcOf_z (c : Dev nD) (n : ℕ) : (srcOf c n).val % 2 = 1 - c.val % 2 := by
  have := lt8 c
  unfold srcOf
  split_ifs <;> simp only [zn_val, xn_val, yn_val] <;> omega

/-- Every entry of the result. -/
theorem OUTv_apply (c : Dev nD) (r : Fin 512) (j : Fin 16384) :
    OUTv m ρ c (ix2 r j) = LG A B r j * Ideal.div 1 (∑ k, LG A B r k) := by
  have hj := j.isLt
  have hs : INVv m ρ c (ix2 r 0) = Ideal.div 1 (∑ k, LG A B r k) := by
    unfold INVv; rw [pay55_apply, sums_apply hA hB]
  unfold OUTv sc
  show (if j.val / 8192 = c.val % 2 then Ev m ρ c (ix2 r ⟨j.val % 8192, _⟩) else INv m ρ c (ix2 r ⟨j.val % 8192, _⟩))
    * INVv m ρ c (ix2 r 0) = _
  rw [hs]
  congr 1
  split_ifs with h
  · exact Ev_apply hA hB c r _ j (by show _ = 8192 * (c.val % 2) + j.val % 8192; omega)
  · refine Ev_apply hA hB (srcOf c (j.val % 8192)) r _ j ?_
    rw [srcOf_z hA hB]; show _ = _ + j.val % 8192; omega

end Whole

end Cert.Gather

end
-- ==== Proof.Softmax.lean ====
module

public import Idealize.ShloMosaic.PureOps.Ideal.Laws
public import Mathlib.Tactic.FieldSimp
public import Mathlib.Data.Finset.Fold
public import Mathlib.Algebra.Order.BigOperators.Group.Finset

/-! # A row of a softmax over the extended reals

Over real numbers the quotient `exp (l - M) / ∑ exp (l - M)` does not depend on `M`. -/

@[expose] public section

noncomputable section

namespace Cert.Gather

open Idealize.ShloMosaic

/-- A sum of real numbers, taken among the extended reals, is the real sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The maximum of a row of real numbers, started from the bottom element, is a real number. -/
theorem fold_max_real {n : ℕ} (hn : 0 < n) (l : Fin n → ℝ) :
    ∃ M : ℝ, (Finset.univ : Finset (Fin n)).fold max (⊥ : EReal) (fun k => (l k : EReal)) = (M : EReal) := by
  have h1 : (Finset.univ : Finset (Fin n)).fold max (⊥ : EReal) (fun k => (l k : EReal)) ≠ ⊤ :=
    ne_of_lt (Finset.fold_max_lt _ |>.mpr ⟨bot_lt_top, fun x _ => EReal.coe_lt_top _⟩)
  have h2 : (Finset.univ : Finset (Fin n)).fold max (⊥ : EReal) (fun k => (l k : EReal)) ≠ ⊥ :=
    ne_of_gt (Finset.lt_fold_max _ |>.mpr (Or.inr ⟨⟨0, hn⟩, Finset.mem_univ _, EReal.bot_lt_coe _⟩))
  exact ⟨_, (EReal.coe_toReal h1 h2).symm⟩

/-- The shifted quotient of a row is the entry's exponential times one over the row's sum. -/
theorem softmax_row {n : ℕ} (hn : 0 < n) (l : Fin n → ℝ) (M : ℝ) (j : Fin n) :
    Ideal.div (Ideal.exp ((l j : EReal) - (M : EReal))) (0 + ∑ k, Ideal.exp ((l k : EReal) - (M : EReal)))
      = Ideal.exp (l j : EReal) * Ideal.div 1 (∑ k, Ideal.exp (l k : EReal)) := by
  have hpos : ∀ f : Fin n → ℝ, 0 < ∑ k, Real.exp (f k) := fun f =>
    Finset.sum_pos (fun k _ => Real.exp_pos _) ⟨⟨0, hn⟩, Finset.mem_univ _⟩
  have e1 : ∀ k, Ideal.exp ((l k : EReal) - (M : EReal)) = ((Real.exp (l k - M) : ℝ) : EReal) := fun k => by
    rw [← EReal.coe_sub, Ideal.exp_coe]
  simp only [e1, Ideal.exp_coe, coe_sum, zero_add]
  rw [Ideal.div_coe (hpos _).ne', Ideal.div_coe (hpos _).ne', one_mul, ← EReal.coe_mul, ← EReal.coe_mul]
  congr 1
  have hs : ∑ k, Real.exp (l k - M) = (∑ k, Real.exp (l k)) * Real.exp (-M) := by
    rw [Finset.sum_mul]; exact Finset.sum_congr rfl fun k _ => by rw [← Real.exp_add, sub_eq_add_neg]
  rw [hs, sub_eq_add_neg, Real.exp_add]
  have := (hpos l).ne'; have := (Real.exp_pos (-M)).ne'
  field_simp

end Cert.Gather

end
-- ==== Proof.RefValue.lean ====
module

public import proofs.«01_k».proof.Proof.Gen.ReferenceIdeal
public import proofs.«01_k».proof.Proof.Softmax
public import Idealize.ShloMosaic.Lib.StackMember
public import Idealize.ShloMosaic.Lib.IdealHost
public import Idealize.ShloMosaic.Lib.Pointwise.Reduce
public import Idealize.ShloMosaic.Lib.Pipeline.Value

/-! # What the reference computes, over real numbers

The product of two finite matrices is finite, and the reference's softmax of a finite row is the exponential of the entry
times one over the sum of the row's exponentials. -/

@[expose] public section

noncomputable section

namespace Cert.Gather

open Cert.ReferenceIdeal Cert.ReferenceIdeal.Gen
open Idealize.ShloMosaic

/-- A number for every row, laid along the row. -/
theorem along_row {α : Type} (v : S512.Idx → α) (r : Fin 512) (j : Fin 16384) :
    broadcastInDim S512x16384 ![0, 1] bcast_S512x1_S512x16384_0_1 (broadcastInDim S512x1 ![0] bcast_S512_S512x1_0 v) (ix2 r j)
      = v (ix1 r) := by
  refine (broadcastInDim_apply _ _ _ (ix2 r j) (ix2 r (0 : Fin 1)) fun a => ?_).trans
    (broadcastInDim_apply _ _ _ (ix2 r (0 : Fin 1)) (ix1 r) fun a => ?_)
  · match a with
    | ⟨0, _⟩ => rfl
    | ⟨1, _⟩ => rfl
  · match a with
    | ⟨0, _⟩ => rfl

/-- The entries less their row's maximum, under the exponential. -/
def shifted (D : FVec Ideal S512x16384 .f32) : FVec Ideal S512x16384 .f32 :=
  Host.exp (subf D (broadcastInDim S512x16384 ![0, 1] bcast_S512x1_S512x16384_0_1 (broadcastInDim S512x1 ![0] bcast_S512_S512x1_0
    (Host.reduce FloatOps.maximumf D (constant S_ .f32 0xFF800000#32) reducesTo_S512x16384_S512_d1 h_S_))))

/-- The reference's softmax of a matrix. -/
def softmax (D : FVec Ideal S512x16384 .f32) : FVec Ideal S512x16384 .f32 :=
  Host.divf (shifted D) (broadcastInDim S512x16384 ![0, 1] bcast_S512x1_S512x16384_0_1 (broadcastInDim S512x1 ![0] bcast_S512_S512x1_0
    (Host.reduceAdd (shifted D) (constant S_ .f32 0x00000000#32) reducesTo_S512x16384_S512_d1 h_S_)))

theorem divf_at {s : Shape} (a b : FVec Ideal s .f32) (i : s.Idx) : Host.divf a b i = Ideal.div (a i) (b i) := rfl

theorem softmax_eq (D : FVec Ideal S512x16384 .f32) (i : S512x16384.Idx) : softmax D i = Ideal.div (shifted D i)
    (broadcastInDim S512x16384 ![0, 1] bcast_S512x1_S512x16384_0_1 (broadcastInDim S512x1 ![0] bcast_S512_S512x1_0
      (Host.reduceAdd (shifted D) (constant S_ .f32 0x00000000#32) reducesTo_S512x16384_S512_d1 h_S_)) i) := by
  unfold softmax; exact divf_at _ _ i

theorem ofBits_bot : Ideal.ofBits .f32 0xFF800000#32 = ⊥ := by simp [Ideal.ofBits, Ideal.ieee]

/-- A row's maximum. -/
theorem rowmax_apply (D : FVec Ideal S512x16384 .f32) (r : Fin 512) :
    Host.reduce FloatOps.maximumf D (constant S_ .f32 0xFF800000#32) reducesTo_S512x16384_S512_d1 h_S_ (ix1 r)
      = (Finset.univ : Finset (Fin 16384)).fold max (⊥ : EReal) (fun k => D (ix2 r k)) := by
  refine (Host.reduce_eq_fold _ _ _ _ _ _).trans ((Shape.ReducesTo.fold_fiber_r2_a1 _ _ _ _ _).trans ?_)
  rw [← ofBits_bot]; rfl

/-- The reference's softmax of a finite matrix. -/
theorem softmax_apply (D : FVec Ideal S512x16384 .f32) (l : Fin 512 → Fin 16384 → ℝ)
    (hD : ∀ r j, D (ix2 r j) = ((l r j : ℝ) : EReal)) (r : Fin 512) (j : Fin 16384) :
    softmax D (ix2 r j) = Ideal.exp (D (ix2 r j)) * Ideal.div 1 (∑ k, Ideal.exp (D (ix2 r k))) := by
  obtain ⟨M, hM⟩ := fold_max_real (Nat.succ_pos 16383) (l r)
  have hmax : Host.reduce FloatOps.maximumf D (constant S_ .f32 0xFF800000#32) reducesTo_S512x16384_S512_d1 h_S_ (ix1 r) = (M : EReal) := by
    rw [rowmax_apply, ← hM]; simp only [hD]
  have hsh : ∀ k, shifted D (ix2 r k) = Ideal.exp ((l r k : EReal) - (M : EReal)) := fun k => by
    refine congrArg Ideal.exp (congrArg₂ (· - ·) (hD r k) ((along_row _ r k).trans hmax))
  have hsum : Host.reduceAdd (shifted D) (constant S_ .f32 0x00000000#32) reducesTo_S512x16384_S512_d1 h_S_ (ix1 r)
      = 0 + ∑ k, Ideal.exp ((l r k : EReal) - (M : EReal)) := by
    refine (ValueIdx.hostReduceAdd_apply _ _ _ _ _).trans ((Ideal.hostReduceAdd_r2_a1 _ _ _ _).trans ?_)
    exact congrArg₂ (· + ·) Ideal.ofBits_zero_f32 (Finset.sum_congr rfl fun k _ => hsh k)
  have hrow := (along_row (Host.reduceAdd (shifted D) (constant S_ .f32 0x00000000#32) reducesTo_S512x16384_S512_d1 h_S_) r j).trans hsum
  have e := softmax_row (n := 16384) (Nat.succ_pos 16383) (l r) M j
  rw [← hrow, ← hsh] at e
  have e2 : ∀ k, ((l r k : ℝ) : EReal) = D (ix2 r k) := fun k => (hD r k).symm
  simp only [e2] at e
  exact (softmax_eq D _).trans e

/-- An entry of the reference's product. -/
theorem dot_apply (A : FVec Ideal S512x1024 .f32) (B : FVec Ideal S1024x16384 .f32) (r : Fin 512) (j : Fin 16384) :
    Host.dotGeneral dot_S512x1024_S1024x16384_S512x16384_1_0_0_1_n_n none A B (ix2 r j) = ∑ k : Fin 1024, A (ix2 r k) * B (ix2 k j) :=
  StackMember.dotGeneral_plain_apply none A B r j

/-- The reference's result. -/
def refResult (A : FVec Ideal S512x1024 .f32) (B : FVec Ideal S1024x16384 .f32) : FVec Ideal S512x16384 .f32 :=
  softmax (Host.dotGeneral dot_S512x1024_S1024x16384_S512x16384_1_0_0_1_n_n none A B)

/-- The product of finite matrices is finite. -/
theorem dot_real (A : FVec Ideal S512x1024 .f32) (B : FVec Ideal S1024x16384 .f32)
    (hA : ∀ i, ∃ a : ℝ, A i = (a : EReal)) (hB : ∀ i, ∃ b : ℝ, B i = (b : EReal)) :
    ∃ l : Fin 512 → Fin 16384 → ℝ, ∀ r j,
      Host.dotGeneral dot_S512x1024_S1024x16384_S512x16384_1_0_0_1_n_n none A B (ix2 r j) = ((l r j : ℝ) : EReal) := by
  choose a ha using hA
  choose b hb using hB
  refine ⟨fun r j => ∑ k : Fin 1024, a (ix2 r k) * b (ix2 k j), fun r j => ?_⟩
  rw [dot_apply, ← coe_sum]
  exact Finset.sum_congr rfl fun k _ => by rw [ha, hb, EReal.coe_mul]

/-- An entry of the reference's result, on finite arguments. -/
theorem refResult_apply (A : FVec Ideal S512x1024 .f32) (B : FVec Ideal S1024x16384 .f32)
    (hA : ∀ i, ∃ a : ℝ, A i = (a : EReal)) (hB : ∀ i, ∃ b : ℝ, B i = (b : EReal)) (r : Fin 512) (j : Fin 16384) :
    refResult A B (ix2 r j) = Ideal.exp (∑ k : Fin 1024, A (ix2 r k) * B (ix2 k j))
      * Ideal.div 1 (∑ n, Ideal.exp (∑ k : Fin 1024, A (ix2 r k) * B (ix2 k n))) := by
  obtain ⟨l, hl⟩ := dot_real A B hA hB
  have e := softmax_apply _ l hl r j
  simp only [dot_apply] at e
  exact e

end Cert.Gather

end
-- ==== Proof.Equal.lean ====
module

public import proofs.«01_k».proof.Proof.Frames
public import proofs.«01_k».proof.Proof.Whole
public import proofs.«01_k».proof.Proof.RefValue

/-! # The kernel and the reference agree

On finite arguments, laid over the devices as the sharding says, every device ends with the reference's whole result. -/

@[expose] public section

noncomputable section

namespace Cert.Gather

open Idealize.ShloMosaic Idealize.ShloMosaic.TcCoe Idealize.SL.Sem

/-! ## The precondition -/

theorem pre_kernel : Cert.Pre_finite_args_KernelIdeal.Facts := ⟨by decide, by decide⟩
theorem pre_reference : Cert.Pre_finite_args_ReferenceIdeal.Facts := ⟨by decide, by decide⟩

/-- An extended real whose absolute value is below the top one is a real number. -/
theorem real_of_abs_lt (x : EReal) (h : Ideal.cmp .olt (max x (-x)) (Ideal.ofBits .f32 0x7F800000#32) = 1#1) : ∃ a : ℝ, x = (a : EReal) := by
  have htop : Ideal.ofBits .f32 0x7F800000#32 = ⊤ := by simp [Ideal.ofBits, Ideal.ieee]
  have hlt : max x (-x) < ⊤ := by
    rw [htop] at h; by_contra hn; unfold Ideal.cmp at h; simp [hn] at h
  have h1 : x ≠ ⊤ := ne_of_lt (lt_of_le_of_lt (le_max_left _ _) hlt)
  have h2 : x ≠ ⊥ := fun e => by subst e; simp at hlt
  exact ⟨x.toReal, (EReal.coe_toReal h1 h2).symm⟩

attribute [local instance] pre_kernel

theorem finite_args (m : (ℓ : Loc Cert.KernelIdeal.nD Cert.KernelIdeal.τ Cert.KernelIdeal.sig) → Buf (Elt Ideal) ℓ)
    (h : Cert.Pre_KernelIdeal_finite_args_KernelIdeal m) (c : Dev Cert.KernelIdeal.nD) :
    (∀ i : (⟨2, ![512, 1024]⟩ : Shape).Idx, ∃ a : ℝ, m ((c : Thread Cert.KernelIdeal.nD Cert.KernelIdeal.τ).loc Cert.KernelIdeal.main_arg0) i = (a : EReal))
    ∧ (∀ i : (⟨2, ![1024, 8192]⟩ : Shape).Idx, ∃ b : ℝ, m ((c : Thread Cert.KernelIdeal.nD Cert.KernelIdeal.τ).loc Cert.KernelIdeal.main_arg1) i = (b : EReal)) :=
  ⟨fun i => real_of_abs_lt _ (congrFun (h c).1 i), fun i => real_of_abs_lt _ (congrFun (h c).2 i)⟩

/-! ## The layout -/

/-- Where an entry of a device's half of `W` sits in the whole. -/
theorem half_apply (B : (⟨2, ![1024, 16384]⟩ : Shape).Idx → EReal) (c : Dev Cert.KernelIdeal.nD) (k : Fin 1024) (n : Fin 8192) :
    Layout.blockN ⟨2, ![1024, 8192]⟩ ⟨2, ![1024, 16384]⟩ (Layout.meshBlock [2, 2, 2] ![[], [2]] c) B (by decide) (ix2 k n)
      = B (ix2 k ⟨8192 * (c.val % 2) + n.val, lt_half n.isLt⟩) := by
  rw [Layout.blockN_apply]
  refine congrArg B (funext fun a => Fin.ext ?_)
  rw [Layout.TilesN.idx_val]
  match a with
  | ⟨0, _⟩ => show 0 * 1024 + k.val = k.val; omega
  | ⟨1, _⟩ => show (c.val / 1 % 2 * 1 + 0) * 8192 + n.val = 8192 * (c.val % 2) + n.val; omega

/-- If every device's half is finite, so is the whole. -/
theorem whole_real (B : (⟨2, ![1024, 16384]⟩ : Shape).Idx → EReal)
    (m : (ℓ : Loc Cert.KernelIdeal.nD Cert.KernelIdeal.τ Cert.KernelIdeal.sig) → Buf (Elt Ideal) ℓ)
    (hf : ∀ (c : Dev Cert.KernelIdeal.nD) (i : (⟨2, ![1024, 8192]⟩ : Shape).Idx), ∃ b : ℝ, Wv m c i = (b : EReal))
    (hB : ∀ (c : Dev Cert.KernelIdeal.nD) (k : Fin 1024) (n : Fin 8192), Wv m c (ix2 k n) = B (ix2 k ⟨8192 * (c.val % 2) + n.val, lt_half n.isLt⟩))
    (i : (⟨2, ![1024, 16384]⟩ : Shape).Idx) : ∃ b : ℝ, B i = (b : EReal) := by
  have hi : (i 1).val < 16384 := (i 1).isLt
  obtain ⟨b, hb⟩ := hf ⟨(i 1).val / 8192, by show _ < 8; omega⟩ (ix2 (i 0) ⟨(i 1).val % 8192, Nat.mod_lt _ (by decide)⟩)
  refine ⟨b, Eq.trans ?_ ((hB _ _ _).symm.trans hb)⟩
  refine congrArg B ((eq_ix2 i).trans (congrArg (ix2 (i 0)) (Fin.ext ?_)))
  show (i 1).val = 8192 * ((i 1).val / 8192 % 2) + (i 1).val % 8192
  omega

/-- The frames under the precondition say less than those without it. -/
theorem frame_ideal_pre : Cert.quiescent_KernelIdeal_pre_finite_args_KernelIdeal := fun m g _ => frame_ideal m g trivial

theorem frame_reference_pre [Cert.Pre_finite_args_ReferenceIdeal.Facts] : Cert.quiescent_ReferenceIdeal_pre_finite_args_ReferenceIdeal :=
  fun m g _ => frame_reference m g trivial

/-! ## The claim -/

theorem algebraic : Cert.algebraic_KernelIdeal_ReferenceIdeal_pre_finite_args_KernelIdeal := fun m g m' g' hpre hlay => by
  have hA : ∀ c : Dev Cert.KernelIdeal.nD, _ := fun c => (hlay c).1
  have hB : ∀ (c : Dev Cert.KernelIdeal.nD) (k : Fin 1024) (n : Fin 8192), Wv m c (ix2 k n) = _ := fun c k n =>
    (congrFun (hlay c).2 (ix2 k n)).trans (half_apply _ c k n)
  have fA : ∀ i, ∃ a : ℝ, (m' (((0 : Dev Cert.ReferenceIdeal.nD) : Thread Cert.ReferenceIdeal.nD Cert.ReferenceIdeal.τ).loc Cert.ReferenceIdeal.main_arg0)) i = (a : EReal) := fun i => by
    rw [← hA 0]; exact (finite_args m hpre 0).1 i
  have fB : ∀ i, ∃ b : ℝ, (m' (((0 : Dev Cert.ReferenceIdeal.nD) : Thread Cert.ReferenceIdeal.nD Cert.ReferenceIdeal.τ).loc Cert.ReferenceIdeal.main_arg1)) i = (b : EReal) :=
    whole_real _ m (fun c => (finite_args m hpre c).2) hB
  refine ⟨refResult (m' (((0 : Dev Cert.ReferenceIdeal.nD) : Thread Cert.ReferenceIdeal.nD Cert.ReferenceIdeal.τ).loc Cert.ReferenceIdeal.main_arg0)) (m' (((0 : Dev Cert.ReferenceIdeal.nD) : Thread Cert.ReferenceIdeal.nD Cert.ReferenceIdeal.τ).loc Cert.ReferenceIdeal.main_arg1)), ?_, ?_⟩
  · refine (θ_run Cert.KernelIdeal.defs _ _).mono (fun r h c => ⟨(h.1 c).2.trans ?_, (h.1 c).1⟩) (run_main (F := Ideal) m g)
    funext i
    obtain ⟨r, j, rfl⟩ : ∃ (r : Fin 512) (j : Fin 16384), i = ix2 r j := ⟨i 0, i 1, eq_ix2 i⟩
    exact (OUTv_apply hA hB c r j).trans (refResult_apply _ _ fA fB r j).symm
  · exact (θ_run Cert.ReferenceIdeal.defs _ _).mono (fun r h => h 0) (Cert.ReferenceIdeal.Value.run (F := Ideal) m' g')

end Cert.Gather

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Gather.pre_kernel, Cert.Gather.pre_reference,
    Cert.Gather.frame_kernel, Cert.Gather.frame_ideal, Cert.Gather.frame_ideal_pre, Cert.Gather.frame_reference,
    @Cert.Gather.frame_reference_pre Cert.Gather.pre_reference, trivial, Cert.Gather.algebraic⟩

end Cert.Proof

end
